-- ==== Defs.lean ====
def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Network (m : (ℓ : Loc Cert.Network.nD Cert.Network.τ Cert.Network.sig) → Buf (Elt Bits) ℓ) : Prop :=
  True

def Pre_NetworkIdeal (m : (ℓ : Loc Cert.NetworkIdeal.nD Cert.NetworkIdeal.τ Cert.NetworkIdeal.sig) → Buf (Elt Ideal) ℓ) : Prop :=
  True

def Pre_Gather [hPre_in_range : Cert.Pre_in_range.Facts] (m : (ℓ : Loc Cert.Gather.nD Cert.Gather.τ Cert.Gather.sig) → Buf (Elt Bits) ℓ) : Prop :=
  ∀ c : Dev Cert.Gather.nD,
    (Cert.Pre_in_range.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_in_range : Cert.Pre_in_range.Facts] (m : (ℓ : Loc Cert.GatherIdeal.nD Cert.GatherIdeal.τ Cert.GatherIdeal.sig) → Buf (Elt Ideal) ℓ) : Prop :=
  ∀ c : Dev Cert.GatherIdeal.nD,
    (Cert.Pre_in_range.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherReference (m : (ℓ : Loc Cert.GatherReference.nD Cert.GatherReference.τ Cert.GatherReference.sig) → Buf (Elt Bits) ℓ) : Prop :=
  True

def Pre_GatherReference_in_range [hPre_in_range : Cert.Pre_in_range.Facts] (m : (ℓ : Loc Cert.GatherReference.nD Cert.GatherReference.τ Cert.GatherReference.sig) → Buf (Elt Bits) ℓ) : Prop :=
  ∀ c : Dev Cert.GatherReference.nD,
    (Cert.Pre_in_range.fn (F := Bits) (m ((c.tc : Thread Cert.GatherReference.nD Cert.GatherReference.τ).loc Cert.GatherReference.main_arg0)) (m ((c.tc : Thread Cert.GatherReference.nD Cert.GatherReference.τ).loc Cert.GatherReference.main_arg1))) = (fun _ => 1#1)

def Pre_GatherReferenceIdeal (m : (ℓ : Loc Cert.GatherReferenceIdeal.nD Cert.GatherReferenceIdeal.τ Cert.GatherReferenceIdeal.sig) → Buf (Elt Ideal) ℓ) : Prop :=
  True

def Pre_GatherReferenceIdeal_in_range [hPre_in_range : Cert.Pre_in_range.Facts] (m : (ℓ : Loc Cert.GatherReferenceIdeal.nD Cert.GatherReferenceIdeal.τ Cert.GatherReferenceIdeal.sig) → Buf (Elt Ideal) ℓ) : Prop :=
  ∀ c : Dev Cert.GatherReferenceIdeal.nD,
    (Cert.Pre_in_range.fn (F := Ideal) (m ((c.tc : Thread Cert.GatherReferenceIdeal.nD Cert.GatherReferenceIdeal.τ).loc Cert.GatherReferenceIdeal.main_arg0)) (m ((c.tc : Thread Cert.GatherReferenceIdeal.nD Cert.GatherReferenceIdeal.τ).loc Cert.GatherReferenceIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Network [hNetwork : Cert.Network.Facts] : Prop :=
  ∀ (m : (ℓ : Loc Cert.Network.nD Cert.Network.τ Cert.Network.sig) → Buf (Elt Bits) ℓ) (g : Dev Cert.Network.nD → PrngReg), Pre_Network m →
    θ_run (Cert.Network.defs (F := Bits)) (onTc (τ := Cert.Network.τ) (Cert.Network.main (F := Bits))) ⟨m, fun _ => 0, g⟩ (fun r => (∀ c : Dev Cert.Network.nD,
      r.2.mem ((c.tc : Thread Cert.Network.nD Cert.Network.τ).loc Cert.Network.main_arg0) = m ((c.tc : Thread Cert.Network.nD Cert.Network.τ).loc Cert.Network.main_arg0)
      ∧ r.2.mem ((c.tc : Thread Cert.Network.nD Cert.Network.τ).loc Cert.Network.main_arg1) = m ((c.tc : Thread Cert.Network.nD Cert.Network.τ).loc Cert.Network.main_arg1)
      ∧ r.2.mem ((c.tc : Thread Cert.Network.nD Cert.Network.τ).loc Cert.Network.main_arg2) = m ((c.tc : Thread Cert.Network.nD Cert.Network.τ).loc Cert.Network.main_arg2)
      ∧ r.2.mem ((c.tc : Thread Cert.Network.nD Cert.Network.τ).loc Cert.Network.main_arg3) = m ((c.tc : Thread Cert.Network.nD Cert.Network.τ).loc Cert.Network.main_arg3)
      ∧ r.2.mem ((c.tc : Thread Cert.Network.nD Cert.Network.τ).loc Cert.Network.main_arg4) = m ((c.tc : Thread Cert.Network.nD Cert.Network.τ).loc Cert.Network.main_arg4)
      ∧ r.2.mem ((c.tc : Thread Cert.Network.nD Cert.Network.τ).loc Cert.Network.main_arg5) = m ((c.tc : Thread Cert.Network.nD Cert.Network.τ).loc Cert.Network.main_arg5)
      ∧ r.2.mem ((c.tc : Thread Cert.Network.nD Cert.Network.τ).loc Cert.Network.main_arg6) = m ((c.tc : Thread Cert.Network.nD Cert.Network.τ).loc Cert.Network.main_arg6)
      ∧ r.2.mem ((c.tc : Thread Cert.Network.nD Cert.Network.τ).loc Cert.Network.main_arg7) = m ((c.tc : Thread Cert.Network.nD Cert.Network.τ).loc Cert.Network.main_arg7))
      ∧ r.2.sem = fun _ => 0)

def quiescent_NetworkIdeal [hNetworkIdeal : Cert.NetworkIdeal.Facts] : Prop :=
  ∀ (m : (ℓ : Loc Cert.NetworkIdeal.nD Cert.NetworkIdeal.τ Cert.NetworkIdeal.sig) → Buf (Elt Ideal) ℓ) (g : Dev Cert.NetworkIdeal.nD → PrngReg), Pre_NetworkIdeal m →
    θ_run (Cert.NetworkIdeal.defs (F := Ideal)) (onTc (τ := Cert.NetworkIdeal.τ) (Cert.NetworkIdeal.main (F := Ideal))) ⟨m, fun _ => 0, g⟩ (fun r => (∀ c : Dev Cert.NetworkIdeal.nD,
      r.2.mem ((c.tc : Thread Cert.NetworkIdeal.nD Cert.NetworkIdeal.τ).loc Cert.NetworkIdeal.main_arg0) = m ((c.tc : Thread Cert.NetworkIdeal.nD Cert.NetworkIdeal.τ).loc Cert.NetworkIdeal.main_arg0)
      ∧ r.2.mem ((c.tc : Thread Cert.NetworkIdeal.nD Cert.NetworkIdeal.τ).loc Cert.NetworkIdeal.main_arg1) = m ((c.tc : Thread Cert.NetworkIdeal.nD Cert.NetworkIdeal.τ).loc Cert.NetworkIdeal.main_arg1)
      ∧ r.2.mem ((c.tc : Thread Cert.NetworkIdeal.nD Cert.NetworkIdeal.τ).loc Cert.NetworkIdeal.main_arg2) = m ((c.tc : Thread Cert.NetworkIdeal.nD Cert.NetworkIdeal.τ).loc Cert.NetworkIdeal.main_arg2)
      ∧ r.2.mem ((c.tc : Thread Cert.NetworkIdeal.nD Cert.NetworkIdeal.τ).loc Cert.NetworkIdeal.main_arg3) = m ((c.tc : Thread Cert.NetworkIdeal.nD Cert.NetworkIdeal.τ).loc Cert.NetworkIdeal.main_arg3)
      ∧ r.2.mem ((c.tc : Thread Cert.NetworkIdeal.nD Cert.NetworkIdeal.τ).loc Cert.NetworkIdeal.main_arg4) = m ((c.tc : Thread Cert.NetworkIdeal.nD Cert.NetworkIdeal.τ).loc Cert.NetworkIdeal.main_arg4)
      ∧ r.2.mem ((c.tc : Thread Cert.NetworkIdeal.nD Cert.NetworkIdeal.τ).loc Cert.NetworkIdeal.main_arg5) = m ((c.tc : Thread Cert.NetworkIdeal.nD Cert.NetworkIdeal.τ).loc Cert.NetworkIdeal.main_arg5)
      ∧ r.2.mem ((c.tc : Thread Cert.NetworkIdeal.nD Cert.NetworkIdeal.τ).loc Cert.NetworkIdeal.main_arg6) = m ((c.tc : Thread Cert.NetworkIdeal.nD Cert.NetworkIdeal.τ).loc Cert.NetworkIdeal.main_arg6)
      ∧ r.2.mem ((c.tc : Thread Cert.NetworkIdeal.nD Cert.NetworkIdeal.τ).loc Cert.NetworkIdeal.main_arg7) = m ((c.tc : Thread Cert.NetworkIdeal.nD Cert.NetworkIdeal.τ).loc Cert.NetworkIdeal.main_arg7))
      ∧ r.2.sem = fun _ => 0)

def quiescent_Gather [hGather : Cert.Gather.Facts] [hPre_in_range : Cert.Pre_in_range.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_in_range : Cert.Pre_in_range.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherReference [hGatherReference : Cert.GatherReference.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1))
      ∧ r.2.sem = fun _ => 0)

def quiescent_GatherReference_pre_in_range [hGatherReference : Cert.GatherReference.Facts] [hPre_in_range : Cert.Pre_in_range.Facts] : Prop :=
  ∀ (m : (ℓ : Loc Cert.GatherReference.nD Cert.GatherReference.τ Cert.GatherReference.sig) → Buf (Elt Bits) ℓ) (g : Dev Cert.GatherReference.nD → PrngReg), Pre_GatherReference_in_range m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_GatherReferenceIdeal_pre_in_range [hGatherReferenceIdeal : Cert.GatherReferenceIdeal.Facts] [hPre_in_range : Cert.Pre_in_range.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal_in_range m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def preserves_Reference_ReferenceIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v5_1)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v33) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Network_NetworkIdeal : Prop :=
  True

def preserves_Gather_GatherIdeal : Prop :=
  True

def bitexact_Gather_GatherReference [hGather : Cert.Gather.Facts] [hGatherReference : Cert.GatherReference.Facts] [hPre_in_range : Cert.Pre_in_range.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m' ((c.tc : Thread Cert.GatherReference.nD Cert.GatherReference.τ).loc Cert.GatherReference.main_arg0) = m ((c.tc : Thread Cert.Gather.nD Cert.Gather.τ).loc Cert.Gather.main_arg0)
      ∧ m' ((c.tc : Thread Cert.GatherReference.nD Cert.GatherReference.τ).loc Cert.GatherReference.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v0)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v0) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.GatherReference.defs (F := Bits)) (onTc (τ := Cert.GatherReference.τ) (Cert.GatherReference.main (F := Bits))) ⟨m', fun _ => 0, g'⟩ (fun r => ∀ c : Dev Cert.GatherReference.nD,
          r.2.mem ((c.tc : Thread Cert.GatherReference.nD Cert.GatherReference.τ).loc Cert.GatherReference.main_v1) = v0 c
          ∧ r.2.mem ((c.tc : Thread Cert.GatherReference.nD Cert.GatherReference.τ).loc Cert.GatherReference.main_arg0) = m' ((c.tc : Thread Cert.GatherReference.nD Cert.GatherReference.τ).loc Cert.GatherReference.main_arg0)
          ∧ r.2.mem ((c.tc : Thread Cert.GatherReference.nD Cert.GatherReference.τ).loc Cert.GatherReference.main_arg1) = m' ((c.tc : Thread Cert.GatherReference.nD Cert.GatherReference.τ).loc Cert.GatherReference.main_arg1))

def algebraic_GatherIdeal_GatherReferenceIdeal [hGatherIdeal : Cert.GatherIdeal.Facts] [hGatherReferenceIdeal : Cert.GatherReferenceIdeal.Facts] [hPre_in_range : Cert.Pre_in_range.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m' ((c.tc : Thread Cert.GatherReferenceIdeal.nD Cert.GatherReferenceIdeal.τ).loc Cert.GatherReferenceIdeal.main_arg0) = m ((c.tc : Thread Cert.GatherIdeal.nD Cert.GatherIdeal.τ).loc Cert.GatherIdeal.main_arg0)
      ∧ m' ((c.tc : Thread Cert.GatherReferenceIdeal.nD Cert.GatherReferenceIdeal.τ).loc Cert.GatherReferenceIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v0)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v0) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v1) = v0 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1))

def Claim : Prop :=
  ∃ (hKernelIdeal : Cert.KernelIdeal.Facts) (hReference : Cert.Reference.Facts) (hReferenceIdeal : Cert.ReferenceIdeal.Facts) (hNetwork : Cert.Network.Facts) (hNetworkIdeal : Cert.NetworkIdeal.Facts) (hGather : Cert.Gather.Facts) (hGatherIdeal : Cert.GatherIdeal.Facts) (hGatherReference : Cert.GatherReference.Facts) (hGatherReferenceIdeal : Cert.GatherReferenceIdeal.Facts) (hPre_finite : Cert.Pre_finite.Facts) (hPre_in_range : Cert.Pre_in_range.Facts),
    quiescent_KernelIdeal (hKernelIdeal := hKernelIdeal)
    ∧ quiescent_KernelIdeal_pre_finite (hKernelIdeal := hKernelIdeal) (hPre_finite := hPre_finite)
    ∧ quiescent_Reference (hReference := hReference)
    ∧ quiescent_ReferenceIdeal (hReferenceIdeal := hReferenceIdeal)
    ∧ quiescent_ReferenceIdeal_pre_finite (hReferenceIdeal := hReferenceIdeal) (hPre_finite := hPre_finite)
    ∧ quiescent_Network (hNetwork := hNetwork)
    ∧ quiescent_NetworkIdeal (hNetworkIdeal := hNetworkIdeal)
    ∧ quiescent_Gather (hGather := hGather) (hPre_in_range := hPre_in_range)
    ∧ quiescent_GatherIdeal (hGatherIdeal := hGatherIdeal) (hPre_in_range := hPre_in_range)
    ∧ quiescent_GatherReference (hGatherReference := hGatherReference)
    ∧ quiescent_GatherReference_pre_in_range (hGatherReference := hGatherReference) (hPre_in_range := hPre_in_range)
    ∧ quiescent_GatherReferenceIdeal (hGatherReferenceIdeal := hGatherReferenceIdeal)
    ∧ quiescent_GatherReferenceIdeal_pre_in_range (hGatherReferenceIdeal := hGatherReferenceIdeal) (hPre_in_range := hPre_in_range)
    ∧ preserves_Reference_ReferenceIdeal
    ∧ algebraic_KernelIdeal_ReferenceIdeal_pre_finite (hKernelIdeal := hKernelIdeal) (hReferenceIdeal := hReferenceIdeal) (hPre_finite := hPre_finite)
    ∧ preserves_Network_NetworkIdeal
    ∧ preserves_Gather_GatherIdeal
    ∧ bitexact_Gather_GatherReference (hGather := hGather) (hGatherReference := hGatherReference) (hPre_in_range := hPre_in_range)
    ∧ algebraic_GatherIdeal_GatherReferenceIdeal (hGatherIdeal := hGatherIdeal) (hGatherReferenceIdeal := hGatherReferenceIdeal) (hPre_in_range := hPre_in_range)
-- ==== Pre_finite.lean ====
abbrev S16384x128 : Shape := ⟨2, ![16384, 128]⟩
abbrev S128x256 : Shape := ⟨2, ![128, 256]⟩
abbrev S256 : Shape := ⟨1, ![256]⟩
abbrev S256x256 : Shape := ⟨2, ![256, 256]⟩
abbrev S256x129 : Shape := ⟨2, ![256, 129]⟩
abbrev S129 : Shape := ⟨1, ![129]⟩
abbrev S1024x129 : Shape := ⟨2, ![1024, 129]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x129 : S_.BroadcastsInDim S256x129 (![] : Fin 0 → Fin S256x129.rank)
  reducesTo_S256x129_S_d0_1 : S256x129.ReducesTo [0, 1] S_
  bcast_S_S129 : S_.BroadcastsInDim S129 (![] : Fin 0 → Fin S129.rank)
  reducesTo_S129_S_d0 : S129.ReducesTo [0] S_

variable [Facts]

def fn_part1 {F : FTy → Type} [FloatOps F] (main_arg4 : FVec F S256 .f32) (main_arg5 : FVec F S256x129 .f32) (main_arg6 : FVec F S129 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x129 .f32 := Host.absf main_arg5
  let main_cst_8 : FVec F S_ .f32 := constant S_ .f32 0x7F800000#32
  let main_v25 : FVec F S256x129 .f32 := broadcastInDim S256x129 ![] bcast_S_S256x129 main_cst_8
  let main_v26 : IVec S256x129 1 := cmpf .olt main_v24 main_v25
  let main_c_9 : IVec S_ 1 := constantI S_ 1 1#1
  let main_v27 : IVec S_ 1 := (fun x v => Host.reduce IntOp.andi x v reducesTo_S256x129_S_d0_1 h_S_) main_v26 main_c_9
  let main_v28 : IVec S_ 1 := andi main_v23 main_v27
  let main_v29 : FVec F S129 .f32 := Host.absf main_arg6
  let main_cst_10 : FVec F S_ .f32 := constant S_ .f32 0x7F800000#32
  let main_v30 : FVec F S129 .f32 := broadcastInDim S129 ![] bcast_S_S129 main_cst_10
  let main_v31 : IVec S129 1 := cmpf .olt main_v29 main_v30
  let main_c_11 : IVec S_ 1 := constantI S_ 1 1#1
  let main_v32 : IVec S_ 1 := (fun x v => Host.reduce IntOp.andi x v reducesTo_S129_S_d0 h_S_) main_v31 main_c_11
  let main_v33 : IVec S_ 1 := andi main_v28 main_v32
  main_v33

def fn {F : FTy → Type} [FloatOps F] (main_arg0 : FVec F S16384x128 .f32) (main_arg1 : FVec F S128x256 .f32) (main_arg2 : FVec F S256 .f32) (main_arg3 : FVec F S256x256 .f32) (main_arg4 : FVec F S256 .f32) (main_arg5 : FVec F S256x129 .f32) (main_arg6 : FVec F S129 .f32) (main_arg7 : FVec F S1024x129 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Pre_in_range.lean ====
abbrev S1024x128 : Shape := ⟨2, ![1024, 128]⟩
abbrev S32x4x128 : Shape := ⟨3, ![32, 4, 128]⟩
abbrev S_ : Shape := ⟨0, ![]⟩

class Facts : Prop where
  bcast_S_S32x4x128 : S_.BroadcastsInDim S32x4x128 (![] : Fin 0 → Fin S32x4x128.rank)
  reducesTo_S32x4x128_S_d0_1_2 : S32x4x128.ReducesTo [0, 1, 2] S_
  h_S_ : 0 < S_.numel

variable [Facts]

def fn {F : FTy → Type} [FloatOps F] (main_arg0 : FVec F S1024x128 .f32) (main_arg1 : IVec S32x4x128 32) : IVec S_ 1 :=
  let main_c : IVec S_ 32 := constantI S_ 32 0#32
  let main_v0 : IVec S32x4x128 32 := broadcastInDim S32x4x128 ![] bcast_S_S32x4x128 main_c
  let main_v1 : IVec S32x4x128 1 := cmpi .sge main_arg1 main_v0
  let main_c_0 : IVec S_ 32 := constantI S_ 32 1024#32
  let main_v2 : IVec S32x4x128 32 := broadcastInDim S32x4x128 ![] bcast_S_S32x4x128 main_c_0
  let main_v3 : IVec S32x4x128 1 := cmpi .slt main_arg1 main_v2
  let main_v4 : IVec S32x4x128 1 := andi main_v1 main_v3
  let main_c_1 : IVec S_ 1 := constantI S_ 1 1#1
  let main_v5 : IVec S_ 1 := (fun x v => Host.reduce IntOp.andi x v reducesTo_S32x4x128_S_d0_1_2 h_S_) main_v4 main_c_1
  main_v5
-- ==== KernelIdeal.lean ====
abbrev S16384x128 : Shape := ⟨2, ![16384, 128]⟩
abbrev S128x256 : Shape := ⟨2, ![128, 256]⟩
abbrev S256 : Shape := ⟨1, ![256]⟩
abbrev S256x256 : Shape := ⟨2, ![256, 256]⟩
abbrev S256x129 : Shape := ⟨2, ![256, 129]⟩
abbrev S129 : Shape := ⟨1, ![129]⟩
abbrev S1024x129 : Shape := ⟨2, ![1024, 129]⟩
abbrev S129x1024 : Shape := ⟨2, ![129, 1024]⟩
abbrev S1024x128 : Shape := ⟨2, ![1024, 128]⟩
abbrev S1x256 : Shape := ⟨2, ![1, 256]⟩
abbrev S1x129 : Shape := ⟨2, ![1, 129]⟩
abbrev S16384x129 : Shape := ⟨2, ![16384, 129]⟩
abbrev S16384x1 : Shape := ⟨2, ![16384, 1]⟩
abbrev S32x4x128 : Shape := ⟨3, ![32, 4, 128]⟩
abbrev S512x128 : Shape := ⟨2, ![512, 128]⟩
abbrev S512x129 : Shape := ⟨2, ![512, 129]⟩
abbrev S512x1 : Shape := ⟨2, ![512, 1]⟩
abbrev S1x4x128 : Shape := ⟨3, ![1, 4, 128]⟩
abbrev S512x256 : Shape := ⟨2, ![512, 256]⟩
abbrev S512x1024 : Shape := ⟨2, ![512, 1024]⟩
abbrev S512x7 : Shape := ⟨2, ![512, 7]⟩
abbrev S512x136 : Shape := ⟨2, ![512, 136]⟩
abbrev S136x512 : Shape := ⟨2, ![136, 512]⟩
abbrev S8x512 : Shape := ⟨2, ![8, 512]⟩
abbrev S4x512 : Shape := ⟨2, ![4, 512]⟩
abbrev S2x512 : Shape := ⟨2, ![2, 512]⟩
abbrev S1x512 : Shape := ⟨2, ![1, 512]⟩
abbrev S512 : Shape := ⟨1, ![512]⟩
abbrev S1x1024 : Shape := ⟨2, ![1, 1024]⟩
abbrev S4x128 : Shape := ⟨2, ![4, 128]⟩
abbrev S_ : Shape := ⟨0, ![]⟩
abbrev S128x128 : Shape := ⟨2, ![128, 128]⟩
abbrev S1x128 : Shape := ⟨2, ![1, 128]⟩
abbrev S128 : Shape := ⟨1, ![128]⟩

abbrev nBuf : Table → Nat
  | .hbm => 20
  | .local .tc .vmem => 19
  | .local .scVector .vmem => 2
  | _ => 0

abbrev bufTy : (tb : Table) → Fin (nBuf tb) → BufTy
  | .hbm, ⟨0, _⟩ => ⟨S16384x128, .f32⟩
  | .hbm, ⟨1, _⟩ => ⟨S128x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x129, .f32⟩
  | .hbm, ⟨6, _⟩ => ⟨S129, .f32⟩
  | .hbm, ⟨7, _⟩ => ⟨S1024x129, .f32⟩
  | .hbm, ⟨8, _⟩ => ⟨S129x1024, .f32⟩
  | .hbm, ⟨9, _⟩ => ⟨S1024x128, .f32⟩
  | .hbm, ⟨10, _⟩ => ⟨S1x256, .f32⟩
  | .hbm, ⟨11, _⟩ => ⟨S1x256, .f32⟩
  | .hbm, ⟨12, _⟩ => ⟨S1x129, .f32⟩
  | .hbm, ⟨13, _⟩ => ⟨S16384x129, .f32⟩
  | .hbm, ⟨14, _⟩ => ⟨S16384x1, .i32⟩
  | .hbm, ⟨15, _⟩ => ⟨S32x4x128, .i32⟩
  | .hbm, ⟨16, _⟩ => ⟨S16384x1, .f32⟩
  | .hbm, ⟨17, _⟩ => ⟨S16384x1, .f32⟩
  | .hbm, ⟨18, _⟩ => ⟨S16384x128, .f32⟩
  | .hbm, ⟨19, _⟩ => ⟨S16384x129, .f32⟩
  | .local .tc .vmem, ⟨0, _⟩ => ⟨S512x128, .f32⟩
  | .local .tc .vmem, ⟨1, _⟩ => ⟨S512x128, .f32⟩
  | .local .tc .vmem, ⟨2, _⟩ => ⟨S128x256, .f32⟩
  | .local .tc .vmem, ⟨3, _⟩ => ⟨S1x256, .f32⟩
  | .local .tc .vmem, ⟨4, _⟩ => ⟨S256x256, .f32⟩
  | .local .tc .vmem, ⟨5, _⟩ => ⟨S1x256, .f32⟩
  | .local .tc .vmem, ⟨6, _⟩ => ⟨S256x129, .f32⟩
  | .local .tc .vmem, ⟨7, _⟩ => ⟨S1x129, .f32⟩
  | .local .tc .vmem, ⟨8, _⟩ => ⟨S129x1024, .f32⟩
  | .local .tc .vmem, ⟨9, _⟩ => ⟨S512x129, .f32⟩
  | .local .tc .vmem, ⟨10, _⟩ => ⟨S512x129, .f32⟩
  | .local .tc .vmem, ⟨11, _⟩ => ⟨S512x1, .i32⟩
  | .local .tc .vmem, ⟨12, _⟩ => ⟨S512x1, .i32⟩
  | .local .tc .vmem, ⟨13, _⟩ => ⟨S1x4x128, .i32⟩
  | .local .tc .vmem, ⟨14, _⟩ => ⟨S1x4x128, .i32⟩
  | .local .tc .vmem, ⟨15, _⟩ => ⟨S512x1, .f32⟩
  | .local .tc .vmem, ⟨16, _⟩ => ⟨S512x1, .f32⟩
  | .local .tc .vmem, ⟨17, _⟩ => ⟨S512x1, .f32⟩
  | .local .tc .vmem, ⟨18, _⟩ => ⟨S512x1, .f32⟩
  | .local .scVector .vmem, ⟨0, _⟩ => ⟨S4x128, .i32⟩
  | .local .scVector .vmem, ⟨1, _⟩ => ⟨S512x128, .f32⟩
  | _, _ => ⟨S16384x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => false
  | ⟨20, _⟩ => false
  | ⟨21, _⟩ => false
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v6 : Ref sig .tc := ⟨.hbm, 18, rfl⟩
abbrev main_v7 : Ref sig .tc := ⟨.hbm, 19, rfl⟩
abbrev main_v1_scv : Ref sig .scVector := ⟨.hbm, 9, rfl⟩
abbrev main_v5_2_scv : Ref sig .scVector := ⟨.hbm, 15, rfl⟩
abbrev main_v6_scv : Ref sig .scVector := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x129 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x129 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S129x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x129 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42_r0 : BitVec 32 := 0#32
  let c0_i32_43_r0 : BitVec 32 := 0#32
  ![v1.toNat, 0, 0]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v34 : BitVec 32 := Scalar.muli v1 c512_i32
  let c0_i32_42_r1 : BitVec 32 := 0#32
  ![v34.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S16384x128 : Shape := ⟨2, ![16384, 128]⟩
abbrev S128x256 : Shape := ⟨2, ![128, 256]⟩
abbrev S256 : Shape := ⟨1, ![256]⟩
abbrev S256x256 : Shape := ⟨2, ![256, 256]⟩
abbrev S256x129 : Shape := ⟨2, ![256, 129]⟩
abbrev S129 : Shape := ⟨1, ![129]⟩
abbrev S1024x129 : Shape := ⟨2, ![1024, 129]⟩
abbrev S_ : Shape := ⟨0, ![]⟩
abbrev S16384x1 : Shape := ⟨2, ![16384, 1]⟩
abbrev S16384x129 : Shape := ⟨2, ![16384, 129]⟩
abbrev S16384x256 : Shape := ⟨2, ![16384, 256]⟩
abbrev S1x256 : Shape := ⟨2, ![1, 256]⟩
abbrev S1x129 : Shape := ⟨2, ![1, 129]⟩
abbrev S16384 : Shape := ⟨1, ![16384]⟩
abbrev S129x1024 : Shape := ⟨2, ![129, 1024]⟩
abbrev S16384x1024 : Shape := ⟨2, ![16384, 1024]⟩
abbrev S1 : Shape := ⟨1, ![1]⟩
abbrev S1x1 : Shape := ⟨2, ![1, 1]⟩

abbrev nBuf : Space → Nat
  | .hbm => 75
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S128x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x129, .f32⟩
  | .hbm, ⟨6, _⟩ => ⟨S129, .f32⟩
  | .hbm, ⟨7, _⟩ => ⟨S1024x129, .f32⟩
  | .hbm, ⟨8, _⟩ => ⟨S_, .f32⟩
  | .hbm, ⟨9, _⟩ => ⟨S16384x1, .f32⟩
  | .hbm, ⟨10, _⟩ => ⟨S16384x129, .f32⟩
  | .hbm, ⟨11, _⟩ => ⟨S16384x256, .f32⟩
  | .hbm, ⟨12, _⟩ => ⟨S1x256, .f32⟩
  | .hbm, ⟨13, _⟩ => ⟨S16384x256, .f32⟩
  | .hbm, ⟨14, _⟩ => ⟨S16384x256, .f32⟩
  | .hbm, ⟨15, _⟩ => ⟨S_, .f32⟩
  | .hbm, ⟨16, _⟩ => ⟨S16384x256, .f32⟩
  | .hbm, ⟨17, _⟩ => ⟨S16384x256, .f32⟩
  | .hbm, ⟨18, _⟩ => ⟨S16384x256, .f32⟩
  | .hbm, ⟨19, _⟩ => ⟨S1x256, .f32⟩
  | .hbm, ⟨20, _⟩ => ⟨S16384x256, .f32⟩
  | .hbm, ⟨21, _⟩ => ⟨S16384x256, .f32⟩
  | .hbm, ⟨22, _⟩ => ⟨S_, .f32⟩
  | .hbm, ⟨23, _⟩ => ⟨S16384x256, .f32⟩
  | .hbm, ⟨24, _⟩ => ⟨S16384x256, .f32⟩
  | .hbm, ⟨25, _⟩ => ⟨S16384x129, .f32⟩
  | .hbm, ⟨26, _⟩ => ⟨S1x129, .f32⟩
  | .hbm, ⟨27, _⟩ => ⟨S16384x129, .f32⟩
  | .hbm, ⟨28, _⟩ => ⟨S16384x129, .f32⟩
  | .hbm, ⟨29, _⟩ => ⟨S16384x129, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S129x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .i32⟩
  | .hbm, ⟨39, _⟩ => ⟨S_, .f32⟩
  | .hbm, ⟨40, _⟩ => ⟨S_, .i32⟩
  | .hbm, ⟨41, _⟩ => ⟨S16384, .f32⟩
  | .hbm, ⟨42, _⟩ => ⟨S16384, .i32⟩
  | .hbm, ⟨43, _⟩ => ⟨S16384x1, .i32⟩
  | .hbm, ⟨44, _⟩ => ⟨S16384, .i32⟩
  | .hbm, ⟨45, _⟩ => ⟨S_, .i32⟩
  | .hbm, ⟨46, _⟩ => ⟨S16384, .i32⟩
  | .hbm, ⟨47, _⟩ => ⟨S16384, .i1⟩
  | .hbm, ⟨48, _⟩ => ⟨S_, .i32⟩
  | .hbm, ⟨49, _⟩ => ⟨S16384, .i32⟩
  | .hbm, ⟨50, _⟩ => ⟨S16384, .i32⟩
  | .hbm, ⟨51, _⟩ => ⟨S16384, .i32⟩
  | .hbm, ⟨52, _⟩ => ⟨S16384x1, .i32⟩
  | .hbm, ⟨53, _⟩ => ⟨S1, .i32⟩
  | .hbm, ⟨54, _⟩ => ⟨S_, .i32⟩
  | .hbm, ⟨55, _⟩ => ⟨S16384x1, .i32⟩
  | .hbm, ⟨56, _⟩ => ⟨S16384x1, .i1⟩
  | .hbm, ⟨57, _⟩ => ⟨S1x1, .i32⟩
  | .hbm, ⟨58, _⟩ => ⟨S16384x1, .i32⟩
  | .hbm, ⟨59, _⟩ => ⟨S16384x1, .i1⟩
  | .hbm, ⟨60, _⟩ => ⟨S16384x1, .i1⟩
  | .hbm, ⟨61, _⟩ => ⟨S_, .i1⟩
  | .hbm, ⟨62, _⟩ => ⟨S16384, .i1⟩
  | .hbm, ⟨63, _⟩ => ⟨S16384x129, .f32⟩
  | .hbm, ⟨64, _⟩ => ⟨S16384x129, .i1⟩
  | .hbm, ⟨65, _⟩ => ⟨S_, .f32⟩
  | .hbm, ⟨66, _⟩ => ⟨S16384x129, .f32⟩
  | .hbm, ⟨67, _⟩ => ⟨S16384x129, .f32⟩
  | .hbm, ⟨68, _⟩ => ⟨S16384x129, .f32⟩
  | .hbm, ⟨69, _⟩ => ⟨S16384x129, .f32⟩
  | .hbm, ⟨70, _⟩ => ⟨S16384x129, .f32⟩
  | .hbm, ⟨71, _⟩ => ⟨S16384x129, .f32⟩
  | .hbm, ⟨72, _⟩ => ⟨S_, .f32⟩
  | .hbm, ⟨73, _⟩ => ⟨S16384, .f32⟩
  | .hbm, ⟨74, _⟩ => ⟨S16384x1, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_cst : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call2_v0 : Ref sig .tc := ⟨.hbm, 38, rfl⟩
abbrev main_call2_cst : Ref sig .tc := ⟨.hbm, 39, rfl⟩
abbrev main_call2_c : Ref sig .tc := ⟨.hbm, 40, rfl⟩
abbrev main_call2_v1_0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call3_c : Ref sig .tc := ⟨.hbm, 45, rfl⟩
abbrev main_call3_v0 : Ref sig .tc := ⟨.hbm, 46, rfl⟩
abbrev main_call3_v1 : Ref sig .tc := ⟨.hbm, 47, rfl⟩
abbrev main_call3_c_0 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_call3_v5 : Ref sig .tc := ⟨.hbm, 52, rfl⟩
abbrev main_call3_c_1 : Ref sig .tc := ⟨.hbm, 53, rfl⟩
abbrev main_call3_c_2 : Ref sig .tc := ⟨.hbm, 54, rfl⟩
abbrev main_call3_v6 : Ref sig .tc := ⟨.hbm, 55, rfl⟩
abbrev main_call3_v7 : Ref sig .tc := ⟨.hbm, 56, rfl⟩
abbrev main_call3_v8 : Ref sig .tc := ⟨.hbm, 57, rfl⟩
abbrev main_call3_v9 : Ref sig .tc := ⟨.hbm, 58, rfl⟩
abbrev main_call3_v10 : Ref sig .tc := ⟨.hbm, 59, rfl⟩
abbrev main_call3_v11 : Ref sig .tc := ⟨.hbm, 60, rfl⟩
abbrev main_call3_c_3 : Ref sig .tc := ⟨.hbm, 61, rfl⟩
abbrev main_call3_v12 : Ref sig .tc := ⟨.hbm, 62, rfl⟩
abbrev main_call3_v13 : Ref sig .tc := ⟨.hbm, 63, rfl⟩
abbrev main_call3_v14 : Ref sig .tc := ⟨.hbm, 64, rfl⟩
abbrev main_call3_cst : Ref sig .tc := ⟨.hbm, 65, rfl⟩
abbrev main_call3_v15 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_1 : Ref sig .tc := ⟨.hbm, 72, rfl⟩
abbrev main_v32 : Ref sig .tc := ⟨.hbm, 73, rfl⟩
abbrev main_v33 : Ref sig .tc := ⟨.hbm, 74, rfl⟩

abbrev nD : Nat := 1
abbrev τ : Topo := Topo.v7x

variable {F : FTy → Type} [FloatOps F]
-- ==== Network.lean ====
abbrev S16384x128 : Shape := ⟨2, ![16384, 128]⟩
abbrev S128x256 : Shape := ⟨2, ![128, 256]⟩
abbrev S256 : Shape := ⟨1, ![256]⟩
abbrev S256x256 : Shape := ⟨2, ![256, 256]⟩
abbrev S256x129 : Shape := ⟨2, ![256, 129]⟩
abbrev S129 : Shape := ⟨1, ![129]⟩
abbrev S1024x129 : Shape := ⟨2, ![1024, 129]⟩
abbrev S129x1024 : Shape := ⟨2, ![129, 1024]⟩
abbrev S1x256 : Shape := ⟨2, ![1, 256]⟩
abbrev S1x129 : Shape := ⟨2, ![1, 129]⟩
abbrev S16384x129 : Shape := ⟨2, ![16384, 129]⟩
abbrev S16384x1 : Shape := ⟨2, ![16384, 1]⟩
abbrev S32x4x128 : Shape := ⟨3, ![32, 4, 128]⟩
abbrev S512x128 : Shape := ⟨2, ![512, 128]⟩
abbrev S512x129 : Shape := ⟨2, ![512, 129]⟩
abbrev S512x1 : Shape := ⟨2, ![512, 1]⟩
abbrev S1x4x128 : Shape := ⟨3, ![1, 4, 128]⟩
abbrev S512x256 : Shape := ⟨2, ![512, 256]⟩
abbrev S512x1024 : Shape := ⟨2, ![512, 1024]⟩
abbrev S512x7 : Shape := ⟨2, ![512, 7]⟩
abbrev S512x136 : Shape := ⟨2, ![512, 136]⟩
abbrev S136x512 : Shape := ⟨2, ![136, 512]⟩
abbrev S8x512 : Shape := ⟨2, ![8, 512]⟩
abbrev S4x512 : Shape := ⟨2, ![4, 512]⟩
abbrev S2x512 : Shape := ⟨2, ![2, 512]⟩
abbrev S1x512 : Shape := ⟨2, ![1, 512]⟩
abbrev S512 : Shape := ⟨1, ![512]⟩
abbrev S1x1024 : Shape := ⟨2, ![1, 1024]⟩

abbrev nBuf : Space → Nat
  | .hbm => 17
  | .vmem => 19
  | .smem => 0
  | _ => 0

abbrev bufTy : (tb : Table) → Fin (tcTables nBuf tb) → BufTy
  | .hbm, ⟨0, _⟩ => ⟨S16384x128, .f32⟩
  | .hbm, ⟨1, _⟩ => ⟨S128x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x129, .f32⟩
  | .hbm, ⟨6, _⟩ => ⟨S129, .f32⟩
  | .hbm, ⟨7, _⟩ => ⟨S1024x129, .f32⟩
  | .hbm, ⟨8, _⟩ => ⟨S129x1024, .f32⟩
  | .hbm, ⟨9, _⟩ => ⟨S1x256, .f32⟩
  | .hbm, ⟨10, _⟩ => ⟨S1x256, .f32⟩
  | .hbm, ⟨11, _⟩ => ⟨S1x129, .f32⟩
  | .hbm, ⟨12, _⟩ => ⟨S16384x129, .f32⟩
  | .hbm, ⟨13, _⟩ => ⟨S16384x1, .i32⟩
  | .hbm, ⟨14, _⟩ => ⟨S32x4x128, .i32⟩
  | .hbm, ⟨15, _⟩ => ⟨S16384x1, .f32⟩
  | .hbm, ⟨16, _⟩ => ⟨S16384x1, .f32⟩
  | .local _ .vmem, ⟨0, _⟩ => ⟨S512x128, .f32⟩
  | .local _ .vmem, ⟨1, _⟩ => ⟨S512x128, .f32⟩
  | .local _ .vmem, ⟨2, _⟩ => ⟨S128x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x129, .f32⟩
  | .local _ .vmem, ⟨7, _⟩ => ⟨S1x129, .f32⟩
  | .local _ .vmem, ⟨8, _⟩ => ⟨S129x1024, .f32⟩
  | .local _ .vmem, ⟨9, _⟩ => ⟨S512x129, .f32⟩
  | .local _ .vmem, ⟨10, _⟩ => ⟨S512x129, .f32⟩
  | .local _ .vmem, ⟨11, _⟩ => ⟨S512x1, .i32⟩
  | .local _ .vmem, ⟨12, _⟩ => ⟨S512x1, .i32⟩
  | .local _ .vmem, ⟨13, _⟩ => ⟨S1x4x128, .i32⟩
  | .local _ .vmem, ⟨14, _⟩ => ⟨S1x4x128, .i32⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x129 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x129 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S129x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x129 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Gather.lean ====
abbrev S1024x128 : Shape := ⟨2, ![1024, 128]⟩
abbrev S32x4x128 : Shape := ⟨3, ![32, 4, 128]⟩
abbrev S16384x128 : Shape := ⟨2, ![16384, 128]⟩
abbrev S4x128 : Shape := ⟨2, ![4, 128]⟩
abbrev S512x128 : Shape := ⟨2, ![512, 128]⟩
abbrev S_ : Shape := ⟨0, ![]⟩
abbrev S1x4x128 : Shape := ⟨3, ![1, 4, 128]⟩
abbrev S128x128 : Shape := ⟨2, ![128, 128]⟩
abbrev S1x128 : Shape := ⟨2, ![1, 128]⟩
abbrev S128 : Shape := ⟨1, ![128]⟩

abbrev nBuf : Table → Nat
  | .hbm => 3
  | .local .scVector .vmem => 2
  | _ => 0

abbrev bufTy : (tb : Table) → Fin (nBuf tb) → BufTy
  | .hbm, ⟨0, _⟩ => ⟨S1024x128, .f32⟩
  | .hbm, ⟨1, _⟩ => ⟨S32x4x128, .i32⟩
  | .hbm, ⟨2, _⟩ => ⟨S16384x128, .f32⟩
  | .local .scVector .vmem, ⟨0, _⟩ => ⟨S4x128, .i32⟩
  | .local .scVector .vmem, ⟨1, _⟩ => ⟨S512x128, .f32⟩
  | _, _ => ⟨S1024x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42_r0 : BitVec 32 := 0#32
  let c0_i32_43_r0 : BitVec 32 := 0#32
  ![v1.toNat, 0, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v34 : BitVec 32 := Scalar.muli v1 c512_i32
  let c0_i32_42_r1 : BitVec 32 := 0#32
  ![v34.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherReference.lean ====
abbrev S1024x128 : Shape := ⟨2, ![1024, 128]⟩
abbrev S32x4x128 : Shape := ⟨3, ![32, 4, 128]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 26
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S32x4x128, .i32⟩
  | .hbm, ⟨2, _⟩ => ⟨S16384, .i32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S16384x128, .f32⟩
  | .hbm, ⟨22, _⟩ => ⟨S16384x128, .i1⟩
  | .hbm, ⟨23, _⟩ => ⟨S_, .f32⟩
  | .hbm, ⟨24, _⟩ => ⟨S16384x128, .f32⟩
  | .hbm, ⟨25, _⟩ => ⟨S16384x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.GatherBatch.lean ====
/-
  Several indirect gathers started on ONE semaphore before any is waited for.

  A gather of `m` rows is `m` row transfers of equal credit `N`. A sequence of gathers on one cell is therefore one
  counted batch (`Transfers.Batch`) whose members are the ROWS of all the gathers, in issue order: the gather started
  with `b` rows already issued takes the batch from `b` issued rows to `b + m`. Its waits then consume `m` rows' worth
  of units each, and the wait that reaches the total hands back every row.

  * `pending_block`: the issue rights from `b` on are the rights of the next `m` members and those from `b + m` on.
  * `rowBack`: what one row of a gather gives back once it has landed.
  * `wp_gatherInBatch`: the start of one gather as the next `m` members of the batch.
  * `rowBack_join`: all the rows of one gather together are its destination written with the gathered rows, its
    share of the table and its share of the list of row numbers.
-/
module

public import Idealize.ShloMosaic.Lib.Batch
public import Idealize.ShloMosaic.Lib.SparseCore.Stream
public import Idealize.ShloMosaic.Lib.Tactic

@[expose] public section

noncomputable section

namespace Cert.Proof

open Idealize.ShloMosaic Idealize.ShloMosaic.Transfers
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.SparseCore (rows gatherPayload)

section Pending

/-- Member `b + k` of a batch of `n`. -/
def blockMem {n b m : ℕ} (h : b + m ≤ n) (k : Fin m) : Fin n := ⟨b + k.val, by omega⟩

theorem blockMem_injective {n b m : ℕ} (h : b + m ≤ n) : Function.Injective (blockMem h) := fun x y hxy => by
  have h' : b + x.val = b + y.val := congrArg Fin.val hxy
  exact Fin.ext (by omega)

/-- The issue rights from member `b` on: those of the `m` members `b, …, b + m - 1`, and those from `b + m` on. -/
theorem pending_block {nD : Nat} {τ : Topo} {sig : RefSig} {Ix : Type} [DecidableEq Ix] {Val : EltTy → Type} {Name : Type} [DecidableEq Name]
    {U : Type} [URA U] {Lvl : Type} {n : ℕ} (Φ : Fin n → sProp (MT nD τ sig Ix Val Name U Lvl)) (b m : ℕ) (h : b + m ≤ n) :
    bigSep (pending b) Φ
      = iprop((bigSep Finset.univ fun k : Fin m => Φ (blockMem h k)) ∗ bigSep (pending (b + m)) Φ) := by
  classical
  have hd : Disjoint ((Finset.univ : Finset (Fin m)).map ⟨blockMem h, blockMem_injective h⟩) (pending (n := n) (b + m)) := by
    refine Finset.disjoint_left.mpr fun t ht ht' => ?_
    simp only [Finset.mem_map, Finset.mem_univ, _root_.true_and, Function.Embedding.coeFn_mk, pending, Finset.mem_filter] at ht ht'

    obtain ⟨k, rfl⟩ := ht
    have := k.isLt
    have ht'' : b + m ≤ b + k.val := ht'
    omega
  have hu : (pending (n := n) b) = ((Finset.univ : Finset (Fin m)).map ⟨blockMem h, blockMem_injective h⟩) ∪ pending (n := n) (b + m) := by
    ext t
    simp only [Finset.mem_union, Finset.mem_map, Finset.mem_univ, _root_.true_and, Function.Embedding.coeFn_mk, pending, Finset.mem_filter]
    constructor
    · intro ht
      by_cases h' : b + m ≤ t.val
      · exact Or.inr h'
      · exact Or.inl ⟨⟨t.val - b, by omega⟩, Fin.ext (show b + (t.val - b) = t.val by omega)⟩
    · rintro (⟨k, rfl⟩ | h')
      · exact Nat.le_add_right b k.val
      · omega
  rw [hu, BI.bigSep_union hd, BI.bigSep_map]
  rfl

end Pending

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- The list entry that names row `j`'s table row: the `j`-th word of the list in row-major order. -/
def entryIdx {o : ℕ} (hn : si.numel = o) (j : Fin o) : si.Idx := si.rowMajor.symm (j.cast hn.symm)

/-- The words of row `j`: the table row that list entry `j` names. -/
def rowPay (src : Memref sig c.2.kind sp s₀ e) (hg : s₀.Gathers a s)
    (offs : Memref sig c.2.kind .vmem si .i32) (hn : si.numel = s.size hg.axis')
    (fs : Buf (Elt F) (src.view.loc c)) (fo : Buf (Elt F) (offs.view.loc c))
    (hin : ∀ x, (offs.view.read (Elt F) fo x).toNat < s₀.size hg.axis)
    (j : Fin (s.size hg.axis')) : (s.rowShape hg.axis').Idx → Elt F e :=
  fun i => src.view.read (Elt F) fs (hg.rowIdx (rows (offs.view.read (Elt F) fo) hn hin j) i)

/-- What row `j` of a gather gives back when it has landed: row `j` of the destination written with the table row its
    list entry names, that entry's share, and the row's piece of the table's share. -/
def rowBack (src : Memref sig c.2.kind sp s₀ e) (dst : Memref sig c.2.kind .vmem s e) (hg : s₀.Gathers a s)
    (offs : Memref sig c.2.kind .vmem si .i32) (hn : si.numel = s.size hg.axis') (q : PosShare TreeShare) (qo : PosShare TreeShare)
    (fs : Buf (Elt F) (src.view.loc c)) (fd : Buf (Elt F) (dst.view.loc c)) (fo : Buf (Elt F) (offs.view.loc c))
    (hs : 0 < s.size hg.axis') (hin : ∀ x, (offs.view.read (Elt F) fo x).toNat < s₀.size hg.axis)
    (j : Fin (s.size hg.axis')) : sProp (MT nD τ sig Ix (Elt F) Name U Lvl) :=
  iprop(((dst.view.loc c ↦[(dst.view.slice (s.rowRect hg.axis' j)).set]{fullShare}
            ((dst.view.slice (s.rowRect hg.axis' j)).write (Elt F) fd
              (rowPay c src hg offs hn fs fo hin j) Finset.univ))
        ∗ (offs.view.loc c ↦[{offs.view.emb (entryIdx hn j)}]{qo} fo))
      ∗ (src.view.loc c ↦[src.view.set]{pieceOf q _ hs j} fs))

/-- All of a gather's rows: the destination written with the gathered rows, the table's share and the list's. -/
theorem rowBack_join {src : Memref sig c.2.kind sp s₀ e} {dst : Memref sig c.2.kind .vmem s e} {hg : s₀.Gathers a s}
    {offs : Memref sig c.2.kind .vmem si .i32} {hn : si.numel = s.size hg.axis'} {q qo : PosShare TreeShare}
    {fs : Buf (Elt F) (src.view.loc c)} {fd : Buf (Elt F) (dst.view.loc c)} {fo : Buf (Elt F) (offs.view.loc c)}
    {hs : 0 < s.size hg.axis'} {hin : ∀ x, (offs.view.read (Elt F) fo x).toNat < s₀.size hg.axis} :
    bigSep Finset.univ (rowBack (Ix := Ix) (Name := Name) (U := U) (Lvl := Lvl) c src dst hg offs hn q qo fs fd fo hs hin)
      ⊢ iprop((dst.view.loc c ↦[dst.view.set]{fullShare}
                (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  have hen : Function.Bijective (entryIdx (si := si) hn) := si.rowMajor.symm.bijective.comp (finCongr hn.symm).bijective
  unfold rowBack
  iintro H
  ihave H := bigSep_sep_out _ _ _ $$ H
  icases H with ⟨H, Ht⟩
  ihave H := bigSep_sep_out _ _ _ $$ H
  icases H with ⟨Hd, Ho⟩
  isplitl [Hd]
  · iapply (pointsTo_rows_write c dst.view hg.axis' fd
      (rowPay c src hg offs hn fs fo hin)
      (gatherPayload hg (src.view.read (Elt F) fs) (rows (offs.view.read (Elt F) fo) hn hin)) fun j i => by
      unfold gatherPayload rowPay; rw [Shape.Gathers.idx_rowRect_emb]) $$ Hd
  isplitl [Ht]
  · iapply (Entails.of_eq (pointsTo_piecesOf (src.view.set) fs hs q).symm) $$ Ht
  · iapply (Entails.of_eq (pointsTo_entries c offs.view (entryIdx hn) hen qo fo).symm) $$ Ho

/-- The start of a gather whose rows are the next members of a batch of rows on its semaphore. Each row's landing
    gives `rowBack`, which is the batch's delivery for that member. -/
theorem wp_gatherInBatch [Infinite Name] [EC.LandsIn (upEmb : UEmb _ (MT nD τ sig Ix (Elt F) Name U Lvl))] {n : ℕ}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N b : ℕ) {D : Fin n → sProp (MT nD τ sig Ix (Elt F) Name U Lvl)}
    (hN : ∀ j, (dst.slice (s.rowRect hg.axis' j) (s.stride_rowRect hg.axis' j)).view.dmaCredit = N)
    (hs : 0 < s.size hg.axis') (hin : ∀ x, (offs.view.read (Elt F) fo x).toNat < s₀.size hg.axis)
    (hb : b + s.size hg.axis' ≤ n)
    (hD : ∀ j : Fin (s.size hg.axis'), rowBack c src dst hg offs hn q qo fs fd fo hs hin j ⊢ D (blockMem hb j)) :
    iprop((src.view.loc c ↦[src.view.set]{q} fs) ∗ (dst.view.loc c ↦[dst.view.set]{fullShare} fd)
        ∗ (offs.view.loc c ↦[offs.view.set]{qo} fo) ∗ Batch EC c (.dma sem) ι N D b 0)
      ⊢ iprop((Batch EC c (.dma sem) ι N D (b + s.size hg.axis') 0 -∗ wp frame (wpE defs 𝒱 c bd) Set.univ (k ⟨⟩) Q)
          -∗ wp frame (wpE defs 𝒱 c bd) Set.univ (SparseCore.enqueueIndirectGather hp src dst hg offs hn sem hsrc he hsp hr >>= k) Q) := by
  rw [SparseCore.enqueueIndirectGather_bind]
  let S : Stream nD τ sig (Elt F) :=
    Stream.issued c offs.view hn sem (fun j w => (SparseCore.rowOf (s₀.size hg.axis) w).map (SparseCore.gatherRow c src dst hg sem hsrc he hsp hr j)) 0
  let rd : Fin (s.size hg.axis') → RowDma τ sig (Elt F) c.2 sem := fun j =>
    SparseCore.gatherRow c src dst hg sem hsrc he hsp hr j (rows (offs.view.read (Elt F) fo) hn hin j)
  have hagree : S.RowsAgree := by
    intro j x x' ρ ρ' h h'
    obtain ⟨_, _, rfl⟩ := Option.map_eq_some_iff.mp h
    obtain ⟨_, _, rfl⟩ := Option.map_eq_some_iff.mp h'
    rfl
  have hrow : ∀ j, S.row j (S.word fo j) = some (rd j) := fun j => by
    change (SparseCore.rowOf (s₀.size hg.axis) (offs.view.read (Elt F) fo (S.entry j))).map _ = _
    rw [SparseCore.rowOf_of_lt (hin _)]; rfl
  have hen : Function.Bijective (entryIdx (si := si) hn) := si.rowMajor.symm.bijective.comp (finCongr hn.symm).bijective
  unfold Batch
  iintro ⟨Hs, Hd, Ho, ⟨%γ, %γ₀, %κ, #Hinv, HI, H0, Hcred⟩⟩ Hk
  ihave HI := (Entails.of_eq (pending_block (fun t => count EC (γ t) 0) b (s.size hg.axis') hb)) $$ HI
  icases HI with ⟨Hnow, Hlater⟩
  ihave Hd := (Entails.of_eq (pointsTo_rows c dst.view hg.axis' fullShare fd)) $$ Hd
  ihave Ho := (Entails.of_eq (pointsTo_entries c offs.view (entryIdx hn) hen qo fo)) $$ Ho
  ihave Hs := (Entails.of_eq (pointsTo_piecesOf (src.view.set) fs hs q)) $$ Hs
  iapply (wp_enqueueIndirectDma 𝒱 c bd Set.univ (qo := qo) (fo := fo) (rd := rd) ι (s.size hg.axis' * N) hagree hrow
    (by rw [Finset.sum_congr rfl fun j _ => hN j, Finset.sum_const, Finset.card_univ, Fintype.card_fin, smul_eq_mul])) $$ [Hd Ho Hs Hnow]
  · -- one entry: its share of the list, and behind it what its row needs
    have hone : ∀ j : Fin (s.size hg.axis'), iprop(inv κ (batchBody EC (c, SemLoc.dma sem) N D γ γ₀)
          ∗ ((((dst.view.loc c ↦[(dst.view.slice (s.rowRect hg.axis' j)).set]{fullShare} fd)
                ∗ (offs.view.loc c ↦[{offs.view.emb (entryIdx hn j)}]{qo} fo))
              ∗ (src.view.loc c ↦[src.view.set]{pieceOf q _ hs j} fs)) ∗ count EC (γ (blockMem hb j)) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists pieceOf q _ hs j, fs, iprop((dst.view.loc c ↦[(dst.view.slice (s.rowRect hg.axis' j)).set]{fullShare}
            ((dst.view.slice (s.rowRect hg.axis' j)).write (Elt F) fd
              (rowPay c src hg offs hn fs fo hin j) Finset.univ))
          ∗ (offs.view.loc c ↦[{offs.view.emb (entryIdx hn j)}]{qo} fo))
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hcu := batch_creditUpdate EC (g := (c, SemLoc.dma sem)) (N := N) (D := D) (γ := γ) (γ₀ := γ₀) (ι := κ) (blockMem hb j) (hD j)
        have hNj : (rd j).dst.view.amount (.dma sem) = N := hN j
        rw [hNj]
        iapply hcu
        isplitr; · iexact Hinv
        iexact Hγj
    unfold Stream.res
    ihave H1 := bigSep_sep_in _ _ _ $$ [Hd Ho]; · isplitl [Hd] <;> iassumption
    ihave H2 := bigSep_sep_in _ _ _ $$ [H1 Hs]; · isplitl [H1] <;> iassumption
    ihave H3 := bigSep_sep_in _ _ _ $$ [H2 Hnow]; · isplitl [H2] <;> iassumption
    iapply (bigSep_mono_pers Finset.univ _ _ _ fun j _ => hone j)
    isplitr; · iexact Hinv
    iexact H3
  · iintro Hnew
    iapply Hk
    iexists γ, γ₀, κ
    isplitr; · iexact Hinv
    isplitl [Hlater]; · iexact Hlater
    isplitl [H0]; · iexact H0
    rw [Nat.sub_zero, Nat.sub_zero, Nat.add_mul, ← tallyAt_add]
    icombine Hcred Hnew as H
    iexact H

end Cert.Proof

end
-- ==== Proof.Setup.lean ====
/-
  The program as the SparseCore launch theorem sees it, and what the one SparseCore call's handshakes carry.

  The call gathers rows of a table. `tb d` is the table's contents on device `d`, `ix d` the contents of the array of
  row numbers (32 lists of 4 × 128), `g0 d` the output's contents before the call. Tile number `w = 2 s + c` (vector
  subcore `s` of SparseCore `c`) reads list `w`, a 32nd share of the table, and writes block `w` (512 rows) of the
  output. After the call the output is `gathered tb ix d`: row `r` is the table row that word `r` of the lists names.
-/
module

public import proofs.«01_k».proof.Defs
public import proofs.«01_k».proof.Proof.GatherBatch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.ValueIdx
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.ValueIdx (ix2 ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program's parts -/

abbrev ΛP [FloatOps F] : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := UR sig nD τ
abbrev UU : Type := UH × (UP × Counters)

abbrev MM (F : FTy → Type) : Type := MT nD τ sig (HIx 1) (Elt F) ℕ UU ℕ

abbrev EH : Emb UH (MM F) := embL
abbrev EP : Emb UP (MM F) := (Emb.inl : Emb UP (UP × Counters)).trans embR

instance EP_landsIn : (EP : Emb UP (MM F)).LandsIn (upEmb : UEmb _ (MM F)) := by unfold EP; infer_instance

/-! ## The buffers of the call -/

abbrev tbLoc (d : Dev nD) : Loc nD τ sig := (SparseCore.T d).loc main_v1
abbrev ixLoc (d : Dev nD) : Loc nD τ sig := (SparseCore.T d).loc main_v5_2
abbrev goLoc (d : Dev nD) : Loc nD τ sig := (SparseCore.T d).loc main_v6

abbrev tbV : Memref sig .scVector .hbm S1024x128 .f32 := Memref.whole main_v1_scv
abbrev ixV : Memref sig .scVector .hbm S32x4x128 .i32 := Memref.whole main_v5_2_scv
abbrev goV : Memref sig .scVector .hbm S16384x128 .f32 := Memref.whole main_v6_scv

theorem ixdiv : 32 ∣ S32x4x128.size 0 := ⟨1, rfl⟩
theorem godiv : 32 ∣ S16384x128.size 0 := ⟨512, rfl⟩
/-- List `w` of the row numbers, and block `w` of the output. -/
abbrev ixPart (w : Fin 32) : Rect S32x4x128 := Rect.part (s := S32x4x128) (a₀ := 0) ixdiv w
abbrev goPart (w : Fin 32) : Rect S16384x128 := Rect.part (s := S16384x128) (a₀ := 0) godiv w
abbrev ixSet (w : Fin 32) : Finset S32x4x128.Idx := (ixPart w).set
abbrev goSet (w : Fin 32) : Finset S16384x128.Idx := (goPart w).set

/-- Tile number `2 s + c`. -/
def tileNo (c : Fin 2) (s : Fin 16) : Fin 32 := ⟨2 * s.val + c.val, by omega⟩

/-- Tile `w`'s share of the table. -/
abbrev tq (w : Fin 32) : PosShare TreeShare := pieceOf fullShare 32 (by decide) w

/-! ## The gathered rows -/

variable (tb : (d : Dev nD) → Buf (Elt F) (tbLoc d)) (ix : (d : Dev nD) → Buf (Elt F) (ixLoc d)) (g0 : (d : Dev nD) → Buf (Elt F) (goLoc d))

/-- The table row that word `(a, b, e)` of the lists names. -/
def rowNo (d : Dev nD) (y : S32x4x128.Idx) : Fin 1024 := ⟨(ix d y : BitVec 32).toNat % 1024, Nat.mod_lt _ (by decide)⟩

/-- The place in the lists of the word that names output row `r`. -/
def wordOf (r : Fin 16384) : S32x4x128.Idx :=
  ix3 (n0 := 32) (n1 := 4) (n2 := 128) ⟨r.val / 512, by omega⟩ ⟨r.val % 512 / 128, by omega⟩ ⟨r.val % 128, by omega⟩

/-- The output of the call. -/
def gathered (d : Dev nD) : Buf (Elt F) (goLoc d) := fun (y : S16384x128.Idx) =>
  tb d (ix2 (n0 := 1024) (n1 := 128) (rowNo ix d (wordOf (y 0))) (y 1))

/-! ## What the handshakes carry -/

/-- What tile `w` takes: its list, its share of the table, its block of the output. -/
def goRes (d : Dev nD) (w : Fin 32) : sProp (MM F) :=
  iprop((ixLoc d ↦[ixSet w]{fullShare} ix d) ∗ (tbLoc d ↦{tq w} tb d) ∗ (goLoc d ↦[goSet w]{fullShare} g0 d))

/-- What it brings back: the same with its block gathered. -/
def tdRes (d : Dev nD) (w : Fin 32) : sProp (MM F) :=
  iprop((ixLoc d ↦[ixSet w]{fullShare} ix d) ∗ (tbLoc d ↦{tq w} tb d) ∗ (goLoc d ↦[goSet w]{fullShare} gathered tb ix d))

instance goRes_storable (d : Dev nD) (w : Fin 32) : BI.Storable (upEmb : UEmb _ (MM F)) (goRes tb ix g0 d w) := by unfold goRes; infer_instance
instance tdRes_storable (d : Dev nD) (w : Fin 32) : BI.Storable (upEmb : UEmb _ (MM F)) (tdRes tb ix d w) := by unfold tdRes; infer_instance

variable [FloatOps F]

theorem nSub_zero : (K (F := F)).nSub 0 = 16 := rfl
theorem nCore_zero : (K (F := F)).nCore 0 = 2 := rfl

/-- The tile of SparseCore `c` and subcore `i` of the call. -/
abbrev tileOf (c : Fin ((K (F := F)).nCore 0)) (i : Fin ((K (F := F)).nSub 0)) : Fin 32 := tileNo (Fin.cast nCore_zero c) (Fin.cast nSub_zero i)

/-- A SparseCore takes what its sixteen tiles take, and brings back what they bring back. -/
def P : (K (F := F)).Pay (nD := nD) (Val := Elt F) (Name := ℕ) (U := UU) where
  st := fun q d c => match q with | 0 => bigSep Finset.univ fun i => goRes tb ix g0 d (tileOf (F := F) c i)
  dn := fun q d c => match q with | 0 => bigSep Finset.univ fun i => tdRes tb ix d (tileOf (F := F) c i)
  go := fun q d c i => match q with | 0 => goRes tb ix g0 d (tileOf (F := F) c i)
  td := fun q d c i => match q with | 0 => tdRes tb ix d (tileOf (F := F) c i)
  x := fun _ _ => iprop(emp)

instance P_storable : (P (F := F) tb ix g0).IsStorable where
  st q d c := match q with
    | 0 => (inferInstance : BI.Storable (upEmb : UEmb _ (MM F)) (bigSep Finset.univ fun i => goRes tb ix g0 d (tileOf (F := F) c i)))
  dn q d c := match q with
    | 0 => (inferInstance : BI.Storable (upEmb : UEmb _ (MM F)) (bigSep Finset.univ fun i => tdRes tb ix d (tileOf (F := F) c i)))
  go q d c i := match q with
    | 0 => (inferInstance : BI.Storable (upEmb : UEmb _ (MM F)) (goRes tb ix g0 d (tileOf (F := F) c i)))
  td q d c i := match q with
    | 0 => (inferInstance : BI.Storable (upEmb : UEmb _ (MM F)) (tdRes tb ix d (tileOf (F := F) c i)))

/-- A SparseCore's share of the call is its tiles' shares. -/
theorem vecSplit : (K (F := F)).VecSplit' (P tb ix g0) 0 := by
  intro d c
  show (bigSep Finset.univ fun i => goRes tb ix g0 d (tileOf (F := F) c i)) ⊢ |={Set.univ}=> iprop(
      (bigSep Finset.univ fun i => goRes tb ix g0 d (tileOf (F := F) c i))
      ∗ ((bigSep Finset.univ fun i => tdRes tb ix d (tileOf (F := F) c i)) -∗ (bigSep Finset.univ fun i => tdRes tb ix d (tileOf (F := F) c i))))
  iintro H; imodintro
  isplitl [H]; · iexact H
  iintro H; iexact H

end Cert.Proof.Run

end
-- ==== Proof.TcRun.lean ====
/-
  The TensorCore kernel's body at one grid point, run once over any staging buffers: it leaves its eight inputs as they
  were and puts in each output's staging buffer a value computed from what the inputs hold.
-/
module

public import proofs.«01_k».proof.Proof.Setup
public import Idealize.ShloMosaic.Lib.Pipeline.Value

@[expose] public section

noncomputable section

namespace Cert.Proof.Run

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- Memref `M`'s buffer on core `c` held whole at `f`. -/
abbrev ptc (c : Dev nD) {sp : Space} {S : Shape} {e : EltTy} (M : Memref sig .tc sp S e) (f : Buf (Elt F) (M.view.loc (c : Thread nD τ))) : sProp (MM F) :=
  M.view.loc (c : Thread nD τ) ↦{fullShare} f

/-- The lane numbers of a block of scores. -/
abbrev lanes : IVec S512x1024 32 := iota .tc S512x1024 32 [1] iota_S512x1024_d1_w32

/-- The last row of the transposed code book. -/
def lastRow (v : Vec F S129x1024 .f32) : Vec F S1x1024 .f32 :=
  fun j => v ((Rect.unit (s := S129x1024) ![128, 0] S1x1024.size inb_S129x1024_S1x1024_128_0).toLoadRect.idx j)

/-! ## What a block's five results are, from what its inputs hold -/

section Values
variable (x : Vec F S512x128 .f32) (w1 : Vec F S128x256 .f32) (b1 : Vec F S1x256 .f32) (w2 : Vec F S256x256 .f32) (b2 : Vec F S1x256 .f32)
  (w3 : Vec F S256x129 .f32) (b3 : Vec F S1x129 .f32) (cbt : Vec F S129x1024 .f32)

/-- The predicted weights. -/
def oW : Vec F S512x129 .f32 := k0_pay5 x w1 b1 w2 b2 w3 b3
/-- The chosen code of each row. -/
def oI : Vec F S512x1 .i32 := k0_pay9 (k0_pay7 x cbt) (k0_pay8 x w1 b1 w2 b2 w3 b3)
/-- The same, laid out as a list for the gather. -/
def oI3 : Vec F S1x4x128 .i32 := k0_pay1 (oI x w1 b1 w2 b2 w3 b3 cbt)
/-- The chosen score. -/
def oY : Vec F S512x1 .f32 := k0_pay3 (k0_pay7 x cbt) lanes (oI x w1 b1 w2 b2 w3 b3 cbt)
/-- The chosen code's last entry. -/
def oL : Vec F S512x1 .f32 := k0_pay4 lanes (oI x w1 b1 w2 b2 w3 b3 cbt) (lastRow cbt)
end Values

theorem readAt_zero {sig : RefSig} {κ : Kind} {sp : Space} {S : Shape} {e : EltTy} (v : View sig κ sp S e) {off : Fin S.rank → ℕ} (h : off = fun _ => 0)
    (inb : ∀ a, off a + S.size a ≤ S.size a) (f : v.ty.Contents (Elt F)) :
    v.readAt (Elt F) (Rect.unit off S.size inb).toLoadRect f = v.read (Elt F) f := by
  exact View.ld_unit_zero h inb (v.read (Elt F) f)

theorem read_store_zero {sig : RefSig} {κ : Kind} {sp : Space} {S : Shape} {e : EltTy} (v : View sig κ sp S e) {off : Fin S.rank → ℕ} (h : off = fun _ => 0)
    (inb : ∀ a, off a + S.size a ≤ S.size a) (f : v.ty.Contents (Elt F)) (w : S.Idx → Elt F e) :
    v.read (Elt F) (v.writes (Elt F) f [⟨Rect.unit off S.size inb, w⟩]) = w := by
  subst h; exact View.read_writes_whole v f w

theorem zero2 : (![0, 0] : Fin 2 → ℕ) = fun _ => 0 := by decide
theorem zero3 : (![0, 0, 0] : Fin 3 → ℕ) = fun _ => 0 := by decide

set_option maxHeartbeats 4000000 in
theorem tcBody (c : Dev nD) (i : grid0.Coords)
    (M1 : Memref sig .tc .vmem S512x128 .f32) (h1 : M1.IsWhole)
    (M2 : Memref sig .tc .vmem S128x256 .f32) (h2 : M2.IsWhole)
    (M3 : Memref sig .tc .vmem S1x256 .f32) (h3 : M3.IsWhole)
    (M4 : Memref sig .tc .vmem S256x256 .f32) (h4 : M4.IsWhole)
    (M5 : Memref sig .tc .vmem S1x256 .f32) (h5 : M5.IsWhole)
    (M6 : Memref sig .tc .vmem S256x129 .f32) (h6 : M6.IsWhole)
    (M7 : Memref sig .tc .vmem S1x129 .f32) (h7 : M7.IsWhole)
    (M8 : Memref sig .tc .vmem S129x1024 .f32) (h8 : M8.IsWhole)
    (M9 : Memref sig .tc .vmem S512x129 .f32) (h9 : M9.IsWhole)
    (M10 : Memref sig .tc .vmem S512x1 .i32) (h10 : M10.IsWhole)
    (M11 : Memref sig .tc .vmem S1x4x128 .i32) (h11 : M11.IsWhole)
    (M12 : Memref sig .tc .vmem S512x1 .f32) (h12 : M12.IsWhole)
    (M13 : Memref sig .tc .vmem S512x1 .f32) (h13 : M13.IsWhole)
    (f1 : Buf (Elt F) (M1.view.loc (c : Thread nD τ)))
    (f2 : Buf (Elt F) (M2.view.loc (c : Thread nD τ)))
    (f3 : Buf (Elt F) (M3.view.loc (c : Thread nD τ)))
    (f4 : Buf (Elt F) (M4.view.loc (c : Thread nD τ)))
    (f5 : Buf (Elt F) (M5.view.loc (c : Thread nD τ)))
    (f6 : Buf (Elt F) (M6.view.loc (c : Thread nD τ)))
    (f7 : Buf (Elt F) (M7.view.loc (c : Thread nD τ)))
    (f8 : Buf (Elt F) (M8.view.loc (c : Thread nD τ)))
    (f9 : Buf (Elt F) (M9.view.loc (c : Thread nD τ)))
    (f10 : Buf (Elt F) (M10.view.loc (c : Thread nD τ)))
    (f11 : Buf (Elt F) (M11.view.loc (c : Thread nD τ)))
    (f12 : Buf (Elt F) (M12.view.loc (c : Thread nD τ)))
    (f13 : Buf (Elt F) (M13.view.loc (c : Thread nD τ)))
    (E : Set ℕ) (Q : PUnit → sProp (MM F)) :
    iprop(ptc c M1 f1 ∗ ptc c M2 f2 ∗ ptc c M3 f3 ∗ ptc c M4 f4 ∗ ptc c M5 f5 ∗ ptc c M6 f6 ∗ ptc c M7 f7 ∗ ptc c M8 f8 ∗ ptc c M9 f9 ∗ ptc c M10 f10 ∗ ptc c M11 f11 ∗ ptc c M12 f12 ∗ ptc c M13 f13 ∗ (ptc c M1 f1 ∗ ptc c M2 f2 ∗ ptc c M3 f3 ∗ ptc c M4 f4 ∗ ptc c M5 f5 ∗ ptc c M6 f6 ∗ ptc c M7 f7 ∗ ptc c M8 f8
        ∗ (∃ g, ⌜M9.view.read (Elt F) g = oW (M1.view.read (Elt F) f1) (M2.view.read (Elt F) f2) (M3.view.read (Elt F) f3) (M4.view.read (Elt F) f4) (M5.view.read (Elt F) f5) (M6.view.read (Elt F) f6) (M7.view.read (Elt F) f7)⌝ ∗ ptc c M9 g)
        ∗ (∃ g, ⌜M10.view.read (Elt F) g = oI (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8)⌝ ∗ ptc c M10 g)
        ∗ (∃ g, ⌜M11.view.read (Elt F) g = oI3 (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8)⌝ ∗ ptc c M11 g)
        ∗ (∃ g, ⌜M12.view.read (Elt F) g = oY (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8)⌝ ∗ ptc c M12 g)
        ∗ (∃ g, ⌜M13.view.read (Elt F) g = oL (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8)⌝ ∗ ptc c M13 g) -∗ Q ⟨⟩))
      ⊢ wp frame (wpE (defs₀ (F := F)) 𝒱₀ c none) E (cc0__tc_body i M1 h1 M2 h2 M3 h3 M4 h4 M5 h5 M6 h6 M7 h7 M8 h8 M9 h9 M10 h10 M11 h11 M12 h12 M13 h13) Q := by
  simp only [cc0__tc_body_eq_skeleton]; unfold cc0__tc_body_skel
  simp only [k0_part1_eq_skeleton, k0_part2_eq_skeleton]; unfold k0_part1_skel k0_part2_skel
  iintro ⟨H1, H2, H3, H4, H5, H6, H7, H8, H9, H10, H11, H12, H13, Hk⟩
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr; swap; (· iexact H9)
    (ipureintro; refine (read_store_zero _ zero2 _ _ _).trans ?_; simp only [readAt_zero (F := F) M1.view zero2, readAt_zero (F := F) M2.view zero2, readAt_zero (F := F) M3.view zero2, readAt_zero (F := F) M4.view zero2, readAt_zero (F := F) M5.view zero2, readAt_zero (F := F) M6.view zero2, readAt_zero (F := F) M7.view zero2, readAt_zero (F := F) M8.view zero2]; rfl)
  isplitl [H10]
  · iexists _; isplitr; swap; (· iexact H10)
    (ipureintro; refine (read_store_zero _ zero2 _ _ _).trans ?_; simp only [readAt_zero (F := F) M1.view zero2, readAt_zero (F := F) M2.view zero2, readAt_zero (F := F) M3.view zero2, readAt_zero (F := F) M4.view zero2, readAt_zero (F := F) M5.view zero2, readAt_zero (F := F) M6.view zero2, readAt_zero (F := F) M7.view zero2, readAt_zero (F := F) M8.view zero2]; rfl)
  isplitl [H11]
  · iexists _; isplitr; swap; (· iexact H11)
    (ipureintro; refine (read_store_zero _ zero3 _ _ _).trans ?_; simp only [readAt_zero (F := F) M1.view zero2, readAt_zero (F := F) M2.view zero2, readAt_zero (F := F) M3.view zero2, readAt_zero (F := F) M4.view zero2, readAt_zero (F := F) M5.view zero2, readAt_zero (F := F) M6.view zero2, readAt_zero (F := F) M7.view zero2, readAt_zero (F := F) M8.view zero2]; rfl)
  isplitl [H12]
  · iexists _; isplitr; swap; (· iexact H12)
    (ipureintro; refine (read_store_zero _ zero2 _ _ _).trans ?_; simp only [readAt_zero (F := F) M1.view zero2, readAt_zero (F := F) M2.view zero2, readAt_zero (F := F) M3.view zero2, readAt_zero (F := F) M4.view zero2, readAt_zero (F := F) M5.view zero2, readAt_zero (F := F) M6.view zero2, readAt_zero (F := F) M7.view zero2, readAt_zero (F := F) M8.view zero2]; rfl)
  · iexists _; isplitr; swap; (· iexact H13)
    (ipureintro; refine (read_store_zero _ zero2 _ _ _).trans ?_; simp only [readAt_zero (F := F) M1.view zero2, readAt_zero (F := F) M2.view zero2, readAt_zero (F := F) M3.view zero2, readAt_zero (F := F) M4.view zero2, readAt_zero (F := F) M5.view zero2, readAt_zero (F := F) M6.view zero2, readAt_zero (F := F) M7.view zero2, readAt_zero (F := F) M8.view zero2]; rfl)

end Cert.Proof.Run

end
-- ==== Proof.RefRun.lean ====
/-
  The reference's run: a straight line of operations, listed in order, and what each array holds after them.
-/
module

public import proofs.«01_k».proof.Proof.Gen.ReferenceIdeal
public import Idealize.ShloMosaic.Lib.StableHlo.RunHlo
public import Idealize.ShloMosaic.Lib.Quiescent

@[expose] public section

noncomputable section

namespace Cert.Proof.Ref

open Cert.ReferenceIdeal Cert.ReferenceIdeal.Gen
open Idealize.ShloMosaic Idealize.ShloMosaic.TcCoe Idealize.SL.Sem

variable {F : FTy → Type} [FloatOps F]

/-- Both calls of the rectifier. -/
abbrev reluOps (arg0 : StableHlo.TRef sig ⟨S16384x256, .f32⟩) (φ : fn_relu.Bufs) : List (HloOp τ sig (Elt F)) :=
  [StableHlo.TRef.nullary φ.cst (constant S_ .f32 0x00000000#32),
   StableHlo.TRef.unary φ.cst φ.v0 (broadcastInDim S16384x256 ![] bcast_S_S16384x256),
   StableHlo.TRef.binary arg0 φ.v0 φ.v1 maximumf]

/-- The index of the least. -/
abbrev argminOps (arg0 : StableHlo.TRef sig ⟨S16384x1024, .f32⟩) (φ : fn_argmin.Bufs) : List (HloOp τ sig (Elt F)) :=
  [StableHlo.TRef.nullary φ.v0 (iotaInDim S16384x1024 32 1),
   StableHlo.TRef.nullary φ.cst (constant S_ .f32 0x7F800000#32),
   StableHlo.TRef.nullary φ.c (constantI S_ 32 0#32),
   StableHlo.TRef.quaternary arg0 φ.v0 φ.cst φ.c φ.v1_0 (fun x y u v j => (Host.argReduce reducer_argmin_f32_i32 x y u v reducesTo_S16384x1024_S16384_d1 h_S_ j).1),
   StableHlo.TRef.quaternary arg0 φ.v0 φ.cst φ.c φ.v1_1 (fun x y u v j => (Host.argReduce reducer_argmin_f32_i32 x y u v reducesTo_S16384x1024_S16384_d1 h_S_ j).2)]

/-- The rows taken at an index. -/
abbrev takeOps (arg0 : StableHlo.TRef sig ⟨S1024x129, .f32⟩) (arg1 : StableHlo.TRef sig ⟨S16384, .i32⟩) (φ : fn_take.Bufs) : List (HloOp τ sig (Elt F)) :=
  [StableHlo.TRef.nullary φ.c (constantI S_ 32 0#32),
   StableHlo.TRef.unary φ.c φ.v0 (broadcastInDim S16384 ![] bcast_S_S16384),
   StableHlo.TRef.binary arg1 φ.v0 φ.v1 (cmpi .slt),
   StableHlo.TRef.nullary φ.c_0 (constantI S_ 32 1024#32),
   StableHlo.TRef.unary φ.c_0 φ.v2 (broadcastInDim S16384 ![] bcast_S_S16384),
   StableHlo.TRef.binary arg1 φ.v2 φ.v3 addi,
   StableHlo.TRef.ternary φ.v1 φ.v3 arg1 φ.call0.v0 select,
   StableHlo.TRef.unary φ.call0.v0 φ.v5 (broadcastInDim S16384x1 ![0] bcast_S16384_S16384x1_0),
   StableHlo.TRef.nullary φ.c_1 (constantI S1 32 1023#32),
   StableHlo.TRef.nullary φ.c_2 (constantI S_ 32 0#32),
   StableHlo.TRef.unary φ.c_2 φ.v6 (broadcastInDim S16384x1 ![] bcast_S_S16384x1),
   StableHlo.TRef.binary φ.v5 φ.v6 φ.v7 (cmpi .sge),
   StableHlo.TRef.unary φ.c_1 φ.v8 (broadcastInDim S1x1 ![1] bcast_S1_S1x1_1),
   StableHlo.TRef.unary φ.v8 φ.v9 (broadcastInDim S16384x1 ![0, 1] bcast_S1x1_S16384x1_0_1),
   StableHlo.TRef.binary φ.v5 φ.v9 φ.v10 (cmpi .sle),
   StableHlo.TRef.binary φ.v7 φ.v10 φ.v11 andi,
   StableHlo.TRef.nullary φ.c_3 (constantI S_ 1 1#1),
   StableHlo.TRef.binary φ.v11 φ.c_3 φ.v12 (fun x v => Host.reduce IntOp.andi x v reducesTo_S16384x1_S16384_d1 h_S_),
   StableHlo.TRef.binary arg0 φ.v5 φ.v13 (fun x i => Host.gather gather_S1024x129_S16384x1_S16384x129_1_0_n_n_0_1_1129 x i),
   StableHlo.TRef.unary φ.v12 φ.v14 (broadcastInDim S16384x129 ![0] bcast_S16384_S16384x129_0),
   StableHlo.TRef.nullary φ.cst (constant S_ .f32 0x7FC00000#32),
   StableHlo.TRef.unary φ.cst φ.v15 (broadcastInDim S16384x129 ![] bcast_S_S16384x129),
   StableHlo.TRef.ternary φ.v14 φ.v13 φ.v15 φ.v16 select]

abbrev seg0 : List (HloOp τ sig (Elt F)) :=
  [StableHlo.nullary main_cst (constant S_ .f32 0x3F800000#32),
   StableHlo.unary main_cst main_v0 (broadcastInDim S16384x1 ![] bcast_S_S16384x1 : (⟨S_, .f32⟩ : BufTy).Contents (Elt F) → (⟨S16384x1, .f32⟩ : BufTy).Contents (Elt F)),
   StableHlo.binary main_arg0 main_v0 main_v1 ((fun a b => concatenate S16384x129 1 [⟨S16384x128, a⟩, ⟨S16384x1, b⟩] concatenates_S16384x128_S16384x1_S16384x129_d1) : (⟨S16384x128, .f32⟩ : BufTy).Contents (Elt F) → (⟨S16384x1, .f32⟩ : BufTy).Contents (Elt F) → (⟨S16384x129, .f32⟩ : BufTy).Contents (Elt F)),
   StableHlo.binary main_arg0 main_arg1 main_v2 ((fun l r => Host.dotGeneral dot_S16384x128_S128x256_S16384x256_1_0_0_1_n_n none l r) : (⟨S16384x128, .f32⟩ : BufTy).Contents (Elt F) → (⟨S128x256, .f32⟩ : BufTy).Contents (Elt F) → (⟨S16384x256, .f32⟩ : BufTy).Contents (Elt F)),
   StableHlo.unary main_arg2 main_v3 (broadcastInDim S1x256 ![1] bcast_S256_S1x256_1 : (⟨S256, .f32⟩ : BufTy).Contents (Elt F) → (⟨S1x256, .f32⟩ : BufTy).Contents (Elt F)),
   StableHlo.unary main_v3 main_v4 (broadcastInDim S16384x256 ![0, 1] bcast_S1x256_S16384x256_0_1 : (⟨S1x256, .f32⟩ : BufTy).Contents (Elt F) → (⟨S16384x256, .f32⟩ : BufTy).Contents (Elt F)),
   StableHlo.binary main_v2 main_v4 main_v5 (addf : (⟨S16384x256, .f32⟩ : BufTy).Contents (Elt F) → (⟨S16384x256, .f32⟩ : BufTy).Contents (Elt F) → (⟨S16384x256, .f32⟩ : BufTy).Contents (Elt F))]

abbrev seg1 : List (HloOp τ sig (Elt F)) :=
  [StableHlo.binary main_v6 main_arg3 main_v7 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
   StableHlo.unary main_arg4 main_v8 (broadcastInDim S1x256 ![1] bcast_S256_S1x256_1 : (⟨S256, .f32⟩ : BufTy).Contents (Elt F) → (⟨S1x256, .f32⟩ : BufTy).Contents (Elt F)),
   StableHlo.unary main_v8 main_v9 (broadcastInDim S16384x256 ![0, 1] bcast_S1x256_S16384x256_0_1 : (⟨S1x256, .f32⟩ : BufTy).Contents (Elt F) → (⟨S16384x256, .f32⟩ : BufTy).Contents (Elt F)),
   StableHlo.binary main_v7 main_v9 main_v10 (addf : (⟨S16384x256, .f32⟩ : BufTy).Contents (Elt F) → (⟨S16384x256, .f32⟩ : BufTy).Contents (Elt F) → (⟨S16384x256, .f32⟩ : BufTy).Contents (Elt F))]

abbrev seg2 : List (HloOp τ sig (Elt F)) :=
  [StableHlo.binary main_v11 main_arg5 main_v12 ((fun l r => Host.dotGeneral dot_S16384x256_S256x129_S16384x129_1_0_0_1_n_n none l r) : (⟨S16384x256, .f32⟩ : BufTy).Contents (Elt F) → (⟨S256x129, .f32⟩ : BufTy).Contents (Elt F) → (⟨S16384x129, .f32⟩ : BufTy).Contents (Elt F)),
   StableHlo.unary main_arg6 main_v13 (broadcastInDim S1x129 ![1] bcast_S129_S1x129_1 : (⟨S129, .f32⟩ : BufTy).Contents (Elt F) → (⟨S1x129, .f32⟩ : BufTy).Contents (Elt F)),
   StableHlo.unary main_v13 main_v14 (broadcastInDim S16384x129 ![0, 1] bcast_S1x129_S16384x129_0_1 : (⟨S1x129, .f32⟩ : BufTy).Contents (Elt F) → (⟨S16384x129, .f32⟩ : BufTy).Contents (Elt F)),
   StableHlo.binary main_v12 main_v14 main_v15 (addf : (⟨S16384x129, .f32⟩ : BufTy).Contents (Elt F) → (⟨S16384x129, .f32⟩ : BufTy).Contents (Elt F) → (⟨S16384x129, .f32⟩ : BufTy).Contents (Elt F)),
   StableHlo.binary main_v1 main_v15 main_v16 (mulf : (⟨S16384x129, .f32⟩ : BufTy).Contents (Elt F) → (⟨S16384x129, .f32⟩ : BufTy).Contents (Elt F) → (⟨S16384x129, .f32⟩ : BufTy).Contents (Elt F)),
   StableHlo.nullary main_cst_0 (constant S_ .f32 0x00000000#32),
   StableHlo.binary main_v16 main_cst_0 main_v17 ((fun x v => Host.reduceAdd x v reducesTo_S16384x129_S16384_d1 h_S_) : (⟨S16384x129, .f32⟩ : BufTy).Contents (Elt F) → (⟨S_, .f32⟩ : BufTy).Contents (Elt F) → (⟨S16384, .f32⟩ : BufTy).Contents (Elt F)),
   StableHlo.reshape main_v17 main_v18 (rfl : (.f32 : EltTy) = .f32) shapeCasts_S16384_S16384x1,
   StableHlo.unary main_arg7 main_v19 ((transpose S129x1024 [1, 0] · transposes_S1024x129_S129x1024_1_0) : (⟨S1024x129, .f32⟩ : BufTy).Contents (Elt F) → (⟨S129x1024, .f32⟩ : BufTy).Contents (Elt F)),
   StableHlo.binary main_v1 main_v19 main_v20 ((fun l r => Host.dotGeneral dot_S16384x129_S129x1024_S16384x1024_1_0_0_1_n_n none l r) : (⟨S16384x129, .f32⟩ : BufTy).Contents (Elt F) → (⟨S129x1024, .f32⟩ : BufTy).Contents (Elt F) → (⟨S16384x1024, .f32⟩ : BufTy).Contents (Elt F)),
   StableHlo.unary main_v18 main_v21 (broadcastInDim S16384x1024 ![0, 1] bcast_S16384x1_S16384x1024_0_1 : (⟨S16384x1, .f32⟩ : BufTy).Contents (Elt F) → (⟨S16384x1024, .f32⟩ : BufTy).Contents (Elt F)),
   StableHlo.binary main_v21 main_v20 main_v22 (subf : (⟨S16384x1024, .f32⟩ : BufTy).Contents (Elt F) → (⟨S16384x1024, .f32⟩ : BufTy).Contents (Elt F) → (⟨S16384x1024, .f32⟩ : BufTy).Contents (Elt F)),
   StableHlo.binary main_v22 main_v22 main_v23 (mulf : (⟨S16384x1024, .f32⟩ : BufTy).Contents (Elt F) → (⟨S16384x1024, .f32⟩ : BufTy).Contents (Elt F) → (⟨S16384x1024, .f32⟩ : BufTy).Contents (Elt F))]

abbrev seg3 : List (HloOp τ sig (Elt F)) :=
  [StableHlo.unary main_v24 main_v25 (broadcastInDim S16384x1 ![0] bcast_S16384_S16384x1_0 : (⟨S16384, .i32⟩ : BufTy).Contents (Elt F) → (⟨S16384x1, .i32⟩ : BufTy).Contents (Elt F)),
   StableHlo.reshape main_v25 main_v26 (rfl : (.i32 : EltTy) = .i32) shapeCasts_S16384x1_S16384]

abbrev seg4 : List (HloOp τ sig (Elt F)) :=
  [StableHlo.unary main_v15 main_v28 (Host.negf : (⟨S16384x129, .f32⟩ : BufTy).Contents (Elt F) → (⟨S16384x129, .f32⟩ : BufTy).Contents (Elt F)),
   StableHlo.binary main_v28 main_v27 main_v29 (addf : (⟨S16384x129, .f32⟩ : BufTy).Contents (Elt F) → (⟨S16384x129, .f32⟩ : BufTy).Contents (Elt F) → (⟨S16384x129, .f32⟩ : BufTy).Contents (Elt F)),
   StableHlo.binary main_v15 main_v29 main_v30 (addf : (⟨S16384x129, .f32⟩ : BufTy).Contents (Elt F) → (⟨S16384x129, .f32⟩ : BufTy).Contents (Elt F) → (⟨S16384x129, .f32⟩ : BufTy).Contents (Elt F)),
   StableHlo.binary main_v1 main_v30 main_v31 (mulf : (⟨S16384x129, .f32⟩ : BufTy).Contents (Elt F) → (⟨S16384x129, .f32⟩ : BufTy).Contents (Elt F) → (⟨S16384x129, .f32⟩ : BufTy).Contents (Elt F)),
   StableHlo.nullary main_cst_1 (constant S_ .f32 0x00000000#32),
   StableHlo.binary main_v31 main_cst_1 main_v32 ((fun x v => Host.reduceAdd x v reducesTo_S16384x129_S16384_d1 h_S_) : (⟨S16384x129, .f32⟩ : BufTy).Contents (Elt F) → (⟨S_, .f32⟩ : BufTy).Contents (Elt F) → (⟨S16384, .f32⟩ : BufTy).Contents (Elt F)),
   StableHlo.reshape main_v32 main_v33 (rfl : (.f32 : EltTy) = .f32) shapeCasts_S16384_S16384x1]

/-- The whole program, operation by operation. -/
abbrev ops : List (HloOp τ sig (Elt F)) :=
  seg0 ++ (reluOps (.of main_v5) main_call0 ++ (seg1 ++ (reluOps (.of main_v10) main_call1 ++ (seg2 ++ (argminOps (.of main_v23) main_call2 ++ (seg3 ++ (takeOps (.of main_arg7) (.of main_v26) main_call3 ++ (seg4))))))))

set_option maxRecDepth 10000 in
theorem main_seq (d : Dev nD) : StableHlo.IsSeq (main (F := F) d) ops := by
  unfold StableHlo.IsSeq
  rfl

/-- A row of ones beside the rows. -/
def rAug (x : (⟨S16384x128, .f32⟩ : BufTy).Contents (Elt F)) : (⟨S16384x129, .f32⟩ : BufTy).Contents (Elt F) :=
  concatenate S16384x129 1 [⟨S16384x128, x⟩, ⟨S16384x1, broadcastInDim S16384x1 ![] bcast_S_S16384x1 (constant S_ .f32 0x3F800000#32)⟩] concatenates_S16384x128_S16384x1_S16384x129_d1
/-- A layer of 256 units on the rows, rectified. -/
def rRelu (h : (⟨S16384x256, .f32⟩ : BufTy).Contents (Elt F)) (b : (⟨S256, .f32⟩ : BufTy).Contents (Elt F)) : (⟨S16384x256, .f32⟩ : BufTy).Contents (Elt F) :=
  maximumf (addf h (broadcastInDim S16384x256 ![0, 1] bcast_S1x256_S16384x256_0_1 (broadcastInDim S1x256 ![1] bcast_S256_S1x256_1 b)))
    (broadcastInDim S16384x256 ![] bcast_S_S16384x256 (constant S_ .f32 0x00000000#32))
/-- The predicted weights. -/
def rW (x : (⟨S16384x128, .f32⟩ : BufTy).Contents (Elt F)) (w1 : (⟨S128x256, .f32⟩ : BufTy).Contents (Elt F)) (b1 : (⟨S256, .f32⟩ : BufTy).Contents (Elt F))
    (w2 : (⟨S256x256, .f32⟩ : BufTy).Contents (Elt F)) (b2 : (⟨S256, .f32⟩ : BufTy).Contents (Elt F))
    (w3 : (⟨S256x129, .f32⟩ : BufTy).Contents (Elt F)) (b3 : (⟨S129, .f32⟩ : BufTy).Contents (Elt F)) : (⟨S16384x129, .f32⟩ : BufTy).Contents (Elt F) :=
  addf (Host.dotGeneral dot_S16384x256_S256x129_S16384x129_1_0_0_1_n_n none
      (rRelu (Host.dotGeneral dot_S16384x256_S256x256_S16384x256_1_0_0_1_n_n none
        (rRelu (Host.dotGeneral dot_S16384x128_S128x256_S16384x256_1_0_0_1_n_n none x w1) b1) w2) b2) w3)
    (broadcastInDim S16384x129 ![0, 1] bcast_S1x129_S16384x129_0_1 (broadcastInDim S1x129 ![1] bcast_S129_S1x129_1 b3))

/-- The squared distances of each row's prediction to its scores against the codebook. -/
def rSq (x : (⟨S16384x128, .f32⟩ : BufTy).Contents (Elt F)) (w : (⟨S16384x129, .f32⟩ : BufTy).Contents (Elt F)) (cb : (⟨S1024x129, .f32⟩ : BufTy).Contents (Elt F)) : (⟨S16384x1024, .f32⟩ : BufTy).Contents (Elt F) :=
  mulf (subf (broadcastInDim S16384x1024 ![0, 1] bcast_S16384x1_S16384x1024_0_1 (shapeCast S16384x1 (Host.reduceAdd (mulf (rAug x) w) (constant S_ .f32 0x00000000#32) reducesTo_S16384x129_S16384_d1 h_S_) shapeCasts_S16384_S16384x1))
      (Host.dotGeneral dot_S16384x129_S129x1024_S16384x1024_1_0_0_1_n_n none (rAug x) (transpose S129x1024 [1, 0] cb transposes_S1024x129_S129x1024_1_0)))
    (subf (broadcastInDim S16384x1024 ![0, 1] bcast_S16384x1_S16384x1024_0_1 (shapeCast S16384x1 (Host.reduceAdd (mulf (rAug x) w) (constant S_ .f32 0x00000000#32) reducesTo_S16384x129_S16384_d1 h_S_) shapeCasts_S16384_S16384x1))
      (Host.dotGeneral dot_S16384x129_S129x1024_S16384x1024_1_0_0_1_n_n none (rAug x) (transpose S129x1024 [1, 0] cb transposes_S1024x129_S129x1024_1_0)))
/-- The nearest codeword's number, per row. -/
def rIdx (sq : (⟨S16384x1024, .f32⟩ : BufTy).Contents (Elt F)) : (⟨S16384, .i32⟩ : BufTy).Contents (Elt F) :=
  fun j => (Host.argReduce reducer_argmin_f32_i32 sq (iotaInDim S16384x1024 32 1) (constant S_ .f32 0x7F800000#32) (constantI S_ 32 0#32) reducesTo_S16384x1024_S16384_d1 h_S_ j).2
def rIdx1 (i : (⟨S16384, .i32⟩ : BufTy).Contents (Elt F)) : (⟨S16384x1, .i32⟩ : BufTy).Contents (Elt F) := broadcastInDim S16384x1 ![0] bcast_S16384_S16384x1_0 i
/-- The rows' numbers as the lookup takes them, a negative one counted from the end. -/
def rRow (i : (⟨S16384, .i32⟩ : BufTy).Contents (Elt F)) : (⟨S16384x1, .i32⟩ : BufTy).Contents (Elt F) :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 1024#32))) i)
/-- The codebook's rows at the given numbers. -/
def rTake (cb : (⟨S1024x129, .f32⟩ : BufTy).Contents (Elt F)) (i : (⟨S16384, .i32⟩ : BufTy).Contents (Elt F)) : (⟨S16384x129, .f32⟩ : BufTy).Contents (Elt F) :=
  select (broadcastInDim S16384x129 ![0] bcast_S16384_S16384x129_0
      (Host.reduce IntOp.andi (andi (cmpi .sge (rRow i) (broadcastInDim S16384x1 ![] bcast_S_S16384x1 (constantI S_ 32 0#32)))
          (cmpi .sle (rRow i) (broadcastInDim S16384x1 ![0, 1] bcast_S1x1_S16384x1_0_1 (broadcastInDim S1x1 ![1] bcast_S1_S1x1_1 (constantI S1 32 1023#32)))))
        (constantI S_ 1 1#1) reducesTo_S16384x1_S16384_d1 h_S_))
    (Host.gather gather_S1024x129_S16384x1_S16384x129_1_0_n_n_0_1_1129 cb (rRow i))
    (broadcastInDim S16384x129 ![] bcast_S_S16384x129 (constant S_ .f32 0x7FC00000#32))
/-- The codeword's prediction, written with the straight-through sum. -/
def rY (x : (⟨S16384x128, .f32⟩ : BufTy).Contents (Elt F)) (w wq : (⟨S16384x129, .f32⟩ : BufTy).Contents (Elt F)) : (⟨S16384x1, .f32⟩ : BufTy).Contents (Elt F) :=
  shapeCast S16384x1 (Host.reduceAdd (mulf (rAug x) (addf w (addf (Host.negf w) wq))) (constant S_ .f32 0x00000000#32) reducesTo_S16384x129_S16384_d1 h_S_) shapeCasts_S16384_S16384x1

set_option maxRecDepth 10000 in
theorem after_w (V : Valuation τ sig (Elt F)) : StableHlo.after ops V (main_v15 : DevRef τ sig)
    = rW (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  unfold ops seg0 seg1 seg2 seg3 seg4 reluOps argminOps takeOps
  simp only [List.cons_append, List.nil_append]
  after_results_simp
  rfl

set_option maxRecDepth 10000 in
theorem after_idx (V : Valuation τ sig (Elt F)) : StableHlo.after ops V (main_v25 : DevRef τ sig)
    = rIdx1 (rIdx (rSq (V (main_arg0 : DevRef τ sig)) (rW (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig))) (V (main_arg7 : DevRef τ sig)))) := by
  unfold ops seg0 seg1 seg2 seg3 seg4 reluOps argminOps takeOps
  simp only [List.cons_append, List.nil_append]
  after_results_simp
  rfl

/-- The operations up to the lookup. -/
abbrev preOps : List (HloOp τ sig (Elt F)) :=
  seg0 ++ (reluOps (.of main_v5) main_call0 ++ (seg1 ++ (reluOps (.of main_v10) main_call1 ++ (seg2 ++ (argminOps (.of main_v23) main_call2 ++ (seg3))))))
theorem after_app (l₁ l₂ : List (HloOp τ sig (Elt F))) (V : Valuation τ sig (Elt F)) : StableHlo.after (l₁ ++ l₂) V = StableHlo.after l₂ (StableHlo.after l₁ V) := by
  induction l₁ generalizing V with
  | nil => rfl
  | cons o l ih => exact ih _
theorem ops_split : (ops : List (HloOp τ sig (Elt F))) = preOps ++ (takeOps (.of main_arg7) (.of main_v26) main_call3 ++ seg4) := rfl

theorem take_v27 (U : Valuation τ sig (Elt F)) : StableHlo.after (takeOps (.of main_arg7) (.of main_v26) main_call3) U (main_v27 : DevRef τ sig) = rTake (U (main_arg7 : DevRef τ sig)) (U (main_v26 : DevRef τ sig)) := by
  unfold takeOps
  after_results_simp
  simp only [StableHlo.TRef.ofBuf_toBuf, StableHlo.TRef.ofBuf, StableHlo.TRef.toBuf, cast_eq]
  unfold rTake rRow
  rfl
theorem take_v15 (U : Valuation τ sig (Elt F)) : StableHlo.after (takeOps (.of main_arg7) (.of main_v26) main_call3) U (main_v15 : DevRef τ sig) = (U (main_v15 : DevRef τ sig)) := by
  unfold takeOps
  after_results_simp
theorem take_v1 (U : Valuation τ sig (Elt F)) : StableHlo.after (takeOps (.of main_arg7) (.of main_v26) main_call3) U (main_v1 : DevRef τ sig) = (U (main_v1 : DevRef τ sig)) := by
  unfold takeOps
  after_results_simp
theorem seg4_v27 (U : Valuation τ sig (Elt F)) : StableHlo.after seg4 U (main_v27 : DevRef τ sig) = (U (main_v27 : DevRef τ sig)) := by
  unfold seg4
  after_results_simp
theorem seg4_v33 (U : Valuation τ sig (Elt F)) : StableHlo.after seg4 U (main_v33 : DevRef τ sig)
    = shapeCast S16384x1 (Host.reduceAdd (mulf (U (main_v1 : DevRef τ sig)) (addf (U (main_v15 : DevRef τ sig)) (addf (Host.negf (U (main_v15 : DevRef τ sig))) (U (main_v27 : DevRef τ sig))))) (constant S_ .f32 0x00000000#32) reducesTo_S16384x129_S16384_d1 h_S_) shapeCasts_S16384_S16384x1 := by
  unfold seg4
  after_results_simp
  rfl
set_option maxRecDepth 10000 in
theorem pre_v26 (V : Valuation τ sig (Elt F)) : StableHlo.after preOps V (main_v26 : DevRef τ sig) = (shapeCast S16384 (rIdx1 (rIdx (rSq (V (main_arg0 : DevRef τ sig)) (rW (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig))) (V (main_arg7 : DevRef τ sig))))) shapeCasts_S16384x1_S16384) := by
  unfold preOps seg0 seg1 seg2 seg3 reluOps argminOps
  simp only [List.cons_append, List.nil_append]
  after_results_simp
  rfl
set_option maxRecDepth 10000 in
theorem pre_v15 (V : Valuation τ sig (Elt F)) : StableHlo.after preOps V (main_v15 : DevRef τ sig) = (rW (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig))) := by
  unfold preOps seg0 seg1 seg2 seg3 reluOps argminOps
  simp only [List.cons_append, List.nil_append]
  after_results_simp
  rfl
set_option maxRecDepth 10000 in
theorem pre_v1 (V : Valuation τ sig (Elt F)) : StableHlo.after preOps V (main_v1 : DevRef τ sig) = rAug (V (main_arg0 : DevRef τ sig)) := by
  unfold preOps seg0 seg1 seg2 seg3 reluOps argminOps
  simp only [List.cons_append, List.nil_append]
  after_results_simp
  rfl
set_option maxRecDepth 10000 in
theorem pre_arg7 (V : Valuation τ sig (Elt F)) : StableHlo.after preOps V (main_arg7 : DevRef τ sig) = (V (main_arg7 : DevRef τ sig)) := by
  unfold preOps seg0 seg1 seg2 seg3 reluOps argminOps
  simp only [List.cons_append, List.nil_append]
  after_results_simp

theorem after_take (V : Valuation τ sig (Elt F)) : StableHlo.after ops V (main_v27 : DevRef τ sig)
    = rTake (V (main_arg7 : DevRef τ sig)) (shapeCast S16384 (rIdx1 (rIdx (rSq (V (main_arg0 : DevRef τ sig)) (rW (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig))) (V (main_arg7 : DevRef τ sig))))) shapeCasts_S16384x1_S16384) := by
  rw [ops_split, after_app, after_app, seg4_v27, take_v27, pre_arg7, pre_v26]
theorem after_y (V : Valuation τ sig (Elt F)) : StableHlo.after ops V (main_v33 : DevRef τ sig)
    = rY (V (main_arg0 : DevRef τ sig)) (rW (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig))) (rTake (V (main_arg7 : DevRef τ sig)) (shapeCast S16384 (rIdx1 (rIdx (rSq (V (main_arg0 : DevRef τ sig)) (rW (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig))) (V (main_arg7 : DevRef τ sig))))) shapeCasts_S16384x1_S16384)) := by
  rw [ops_split, after_app, after_app, seg4_v33, take_v27, take_v15, take_v1, pre_arg7, pre_v26, pre_v15, pre_v1]
  rfl

set_option maxRecDepth 10000 in
theorem after_arg0 (V : Valuation τ sig (Elt F)) : StableHlo.after ops V (main_arg0 : DevRef τ sig)
    = (V (main_arg0 : DevRef τ sig)) := by
  unfold ops seg0 seg1 seg2 seg3 seg4 reluOps argminOps takeOps
  simp only [List.cons_append, List.nil_append]
  after_results_simp

set_option maxRecDepth 10000 in
theorem after_arg1 (V : Valuation τ sig (Elt F)) : StableHlo.after ops V (main_arg1 : DevRef τ sig)
    = (V (main_arg1 : DevRef τ sig)) := by
  unfold ops seg0 seg1 seg2 seg3 seg4 reluOps argminOps takeOps
  simp only [List.cons_append, List.nil_append]
  after_results_simp

set_option maxRecDepth 10000 in
theorem after_arg2 (V : Valuation τ sig (Elt F)) : StableHlo.after ops V (main_arg2 : DevRef τ sig)
    = (V (main_arg2 : DevRef τ sig)) := by
  unfold ops seg0 seg1 seg2 seg3 seg4 reluOps argminOps takeOps
  simp only [List.cons_append, List.nil_append]
  after_results_simp

set_option maxRecDepth 10000 in
theorem after_arg3 (V : Valuation τ sig (Elt F)) : StableHlo.after ops V (main_arg3 : DevRef τ sig)
    = (V (main_arg3 : DevRef τ sig)) := by
  unfold ops seg0 seg1 seg2 seg3 seg4 reluOps argminOps takeOps
  simp only [List.cons_append, List.nil_append]
  after_results_simp

set_option maxRecDepth 10000 in
theorem after_arg4 (V : Valuation τ sig (Elt F)) : StableHlo.after ops V (main_arg4 : DevRef τ sig)
    = (V (main_arg4 : DevRef τ sig)) := by
  unfold ops seg0 seg1 seg2 seg3 seg4 reluOps argminOps takeOps
  simp only [List.cons_append, List.nil_append]
  after_results_simp

set_option maxRecDepth 10000 in
theorem after_arg5 (V : Valuation τ sig (Elt F)) : StableHlo.after ops V (main_arg5 : DevRef τ sig)
    = (V (main_arg5 : DevRef τ sig)) := by
  unfold ops seg0 seg1 seg2 seg3 seg4 reluOps argminOps takeOps
  simp only [List.cons_append, List.nil_append]
  after_results_simp

set_option maxRecDepth 10000 in
theorem after_arg6 (V : Valuation τ sig (Elt F)) : StableHlo.after ops V (main_arg6 : DevRef τ sig)
    = (V (main_arg6 : DevRef τ sig)) := by
  unfold ops seg0 seg1 seg2 seg3 seg4 reluOps argminOps takeOps
  simp only [List.cons_append, List.nil_append]
  after_results_simp

set_option maxRecDepth 10000 in
theorem after_arg7 (V : Valuation τ sig (Elt F)) : StableHlo.after ops V (main_arg7 : DevRef τ sig)
    = (V (main_arg7 : DevRef τ sig)) := by
  unfold ops seg0 seg1 seg2 seg3 seg4 reluOps argminOps takeOps
  simp only [List.cons_append, List.nil_append]
  after_results_simp

/-- An operation on TensorCore arrays that determines its results. -/
def Plain (op : HloOp τ sig (Elt F)) : Prop := op.bufs ⊆ StableHlo.tcRefs τ sig ∧ op.fresh = ∅
theorem plain_cons {op : HloOp τ sig (Elt F)} {l : List (HloOp τ sig (Elt F))} (h : Plain op) (hl : ∀ o ∈ l, Plain o) : ∀ o ∈ op :: l, Plain o :=
  List.forall_mem_cons.mpr ⟨h, hl⟩
theorem plain_nil : ∀ o ∈ ([] : List (HloOp τ sig (Elt F))), Plain o := by intro _ h; exact nomatch h
theorem plain_seg0 : ∀ op ∈ (seg0 : List (HloOp τ sig (Elt F))), Plain op :=
  plain_cons ⟨StableHlo.nullary_bufs_sub .., rfl⟩ <|
  plain_cons ⟨StableHlo.unary_bufs_sub .., rfl⟩ <|
  plain_cons ⟨StableHlo.binary_bufs_sub .., rfl⟩ <|
  plain_cons ⟨StableHlo.binary_bufs_sub .., rfl⟩ <|
  plain_cons ⟨StableHlo.unary_bufs_sub .., rfl⟩ <|
  plain_cons ⟨StableHlo.unary_bufs_sub .., rfl⟩ <|
  plain_cons ⟨StableHlo.binary_bufs_sub .., rfl⟩ <| plain_nil
theorem plain_seg1 : ∀ op ∈ (seg1 : List (HloOp τ sig (Elt F))), Plain op :=
  plain_cons ⟨StableHlo.binary_bufs_sub .., rfl⟩ <|
  plain_cons ⟨StableHlo.unary_bufs_sub .., rfl⟩ <|
  plain_cons ⟨StableHlo.unary_bufs_sub .., rfl⟩ <|
  plain_cons ⟨StableHlo.binary_bufs_sub .., rfl⟩ <| plain_nil
theorem plain_seg2 : ∀ op ∈ (seg2 : List (HloOp τ sig (Elt F))), Plain op :=
  plain_cons ⟨StableHlo.binary_bufs_sub .., rfl⟩ <|
  plain_cons ⟨StableHlo.unary_bufs_sub .., rfl⟩ <|
  plain_cons ⟨StableHlo.unary_bufs_sub .., rfl⟩ <|
  plain_cons ⟨StableHlo.binary_bufs_sub .., rfl⟩ <|
  plain_cons ⟨StableHlo.binary_bufs_sub .., rfl⟩ <|
  plain_cons ⟨StableHlo.nullary_bufs_sub .., rfl⟩ <|
  plain_cons ⟨StableHlo.binary_bufs_sub .., rfl⟩ <|
  plain_cons ⟨StableHlo.reshape_bufs_sub .., rfl⟩ <|
  plain_cons ⟨StableHlo.unary_bufs_sub .., rfl⟩ <|
  plain_cons ⟨StableHlo.binary_bufs_sub .., rfl⟩ <|
  plain_cons ⟨StableHlo.unary_bufs_sub .., rfl⟩ <|
  plain_cons ⟨StableHlo.binary_bufs_sub .., rfl⟩ <|
  plain_cons ⟨StableHlo.binary_bufs_sub .., rfl⟩ <| plain_nil
theorem plain_seg3 : ∀ op ∈ (seg3 : List (HloOp τ sig (Elt F))), Plain op :=
  plain_cons ⟨StableHlo.unary_bufs_sub .., rfl⟩ <|
  plain_cons ⟨StableHlo.reshape_bufs_sub .., rfl⟩ <| plain_nil
theorem plain_seg4 : ∀ op ∈ (seg4 : List (HloOp τ sig (Elt F))), Plain op :=
  plain_cons ⟨StableHlo.unary_bufs_sub .., rfl⟩ <|
  plain_cons ⟨StableHlo.binary_bufs_sub .., rfl⟩ <|
  plain_cons ⟨StableHlo.binary_bufs_sub .., rfl⟩ <|
  plain_cons ⟨StableHlo.binary_bufs_sub .., rfl⟩ <|
  plain_cons ⟨StableHlo.nullary_bufs_sub .., rfl⟩ <|
  plain_cons ⟨StableHlo.binary_bufs_sub .., rfl⟩ <|
  plain_cons ⟨StableHlo.reshape_bufs_sub .., rfl⟩ <| plain_nil
theorem plain_reluOps (a) (φ) : ∀ op ∈ (reluOps a φ : List (HloOp τ sig (Elt F))), Plain op :=
  plain_cons ⟨StableHlo.nullary_bufs_sub .., rfl⟩ <|
  plain_cons ⟨StableHlo.unary_bufs_sub .., rfl⟩ <|
  plain_cons ⟨StableHlo.binary_bufs_sub .., rfl⟩ <| plain_nil
theorem plain_argminOps (a) (φ) : ∀ op ∈ (argminOps a φ : List (HloOp τ sig (Elt F))), Plain op :=
  plain_cons ⟨StableHlo.nullary_bufs_sub .., rfl⟩ <|
  plain_cons ⟨StableHlo.nullary_bufs_sub .., rfl⟩ <|
  plain_cons ⟨StableHlo.nullary_bufs_sub .., rfl⟩ <|
  plain_cons ⟨StableHlo.quaternary_bufs_sub .., rfl⟩ <|
  plain_cons ⟨StableHlo.quaternary_bufs_sub .., rfl⟩ <| plain_nil
theorem plain_takeOps (a) (b) (φ) : ∀ op ∈ (takeOps a b φ : List (HloOp τ sig (Elt F))), Plain op :=
  plain_cons ⟨StableHlo.nullary_bufs_sub .., rfl⟩ <|
  plain_cons ⟨StableHlo.unary_bufs_sub .., rfl⟩ <|
  plain_cons ⟨StableHlo.binary_bufs_sub .., rfl⟩ <|
  plain_cons ⟨StableHlo.nullary_bufs_sub .., rfl⟩ <|
  plain_cons ⟨StableHlo.unary_bufs_sub .., rfl⟩ <|
  plain_cons ⟨StableHlo.binary_bufs_sub .., rfl⟩ <|
  plain_cons ⟨StableHlo.ternary_bufs_sub .., rfl⟩ <|
  plain_cons ⟨StableHlo.unary_bufs_sub .., rfl⟩ <|
  plain_cons ⟨StableHlo.nullary_bufs_sub .., rfl⟩ <|
  plain_cons ⟨StableHlo.nullary_bufs_sub .., rfl⟩ <|
  plain_cons ⟨StableHlo.unary_bufs_sub .., rfl⟩ <|
  plain_cons ⟨StableHlo.binary_bufs_sub .., rfl⟩ <|
  plain_cons ⟨StableHlo.unary_bufs_sub .., rfl⟩ <|
  plain_cons ⟨StableHlo.unary_bufs_sub .., rfl⟩ <|
  plain_cons ⟨StableHlo.binary_bufs_sub .., rfl⟩ <|
  plain_cons ⟨StableHlo.binary_bufs_sub .., rfl⟩ <|
  plain_cons ⟨StableHlo.nullary_bufs_sub .., rfl⟩ <|
  plain_cons ⟨StableHlo.binary_bufs_sub .., rfl⟩ <|
  plain_cons ⟨StableHlo.binary_bufs_sub .., rfl⟩ <|
  plain_cons ⟨StableHlo.unary_bufs_sub .., rfl⟩ <|
  plain_cons ⟨StableHlo.nullary_bufs_sub .., rfl⟩ <|
  plain_cons ⟨StableHlo.unary_bufs_sub .., rfl⟩ <|
  plain_cons ⟨StableHlo.ternary_bufs_sub .., rfl⟩ <| plain_nil
theorem ops_plain : ∀ op ∈ (ops : List (HloOp τ sig (Elt F))), Plain op := by
  intro op h
  simp only [ops, List.mem_append] at h
  rcases h with h | h | h | h | h | h | h | h | h
  exacts [plain_seg0 op h, plain_reluOps _ _ op h, plain_seg1 op h, plain_reluOps _ _ op h, plain_seg2 op h, plain_argminOps _ _ op h, plain_seg3 op h, plain_takeOps _ _ _ op h, plain_seg4 op h]

/-- The reference's run: every array ends as the list of operations leaves it. -/
theorem run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ fun r =>
      (∀ (d : Dev nD) (b : Ref sig .tc), r.2.mem ((d.tc : Thread nD τ).loc b) = StableHlo.after ops (StableHlo.launchContents m d) (Proc.devRef .tc b)) ∧ r.2.sem = fun _ => 0 := by
  have h := StableHlo.run_hlo (Cert.ReferenceIdeal.defs (F := F)) (Cert.ReferenceIdeal.main (F := F)) main_seq (by decide) (by decide) (List.forall_iff_forall_mem.mpr fun op h => (ops_plain op h).1) (fun op h => (ops_plain op h).2) m ρ
  exact (θ_run Cert.ReferenceIdeal.defs _ _).mono (fun r h => ⟨h, sem_eq_zero_of_no_sems (by decide) _⟩) h

end Cert.Proof.Ref

end
-- ==== Proof.Rows.lean ====
/-
  One row of the problem's mathematics over the extended reals, and what the kernel's block and the reference's arrays
  hold at a row, in its terms.
-/
module

public import proofs.«01_k».proof.Proof.TcRun
public import proofs.«01_k».proof.Proof.RefRun
public import Idealize.ShloMosaic.Lib.Pointwise
public import Idealize.ShloMosaic.Lib.IdealHost

@[expose] public section

noncomputable section

namespace Cert.Proof.Maths

open Idealize.ShloMosaic

/-! ## A row -/

/-- Entry `n` of an affine layer. -/
def affine {K N : ℕ} (x : Fin K → EReal) (w : Fin K → Fin N → EReal) (b : Fin N → EReal) (n : Fin N) : EReal := (∑ k, x k * w k n) + b n

section Row
variable (x : Fin 128 → EReal) (w1 : Fin 128 → Fin 256 → EReal) (b1 : Fin 256 → EReal) (w2 : Fin 256 → Fin 256 → EReal) (b2 : Fin 256 → EReal)
  (w3 : Fin 256 → Fin 129 → EReal) (b3 : Fin 129 → EReal) (cb : Fin 1024 → Fin 129 → EReal)

/-- The predicted weights of a row. -/
def rowW : Fin 129 → EReal :=
  affine (fun k => max (affine (fun k => max (affine x w1 b1 k) 0) w2 b2 k) 0) w3 b3
/-- The row with a one at its end. -/
def rowAug (k : Fin 129) : EReal := if h : k.val < 128 then x ⟨k.val, h⟩ else 1
/-- The row's score against code `c`. -/
def rowScore (c : Fin 1024) : EReal := ∑ k, rowAug x k * cb c k
/-- The row's prediction with weights `w`. -/
def rowY (w : Fin 129 → EReal) : EReal := ∑ k, rowAug x k * w k
/-- The squared distance of the prediction to the score against code `c`. -/
def rowSq (w : Fin 129 → EReal) (c : Fin 1024) : EReal := (rowY x w - rowScore x cb c) * (rowY x w - rowScore x cb c)
end Row

/-! ## The kernel's block -/

section Kernel
open Cert.KernelIdeal Cert.KernelIdeal.Gen Cert.Proof.Run
variable (x : Vec Ideal S512x128 .f32) (w1 : Vec Ideal S128x256 .f32) (b1 : Vec Ideal S1x256 .f32) (w2 : Vec Ideal S256x256 .f32) (b2 : Vec Ideal S1x256 .f32)
  (w3 : Vec Ideal S256x129 .f32) (b3 : Vec Ideal S1x129 .f32) (cbt : Vec Ideal S129x1024 .f32)

theorem oW_row (r : Fin 512) (n : Fin 129) : oW x w1 b1 w2 b2 w3 b3 (ix2 r n)
    = rowW (fun k => x (ix2 r k)) (fun k n => w1 (ix2 k n)) (fun n => b1 (ix2 0 n)) (fun k n => w2 (ix2 k n)) (fun n => b2 (ix2 0 n))
        (fun k n => w3 (ix2 k n)) (fun n => b3 (ix2 0 n)) n := by
  unfold rowW affine
  pointwise [oW, k0_pay5]

theorem aug_row (r : Fin 512) (k : Fin 129) : k0_pay6 x (ix2 r k) = rowAug (fun k => x (ix2 r k)) k := by
  unfold rowAug
  pointwise [k0_pay6]

theorem score_row (r : Fin 512) (c : Fin 1024) : k0_pay7 x cbt (ix2 r c) = rowScore (fun k => x (ix2 r k)) (fun c k => cbt (ix2 k c)) c := by
  unfold rowScore
  pointwise [k0_pay7, aug_row]

/-- The products of a row with its weights, and seven zeros after them. -/
theorem prod_row (r : Fin 512) (k : Fin 136) : k0_pay8 x w1 b1 w2 b2 w3 b3 (ix2 r k)
    = if h : k.val < 129 then rowAug (fun k => x (ix2 r k)) ⟨k.val, h⟩ * oW x w1 b1 w2 b2 w3 b3 (ix2 r ⟨k.val, h⟩) else 0 := by
  pointwise [k0_pay8, aug_row, oW]

/-- Row `i` of eight: the sum of the seventeen rows `8 j + i` of the products laid on their side. -/
def eightRows (v31 : FVec Ideal S512x136 .f32) : FVec Ideal S8x512 .f32 :=
  have v32 : FVec Ideal S136x512 .f32 := transpose S136x512 [1, 0] v31 transposes_S512x136_p1_0_S136x512
  (addf (addf (addf (addf (addf (addf (addf (addf (addf (addf (addf (addf (addf (addf (addf (addf (extractStridedSlice S8x512 ![0, 0] v32 slices_S136x512_o0_0_S8x512) (extractStridedSlice S8x512 ![8, 0] v32 slices_S136x512_o8_0_S8x512)) (extractStridedSlice S8x512 ![16, 0] v32 slices_S136x512_o16_0_S8x512)) (extractStridedSlice S8x512 ![24, 0] v32 slices_S136x512_o24_0_S8x512)) (extractStridedSlice S8x512 ![32, 0] v32 slices_S136x512_o32_0_S8x512)) (extractStridedSlice S8x512 ![40, 0] v32 slices_S136x512_o40_0_S8x512)) (extractStridedSlice S8x512 ![48, 0] v32 slices_S136x512_o48_0_S8x512)) (extractStridedSlice S8x512 ![56, 0] v32 slices_S136x512_o56_0_S8x512)) (extractStridedSlice S8x512 ![64, 0] v32 slices_S136x512_o64_0_S8x512)) (extractStridedSlice S8x512 ![72, 0] v32 slices_S136x512_o72_0_S8x512)) (extractStridedSlice S8x512 ![80, 0] v32 slices_S136x512_o80_0_S8x512)) (extractStridedSlice S8x512 ![88, 0] v32 slices_S136x512_o88_0_S8x512)) (extractStridedSlice S8x512 ![96, 0] v32 slices_S136x512_o96_0_S8x512)) (extractStridedSlice S8x512 ![104, 0] v32 slices_S136x512_o104_0_S8x512)) (extractStridedSlice S8x512 ![112, 0] v32 slices_S136x512_o112_0_S8x512)) (extractStridedSlice S8x512 ![120, 0] v32 slices_S136x512_o120_0_S8x512)) (extractStridedSlice S8x512 ![128, 0] v32 slices_S136x512_o128_0_S8x512))

/-- The eight rows summed by halves. -/
def halves (v65 : FVec Ideal S8x512 .f32) : FVec Ideal S1x512 .f32 :=
  have v68 : FVec Ideal S4x512 .f32 := addf (extractStridedSlice S4x512 ![0, 0] v65 slices_S8x512_o0_0_S4x512) (extractStridedSlice S4x512 ![4, 0] v65 slices_S8x512_o4_0_S4x512)
  have v71 : FVec Ideal S2x512 .f32 := addf (extractStridedSlice S2x512 ![0, 0] v68 slices_S4x512_o0_0_S2x512) (extractStridedSlice S2x512 ![2, 0] v68 slices_S4x512_o2_0_S2x512)
  addf (extractStridedSlice S1x512 ![0, 0] v71 slices_S2x512_o0_0_S1x512) (extractStridedSlice S1x512 ![1, 0] v71 slices_S2x512_o1_0_S1x512)

/-- The squared distances the block's choice is made from. -/
def kSq (v28 : FVec Ideal S512x1024 .f32) (v31 : FVec Ideal S512x136 .f32) : FVec Ideal S512x1024 .f32 :=
  have v76 : FVec Ideal S512x1024 .f32 := broadcastTo S512x1024 (transpose S512x1 [1, 0] (halves (eightRows v31)) transposes_S1x512_p1_0_S512x1) broadcasts_S512x1_S512x1024
  mulf (subf v76 v28) (subf v76 v28)

/-- The first lane that holds its row's least. -/
def pickLane (v78 : FVec Ideal S512x1024 .f32) : IVec S512x1 32 :=
  have v80 : FVec Ideal S512x1 .f32 := shapeCast S512x1 (multiReduction .minimumf [1] S512 v78 0x7F800000#32 reduces_S512x1024_S512 (.inl rfl) rfl) shapeCasts_S512_S512x1
  shapeCast S512x1 (multiReductionI .minsi [1] S512
    (select (cmpf .oeq v78 (broadcastTo S512x1024 v80 broadcasts_S512x1_S512x1024)) (iota .tc S512x1024 32 [1] iota_S512x1024_d1_w32) (broadcast S512x1024 1073741824#32))
    2147483647#32 reduces_S512x1024_S512 rfl) shapeCasts_S512_S512x1

theorem pay9_eq (v28 : FVec Ideal S512x1024 .f32) (v31 : FVec Ideal S512x136 .f32) : k0_pay9 v28 v31 = pickLane (kSq v28 v31) := rfl

theorem eightRows_at (v31 : FVec Ideal S512x136 .f32) (i : Fin 8) (r : Fin 512) :
    eightRows v31 (ix2 i r) = ∑ j : Fin 17, v31 (ix2 r ⟨j.val * 8 + i.val, by omega⟩) := by
  simp only [Fin.sum_univ_castSucc, Fin.sum_univ_zero, zero_add]
  pointwise [eightRows]
  simp only [Fin.val_castSucc, Fin.val_last, Nat.reduceMul, Nat.zero_mul, Nat.zero_add]

theorem halves_at (v65 : FVec Ideal S8x512 .f32) (r : Fin 512) : halves v65 (ix2 0 r) = ∑ i : Fin 8, v65 (ix2 i r) := by
  rw [Fin.sum_univ_eight]
  pointwise [halves]
  abel

theorem kSq_at (v28 : FVec Ideal S512x1024 .f32) (v31 : FVec Ideal S512x136 .f32) (r : Fin 512) (c : Fin 1024) :
    kSq v28 v31 (ix2 r c) = ((∑ k : Fin 136, v31 (ix2 r k)) - v28 (ix2 r c)) * ((∑ k : Fin 136, v31 (ix2 r k)) - v28 (ix2 r c)) := by
  have h : halves (eightRows v31) (ix2 0 r) = ∑ k : Fin 136, v31 (ix2 r k) := by
    rw [halves_at, Fin.sum_univ_tiles (N := 136) 17 8 (by decide), Finset.sum_comm]
    exact Finset.sum_congr rfl fun i _ => eightRows_at v31 i r
  rw [← h]
  pointwise [kSq]

end Kernel
end Cert.Proof.Maths
-- ==== Proof.Least.lean ====
/-
  The first of a row's least entries: what the kernel's minimum, mask and lane numbers choose, and what the reference's
  reduction over pairs chooses.
-/
module

public import proofs.«01_k».proof.Proof.Rows

@[expose] public section

noncomputable section

namespace Cert.Proof.Maths

open Idealize.ShloMosaic

/-- `k` is the first place of the least entry. -/
def First {N : ℕ} (f : Fin N → EReal) (k : Fin N) : Prop := (∀ j, f k ≤ f j) ∧ ∀ j, f j = f k → k ≤ j

theorem First.unique {N : ℕ} {f : Fin N → EReal} {k k' : Fin N} (h : First f k) (h' : First f k') : k = k' :=
  le_antisymm (h.2 k' (le_antisymm (h'.1 k) (h.1 k'))) (h'.2 k (le_antisymm (h.1 k') (h'.1 k)))

/-- A fold by an operation that gives one of its operands, and the lesser: the result is one of what was folded, and below all. -/
theorem foldl_pick {α ι : Type} (f : α → α → α) (le : α → α → Prop) (hr : ∀ a, le a a) (ht : ∀ a b c, le a b → le b c → le a c)
    (hm : ∀ a b, f a b = a ∨ f a b = b) (hl : ∀ a b, le (f a b) a ∧ le (f a b) b) (x : ι → α) (l : List ι) (z : α) :
    (l.foldl (fun r i => f r (x i)) z = z ∨ ∃ i ∈ l, l.foldl (fun r i => f r (x i)) z = x i)
      ∧ le (l.foldl (fun r i => f r (x i)) z) z ∧ ∀ i ∈ l, le (l.foldl (fun r i => f r (x i)) z) (x i) := by
  induction l generalizing z with
  | nil => exact ⟨Or.inl rfl, hr _, fun i hi => absurd hi (by simp)⟩
  | cons a l ih =>
    obtain ⟨h1, h2, h3⟩ := ih (f z (x a))
    simp only [List.foldl_cons]
    refine ⟨?_, ht _ _ _ h2 (hl _ _).1, fun i hi => ?_⟩
    · rcases h1 with h1 | ⟨i, hi, h1⟩
      · rw [h1]
        rcases hm z (x a) with h | h
        · exact Or.inl h
        · exact Or.inr ⟨a, by simp, h⟩
      · exact Or.inr ⟨i, by simp [hi], h1⟩
    · rcases List.mem_cons.1 hi with rfl | hi
      · exact ht _ _ _ h2 (hl _ _).2
      · exact h3 i hi

theorem toInt_lane (k : ℕ) (h : k < 1024) : (BitVec.ofNat 32 k).toInt = k := by
  rw [BitVec.toInt_eq_toNat_of_lt] <;> simp only [BitVec.toNat_ofNat] <;> omega

section Kernel
open Cert.KernelIdeal Cert.KernelIdeal.Gen

theorem drop_row (i : S512x1024.Idx) : reduces_S512x1024_S512.drop i = ix1 (i 0) := by
  funext b; match b with
  | 0 => exact Fin.ext (reduces_S512x1024_S512.drop_apply_val_of_eq i 0 0)

/-- The places of row `r`, in order. -/
abbrev places (r : Fin 512) : List S512x1024.Idx :=
  ((List.finRange S512x1024.numel).map S512x1024.rowMajor.symm).filter fun i => reduces_S512x1024_S512.drop i = ix1 r

theorem mem_places (r : Fin 512) (i : S512x1024.Idx) : i ∈ places r ↔ i 0 = r := by
  simp only [places, List.mem_filter, drop_row, decide_eq_true_eq]
  constructor
  · rintro ⟨-, h⟩; exact congrFun h 0
  · rintro rfl; exact ⟨List.mem_map.2 ⟨S512x1024.rowMajor i, List.mem_finRange _, by simp⟩, rfl⟩

theorem idx_row {r : Fin 512} {i : S512x1024.Idx} (h : i 0 = r) : ∃ c : Fin 1024, i = ix2 r c := by
  subst h; refine ⟨i 1, ?_⟩; funext a; match a with
  | 0 => rfl
  | 1 => rfl

theorem cast_col {α : Type} (y : S512.Idx → α) (r : Fin 512) : shapeCast S512x1 y shapeCasts_S512_S512x1 (ix2 r 0) = y (ix1 r) := by
  pointwise

theorem min_row (v : FVec Ideal S512x1024 .f32) (r : Fin 512) :
    (∃ k : Fin 1024, multiReduction .minimumf [1] S512 v 0x7F800000#32 reduces_S512x1024_S512 (.inl rfl) rfl (ix1 r) = v (ix2 r k))
      ∧ ∀ k : Fin 1024, (multiReduction .minimumf [1] S512 v 0x7F800000#32 reduces_S512x1024_S512 (.inl rfl) rfl (ix1 r) : EReal) ≤ v (ix2 r k) := by
  have e : multiReduction .minimumf [1] S512 v 0x7F800000#32 reduces_S512x1024_S512 (.inl rfl) rfl (ix1 r)
      = (places r).foldl (fun a i => FloatOps.minimumf a (v i)) (FloatOps.ofBits (F := Ideal) .f32 0x7F800000#32) := reduceFold_eq_foldl reduces_S512x1024_S512 _ _ v (ix1 r)
  rw [e]
  obtain ⟨h1, h2, h3⟩ := foldl_pick (FloatOps.minimumf (F := Ideal) (φ := .f32)) (fun a b : EReal => a ≤ b) (fun _ => le_rfl) (fun _ _ _ => le_trans)
    (fun a b => min_choice (α := EReal) a b) (fun a b => ⟨min_le_left (α := EReal) a b, min_le_right (α := EReal) a b⟩) v (places r) (FloatOps.ofBits .f32 0x7F800000#32)
  have hk : ∀ k : Fin 1024, ix2 r k ∈ places r := fun k => (mem_places r _).2 rfl
  refine ⟨?_, fun k => h3 _ (hk k)⟩
  rcases h1 with h1 | ⟨i, hi, h1⟩
  · refine ⟨0, ?_⟩
    have := h3 _ (hk 0)
    rw [h1] at this ⊢
    have htop : (FloatOps.ofBits (F := Ideal) .f32 0x7F800000#32 : EReal) = ⊤ := by
      show Ideal.ofBits .f32 0x7F800000#32 = ⊤
      simp [Ideal.ofBits, Ideal.ieee]
    rw [htop] at this ⊢
    exact (top_le_iff.1 this).symm
  · obtain ⟨c, rfl⟩ := idx_row ((mem_places r i).1 hi)
    exact ⟨c, h1⟩

theorem minsi_cases (a b : BitVec 32) : (IntOp.minsi a b = a ∨ IntOp.minsi a b = b) ∧ (IntOp.minsi a b).toInt ≤ a.toInt ∧ (IntOp.minsi a b).toInt ≤ b.toInt := by
  unfold IntOp.minsi
  split <;> rename_i h <;> simp only [BitVec.slt, BitVec.sle, decide_eq_true_eq, Bool.not_eq_true, decide_eq_false_iff_not] at h <;> refine ⟨by simp, ?_, ?_⟩ <;> omega

theorem pickLane_first (v : FVec Ideal S512x1024 .f32) (r : Fin 512) :
    ∃ k : Fin 1024, First (fun c => v (ix2 r c)) k ∧ pickLane v (ix2 r 0) = BitVec.ofNat 32 k.val := by
  obtain ⟨⟨k₀, hk₀⟩, hmin⟩ := min_row v r
  set m := multiReduction .minimumf [1] S512 v 0x7F800000#32 reduces_S512x1024_S512 (.inl rfl) rfl with hm
  let w : IVec S512x1024 32 := select (cmpf .oeq v (broadcastTo S512x1024 (shapeCast S512x1 m shapeCasts_S512_S512x1) broadcasts_S512x1_S512x1024))
    (iota .tc S512x1024 32 [1] iota_S512x1024_d1_w32) (broadcast S512x1024 1073741824#32)
  have hw : ∀ c : Fin 1024, w (ix2 r c) = if v (ix2 r c) = m (ix1 r) then BitVec.ofNat 32 c.val else 1073741824#32 := by
    intro c
    pointwise [w]
  have hp : pickLane v (ix2 r 0) = (places r).foldl (fun a i => IntOp.minsi a (w i)) 2147483647#32 := by
    have : pickLane v (ix2 r 0) = multiReductionI .minsi [1] S512 w 2147483647#32 reduces_S512x1024_S512 rfl (ix1 r) := by
      exact cast_col (multiReductionI .minsi [1] S512 w 2147483647#32 reduces_S512x1024_S512 rfl) r
    rw [this]
    exact reduceFold_eq_foldl reduces_S512x1024_S512 IntOp.minsi _ w (ix1 r)
  obtain ⟨h1, h2, h3⟩ := foldl_pick IntOp.minsi (fun a b : BitVec 32 => a.toInt ≤ b.toInt) (fun _ => le_rfl) (fun _ _ _ => le_trans)
    (fun a b => (minsi_cases a b).1) (fun a b => (minsi_cases a b).2) w (places r) 2147483647#32
  rw [← hp] at h1 h2 h3
  have hk : ∀ k : Fin 1024, ix2 r k ∈ places r := fun k => (mem_places r _).2 rfl
  have hle : ∀ c : Fin 1024, v (ix2 r c) = m (ix1 r) → (pickLane v (ix2 r 0)).toInt ≤ c.val := by
    intro c hc
    have := h3 _ (hk c)
    rw [hw, if_pos hc, toInt_lane _ c.isLt] at this
    exact this
  have hsm : (pickLane v (ix2 r 0)).toInt < 1024 := lt_of_le_of_lt (hle k₀ hk₀.symm) (by have := k₀.isLt; omega)
  rcases h1 with h1 | ⟨i, hi, h1⟩
  · rw [h1] at hsm; exact absurd hsm (by decide)
  · obtain ⟨c, rfl⟩ := idx_row ((mem_places r i).1 hi)
    rw [hw] at h1
    split at h1
    · rename_i hc
      refine ⟨c, ⟨fun j => ?_, fun j hj => ?_⟩, h1⟩
      · show v (ix2 r c) ≤ v (ix2 r j)
        rw [hc]; exact hmin j
      · have := hle j ((show v (ix2 r j) = v (ix2 r c) from hj).trans hc)
        rw [h1, toInt_lane _ c.isLt] at this
        exact Fin.le_def.2 (by exact_mod_cast this)
    · rw [h1] at hsm; exact absurd hsm (by decide)

end Kernel
end Cert.Proof.Maths
-- ==== Proof.Chosen.lean ====
/-
  What the kernel's block holds at a row once its code is chosen: the code's number, its score and its last entry.
-/
module

public import proofs.«01_k».proof.Proof.Least

@[expose] public section

noncomputable section

namespace Cert.Proof.Maths

open Idealize.ShloMosaic
open Cert.KernelIdeal Cert.KernelIdeal.Gen Cert.Proof.Run

variable (x : Vec Ideal S512x128 .f32) (w1 : Vec Ideal S128x256 .f32) (b1 : Vec Ideal S1x256 .f32) (w2 : Vec Ideal S256x256 .f32) (b2 : Vec Ideal S1x256 .f32)
  (w3 : Vec Ideal S256x129 .f32) (b3 : Vec Ideal S1x129 .f32) (cbt : Vec Ideal S129x1024 .f32)

/-- The squared distances of row `r` of the block. -/
theorem kSq_row (r : Fin 512) (c : Fin 1024) : kSq (k0_pay7 x cbt) (k0_pay8 x w1 b1 w2 b2 w3 b3) (ix2 r c)
    = rowSq (fun k => x (ix2 r k)) (fun c k => cbt (ix2 k c)) (fun n => oW x w1 b1 w2 b2 w3 b3 (ix2 r n)) c := by
  have h : ∑ k : Fin 136, k0_pay8 x w1 b1 w2 b2 w3 b3 (ix2 r k) = rowY (fun k => x (ix2 r k)) (fun n => oW x w1 b1 w2 b2 w3 b3 (ix2 r n)) := by
    rw [Fin.sum_univ_two_halves 129 7 (by decide)]
    have h0 : ∑ k : Fin 7, k0_pay8 x w1 b1 w2 b2 w3 b3 (ix2 r ⟨129 + k.val, by omega⟩) = 0 := by
      refine Finset.sum_eq_zero fun k _ => ?_
      rw [prod_row, dif_neg (by show ¬ 129 + k.val < 129; omega)]
    rw [h0, add_zero]
    refine Finset.sum_congr rfl fun k _ => ?_
    rw [prod_row, dif_pos k.isLt]
  rw [kSq_at, h, score_row]; rfl

/-- The block's choice at row `r` is the first code of least squared distance. -/
theorem oI_first (r : Fin 512) : ∃ k : Fin 1024,
    First (rowSq (fun k => x (ix2 r k)) (fun c k => cbt (ix2 k c)) (fun n => oW x w1 b1 w2 b2 w3 b3 (ix2 r n))) k
      ∧ oI x w1 b1 w2 b2 w3 b3 cbt (ix2 r 0) = BitVec.ofNat 32 k.val := by
  obtain ⟨k, hk, h⟩ := pickLane_first (kSq (k0_pay7 x cbt) (k0_pay8 x w1 b1 w2 b2 w3 b3)) r
  refine ⟨k, ?_, h⟩
  rwa [show (fun c => kSq (k0_pay7 x cbt) (k0_pay8 x w1 b1 w2 b2 w3 b3) (ix2 r c)) = _ from funext fun c => kSq_row x w1 b1 w2 b2 w3 b3 cbt r c] at hk

/-- The list laid out for the gather holds the choice of row `128 a + b` at word `(a, b)`. -/
theorem oI3_at (a : Fin 4) (b : Fin 128) : oI3 x w1 b1 w2 b2 w3 b3 cbt (ix3 0 a b) = oI x w1 b1 w2 b2 w3 b3 cbt (ix2 ⟨a.val * 128 + b.val, by omega⟩ 0) := by
  have h : ∀ v : IVec S512x1 32, k0_pay1 v (ix3 0 a b) = v (ix2 ⟨a.val * 128 + b.val, by omega⟩ 0) := by
    intro v
    pointwise [k0_pay1]
  exact h _

theorem ofNat_lane {a b : ℕ} (ha : a < 1024) (hb : b < 1024) : BitVec.ofNat 32 a = BitVec.ofNat 32 b ↔ a = b := by
  constructor
  · intro h
    have := congrArg BitVec.toNat h
    simp only [BitVec.toNat_ofNat] at this
    omega
  · rintro rfl; rfl

/-- The mask at a row whose choice is `k`. -/
theorem mask_at (v : IVec S512x1 32) (r : Fin 512) (k : Fin 1024) (hv : v (ix2 r 0) = BitVec.ofNat 32 k.val) (c : Fin 1024) :
    k0_pay2 lanes v (ix2 r c) = if c = k then 1#1 else 0#1 := by
  pointwise [k0_pay2]
  rw [hv]
  show BitVec.ofBool (BitVec.ofNat 32 c.val == BitVec.ofNat 32 k.val) = _
  by_cases h : c = k
  · rw [if_pos h, h, beq_self_eq_true]; rfl
  · rw [if_neg h, beq_eq_false_iff_ne.2 fun e => h (Fin.ext ((ofNat_lane c.isLt k.isLt).1 e))]; rfl

/-- A sum masked to one lane. -/
theorem sum_mask (m : Fin 1024 → BitVec 1) (f : Fin 1024 → EReal) (k : Fin 1024) (hm : ∀ c, m c = if c = k then 1#1 else 0#1) :
    ∑ c : Fin 1024, (Scalar.select (m c) (f c) 0 : EReal) = f k := by
  have : ∀ c, (Scalar.select (m c) (f c) 0 : EReal) = if c = k then f c else 0 := by
    intro c; rw [hm c]; by_cases h : c = k <;> simp [h, Scalar.select]
  rw [Finset.sum_congr rfl fun c _ => this c, Finset.sum_ite_eq' Finset.univ k f, if_pos (Finset.mem_univ k)]

theorem pay3_at (s : FVec Ideal S512x1024 .f32) (v : IVec S512x1 32) (r : Fin 512) (k : Fin 1024) (hv : v (ix2 r 0) = BitVec.ofNat 32 k.val) :
    k0_pay3 s lanes v (ix2 r 0) = s (ix2 r k) := by
  have h : k0_pay3 s lanes v (ix2 r 0) = ∑ c : Fin 1024, (Scalar.select (k0_pay2 lanes v (ix2 r c)) (s (ix2 r c)) 0 : EReal) := by
    pointwise [k0_pay3]
  rw [h]
  exact sum_mask _ _ k fun c => mask_at v r k hv c

theorem pay4_at (l : Vec Ideal S1x1024 .f32) (v : IVec S512x1 32) (r : Fin 512) (k : Fin 1024) (hv : v (ix2 r 0) = BitVec.ofNat 32 k.val) :
    k0_pay4 lanes v l (ix2 r 0) = l (ix2 0 k) := by
  have h : k0_pay4 lanes v l (ix2 r 0) = ∑ c : Fin 1024, (Scalar.select (k0_pay2 lanes v (ix2 r c)) (l (ix2 0 c)) 0 : EReal) := by
    pointwise [k0_pay4]
  rw [h]
  exact sum_mask _ _ k fun c => mask_at v r k hv c

/-- The chosen code's last entry. -/
theorem lastRow_at (c : Fin 1024) : lastRow cbt (ix2 0 c) = cbt (ix2 128 c) := by
  unfold lastRow
  refine congrArg cbt ?_
  funext a; match a with
  | 0 => exact Fin.ext rfl
  | 1 => exact Fin.ext (by show 0 + 1 * c.val = c.val; omega)

end Cert.Proof.Maths
-- ==== Proof.TileViews.lean ====
/-
  The memrefs of one tile's task and what they read.

  A tile's list is row `w` of the row-number array, copied to a 4 × 128 scratch. Gather `j` reads the 128 words of row
  `j` of that scratch and fills rows `128 j … 128 j + 127` of a 512 × 128 scratch, which is then copied to block `w` of
  the output. The lemmas say which elements each memref names, and that the composition is `gathered`.
-/
module

public import proofs.«01_k».proof.Proof.Setup

@[expose] public section

noncomputable section

namespace Cert.Proof.Run

open Cert.KernelIdeal Cert.KernelIdeal.Gen

open Idealize.ShloMosaic
open Idealize.ShloMosaic.ValueIdx (ix1 ix2 ix3 eq_ix1 eq_ix2)
open Idealize.ShloMosaic.SparseCore (S V T rows gatherPayload)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

/-! ## The memrefs -/

abbrev sV : Memref sig .scVector .vmem S4x128 .i32 := Memref.whole cc1_scratch0
abbrev rV : Memref sig .scVector .vmem S512x128 .f32 := Memref.whole cc1_scratch1

abbrev cV (L : grid1.Coords) : Fin τ.nSC := (L 0).castLE hcore1
abbrev jV (L : grid1.Coords) : Fin τ.nSub := (L 1).castLE hsub1
/-- The thread of the tile with coordinates `L`, and its number. -/
abbrev tV (d : Dev nD) (L : grid1.Coords) : Thread nD τ := V d (cV L) (jV L)
abbrev wL (L : grid1.Coords) : Fin 32 := tileNo (Fin.cast (show grid1.bound 0 = 2 from rfl) (L 0)) (Fin.cast (show grid1.bound 1 = 16 from rfl) (L 1))

abbrev ixRectK (L : grid1.Coords) : Rect S32x4x128 := Rect.unit (s := S32x4x128) (k1_off1 L) S1x4x128.size (k1_off1_inb L)
abbrev goRectK (L : grid1.Coords) : Rect S16384x128 := Rect.unit (s := S16384x128) (k1_off2 L) S512x128.size (k1_off2_inb L)
/-- The tile's list and its block of the output. -/
abbrev ixK (L : grid1.Coords) : Memref sig .scVector .hbm S4x128 .i32 := (ixV.slice (ixRectK L) (fun _ => rfl)).squeeze S4x128 squeezes_S1x4x128_S4x128
abbrev goK (L : grid1.Coords) : Memref sig .scVector .hbm S512x128 .f32 := goV.slice (goRectK L) (fun _ => rfl)
/-- The table, as every gather names it. -/
abbrev tbK : Memref sig .scVector .hbm S1024x128 .f32 := tbV.slice (Rect.unit (s := S1024x128) ![0, 0] S1024x128.size inb_S1024x128_S1024x128_0_0) (fun _ => rfl)
/-- The four destinations and the four lists. -/
abbrev ds0 : Memref sig .scVector .vmem S128x128 .f32 := rV.slice (Rect.unit (s := S512x128) ![0, 0] S128x128.size inb_S512x128_S128x128_0_0) (fun _ => rfl)
abbrev ds1 : Memref sig .scVector .vmem S128x128 .f32 := rV.slice (Rect.unit (s := S512x128) ![128, 0] S128x128.size inb_S512x128_S128x128_128_0) (fun _ => rfl)
abbrev ds2 : Memref sig .scVector .vmem S128x128 .f32 := rV.slice (Rect.unit (s := S512x128) ![256, 0] S128x128.size inb_S512x128_S128x128_256_0) (fun _ => rfl)
abbrev ds3 : Memref sig .scVector .vmem S128x128 .f32 := rV.slice (Rect.unit (s := S512x128) ![384, 0] S128x128.size inb_S512x128_S128x128_384_0) (fun _ => rfl)
abbrev ls0 : Memref sig .scVector .vmem S128 .i32 := (sV.slice (Rect.unit (s := S4x128) ![0, 0] S1x128.size inb_S4x128_S1x128_0_0) (fun _ => rfl)).squeeze S128 squeezes_S1x128_S128
abbrev ls1 : Memref sig .scVector .vmem S128 .i32 := (sV.slice (Rect.unit (s := S4x128) ![1, 0] S1x128.size inb_S4x128_S1x128_1_0) (fun _ => rfl)).squeeze S128 squeezes_S1x128_S128
abbrev ls2 : Memref sig .scVector .vmem S128 .i32 := (sV.slice (Rect.unit (s := S4x128) ![2, 0] S1x128.size inb_S4x128_S1x128_2_0) (fun _ => rfl)).squeeze S128 squeezes_S1x128_S128
abbrev ls3 : Memref sig .scVector .vmem S128 .i32 := (sV.slice (Rect.unit (s := S4x128) ![3, 0] S1x128.size inb_S4x128_S1x128_3_0) (fun _ => rfl)).squeeze S128 squeezes_S1x128_S128

/-- The same four, by number. -/
abbrev dsR (j : Fin 4) : Rect S512x128 := Rect.unit (s := S512x128) ![128 * j.val, 0] S128x128.size
  (fun a => by match a with | 0 => (show 128 * j.val + 128 ≤ 512; omega) | 1 => exact le_refl 128)
abbrev lsR (j : Fin 4) : Rect S4x128 := Rect.unit (s := S4x128) ![j.val, 0] S1x128.size
  (fun a => by match a with | 0 => (show j.val + 1 ≤ 4; omega) | 1 => exact le_refl 128)
abbrev dsM (j : Fin 4) : Memref sig .scVector .vmem S128x128 .f32 := rV.slice (dsR j) (fun _ => rfl)
abbrev lsM (j : Fin 4) : Memref sig .scVector .vmem S128 .i32 := (sV.slice (lsR j) (fun _ => rfl)).squeeze S128 squeezes_S1x128_S128

theorem wL_val (L : grid1.Coords) : (wL L).val = 2 * (L 1).val + (L 0).val := rfl

/-! ## The element sets -/

theorem ixRectK_eq (L : grid1.Coords) : ixRectK L = ixPart (wL L) := by
  unfold ixRectK ixPart Rect.part Rect.block
  congr 1 <;> funext a
  · rw [k1_off1_eq]
    match a with
    | 0 => simp [Shape.partIx, Shape.partSize, -Fin.val_cast, wL_val]
    | 1 => simp [Shape.partIx, Shape.partSize]
    | 2 => simp [Shape.partIx, Shape.partSize]
  · match a with
    | 0 => simp [Shape.partSize]
    | 1 => simp [Shape.partSize]
    | 2 => simp [Shape.partSize]

theorem goRectK_eq (L : grid1.Coords) : goRectK L = goPart (wL L) := by
  unfold goRectK goPart Rect.part Rect.block
  congr 1 <;> funext a
  · rw [k1_off2_eq]
    match a with
    | 0 => have := wL_val L; simp [Shape.partIx, Shape.partSize, wL_val]; omega
    | 1 => simp [Shape.partIx, Shape.partSize]
  · match a with
    | 0 => simp [Shape.partSize]
    | 1 => simp [Shape.partSize]

theorem set_ixK (L : grid1.Coords) : (ixK L).view.set = ixSet (wL L) := by
  show ((ixV.view.slice (ixRectK L)).reshape S4x128 squeezes_S1x4x128_S4x128.numel_eq).set = _
  rw [View.set_reshape]
  show ((View.whole (main_v5_2_scv : Ref sig .scVector)).slice (ixRectK L)).set = _
  rw [View.set_slice, ixRectK_eq]; exact Finset.map_refl

theorem set_goK (L : grid1.Coords) : (goK L).view.set = goSet (wL L) := by
  show ((View.whole (main_v6_scv : Ref sig .scVector)).slice (goRectK L)).set = _
  rw [View.set_slice, goRectK_eq]; exact Finset.map_refl

abbrev dsSet (j : Fin 4) : Finset S512x128.Idx := (dsM j).view.set
abbrev lsSet (j : Fin 4) : Finset S4x128.Idx := (lsM j).view.set

theorem set_dsM (j : Fin 4) : dsSet j = (dsR j).set := by
  show ((View.whole (cc1_scratch1 : Ref sig .scVector)).slice (dsR j)).set = _
  rw [View.set_slice]; exact Finset.map_refl

theorem set_lsM (j : Fin 4) : lsSet j = (lsR j).set := by
  show (((View.whole (cc1_scratch0 : Ref sig .scVector)).slice (lsR j)).reshape S128 squeezes_S1x128_S128.numel_eq).set = _
  rw [View.set_reshape, View.set_slice]; exact Finset.map_refl

theorem ds_disjoint : ∀ i ∈ (Finset.univ : Finset (Fin 4)), ∀ j ∈ (Finset.univ : Finset (Fin 4)), i ≠ j → Disjoint (dsSet i) (dsSet j) := by
  intro i _ j _ h
  rw [set_dsM, set_dsM]
  refine Finset.disjoint_left.mpr fun y hi hj => h (Fin.ext ?_)
  have h1 := (Rect.mem_set_unit.mp hi) 0
  have h2 := (Rect.mem_set_unit.mp hj) 0
  simp at h1 h2; omega

theorem ls_disjoint : ∀ i ∈ (Finset.univ : Finset (Fin 4)), ∀ j ∈ (Finset.univ : Finset (Fin 4)), i ≠ j → Disjoint (lsSet i) (lsSet j) := by
  intro i _ j _ h
  rw [set_lsM, set_lsM]
  refine Finset.disjoint_left.mpr fun y hi hj => h (Fin.ext ?_)
  have h1 := (Rect.mem_set_unit.mp hi) 0
  have h2 := (Rect.mem_set_unit.mp hj) 0
  simp at h1 h2; omega

theorem ds_cover : (Finset.univ : Finset (Fin 4)).biUnion dsSet = Finset.univ := by
  ext y
  simp only [Finset.mem_biUnion, Finset.mem_univ, _root_.true_and, _root_.iff_true]
  have h0 : (y 0).val < 512 := (y 0).isLt
  have h1 : (y 1).val < 128 := (y 1).isLt
  refine ⟨⟨(y 0).val / 128, by omega⟩, ?_⟩
  rw [set_dsM]
  refine Rect.mem_set_unit.mpr fun a => ?_
  match a with
  | 0 => simp; omega
  | 1 => simp; exact h1

theorem ls_cover : (Finset.univ : Finset (Fin 4)).biUnion lsSet = Finset.univ := by
  ext y
  simp only [Finset.mem_biUnion, Finset.mem_univ, _root_.true_and, _root_.iff_true]
  have h0 : (y 0).val < 4 := (y 0).isLt
  have h1 : (y 1).val < 128 := (y 1).isLt
  refine ⟨⟨(y 0).val, by omega⟩, ?_⟩
  rw [set_lsM]
  refine Rect.mem_set_unit.mpr fun a => ?_
  match a with
  | 0 => simp
  | 1 => simp; exact h1

/-! ## What they read -/

variable (tb : (d : Dev nD) → Buf (Elt F) (tbLoc d)) (ix : (d : Dev nD) → Buf (Elt F) (ixLoc d)) (g0 : (d : Dev nD) → Buf (Elt F) (goLoc d))

/-- The tile's list, as the first scratch holds it. -/
def lst (d : Dev nD) (w : Fin 32) : S4x128.Idx → BitVec 32 := fun x => ix d (ix3 (n0 := 32) (n1 := 4) (n2 := 128) w (x 0) (x 1))

/-- The tile's rows, as the second scratch holds them. -/
def tileRows (d : Dev nD) (w : Fin 32) : S512x128.Idx → F .f32 := fun y =>
  tb d (ix2 (n0 := 1024) (n1 := 128) (rowNo ix d (ix3 (n0 := 32) (n1 := 4) (n2 := 128) w
    ⟨(y 0).val / 128, by have : (y 0).val < 512 := (y 0).isLt; omega⟩ ⟨(y 0).val % 128, Nat.mod_lt _ (by decide)⟩)) (y 1))

theorem read_ixK (d : Dev nD) (L : grid1.Coords) : (ixK L).view.read (Elt F) (ix d) = lst ix d (wL L) := by
  funext x
  show ix d ((ixRectK L).emb (Shape.reshapeEquiv squeezes_S1x4x128_S4x128.numel_eq x)) = _
  rw [Shape.reshapeEquiv_eq_of_rowMajor (y := (ix3 (n0 := 1) (n1 := 4) (n2 := 128) 0 (x 0) (x 1) : S1x4x128.Idx)) squeezes_S1x4x128_S4x128.numel_eq
    (by rw [Shape.rowMajor_val_three, Shape.rowMajor_val_two]; simp)]
  unfold lst
  congr 1
  funext a
  apply Fin.ext
  rw [Rect.emb_apply]
  simp only [Rect.off_unit, Rect.stride_unit, k1_off1_eq]
  match a with
  | 0 => simp; exact (wL_val L).symm
  | 1 => simp
  | 2 => simp

theorem read_tbK (d : Dev nD) : tbK.view.read (Elt F) (tb d) = tb d := by
  funext x
  show tb d ((Rect.unit (s := S1024x128) ![0, 0] S1024x128.size inb_S1024x128_S1024x128_0_0).emb x) = tb d x
  congr 1
  funext a
  apply Fin.ext
  rw [Rect.emb_apply]
  simp only [Rect.off_unit, Rect.stride_unit]
  match a with
  | 0 => simp
  | 1 => simp

theorem read_lsM (j : Fin 4) (f : S4x128.Idx → BitVec 32) (x : S128.Idx) : (lsM j).view.read (Elt F) f x = f (ix2 (n0 := 4) (n1 := 128) j (x 0)) := by
  show f ((lsR j).emb (Shape.reshapeEquiv squeezes_S1x128_S128.numel_eq x)) = _
  rw [Shape.reshapeEquiv_eq_of_rowMajor (y := (ix2 (n0 := 1) (n1 := 128) 0 (x 0) : S1x128.Idx)) squeezes_S1x128_S128.numel_eq
    (by rw [Shape.rowMajor_val_two, Shape.rowMajor_val_one]; simp)]
  congr 1
  funext a
  apply Fin.ext
  rw [Rect.emb_apply]
  simp only [Rect.off_unit, Rect.stride_unit]
  match a with
  | 0 => simp
  | 1 => simp

/-- Every word of a tile's list is in range when every word of the lists is. -/
theorem lst_lt (hix : ∀ d x, (ix d x : BitVec 32).toNat < 1024) (d : Dev nD) (w : Fin 32) (j : Fin 4) :
    ∀ x, ((lsM j).view.read (Elt F) (lst ix d w) x : BitVec 32).toNat < 1024 := fun x => by
  rw [read_lsM]; exact hix d _

/-- What gather `j` delivers is its rows of `tileRows`. -/
theorem gather_eq (hix : ∀ d x, (ix d x : BitVec 32).toNat < 1024) (d : Dev nD) (w : Fin 32) (j : Fin 4) (x : S128x128.Idx) :
    gatherPayload (F := F) gathers_S1024x128_S128x128 (tbK.view.read (Elt F) (tb d))
        (rows (o := 128) (z := 1024) ((lsM j).view.read (Elt F) (lst ix d w)) rfl (lst_lt ix hix d w j)) x
      = tileRows tb ix d w ((dsR j).emb x) := by
  have hx0 : (x 0).val < 128 := (x 0).isLt
  have hx1 : (x 1).val < 128 := (x 1).isLt
  unfold gatherPayload tileRows
  rw [read_tbK]
  congr 1
  funext a
  match a with
  | 0 =>
    refine (Shape.Gathers.idx_axis _ _ _).trans ?_
    apply Fin.ext
    show ((lsM j).view.read (Elt F) (lst ix d w) (S128.rowMajor.symm _) : BitVec 32).toNat = (ix d _ : BitVec 32).toNat % 1024
    rw [Nat.mod_eq_of_lt (hix d _), read_lsM]
    unfold lst
    congr 2
    have e0 : ((S128.rowMajor.symm ((x 0).cast rfl)) 0).val = (x 0).val := by
      rw [← Shape.rowMajor_val_one, Equiv.apply_symm_apply]; rfl
    have e1 : (((dsR j).emb x) 0).val = 128 * j.val + (x 0).val := by
      rw [Rect.emb_apply]; simp
    funext b
    apply Fin.ext
    match b with
    | 0 => rfl
    | 1 => show j.val = (((dsR j).emb x) 0).val / 128; rw [e1]; omega
    | 2 => show ((S128.rowMajor.symm ((x 0).cast rfl)) 0).val = (((dsR j).emb x) 0).val % 128; rw [e0, e1]; omega
  | 1 =>
    apply Fin.ext
    refine (Shape.Gathers.idx_of_ne _ _ _ 1 (by decide)).trans ?_
    show (x 1).val = (((dsR j).emb x) 1).val
    rw [Rect.emb_apply]; simp

/-- The tile's rows, copied to its block, are the block of `gathered`. -/
theorem gathered_eq (d : Dev nD) (L : grid1.Coords) (x : S512x128.Idx) :
    gathered tb ix d ((goRectK L).emb x) = tileRows tb ix d (wL L) x := by
  have hx0 : (x 0).val < 512 := (x 0).isLt
  have e0 : (((goRectK L).emb x) 0).val = 512 * (wL L).val + (x 0).val := by
    rw [Rect.emb_apply]; simp only [Rect.off_unit, Rect.stride_unit, k1_off2_eq]; have := wL_val L; simp [wL_val]; omega
  have e1 : (((goRectK L).emb x) 1) = x 1 := by
    apply Fin.ext; rw [Rect.emb_apply]; simp only [Rect.off_unit, Rect.stride_unit, k1_off2_eq]; simp
  unfold gathered tileRows
  rw [e1]
  congr 3
  unfold wordOf
  funext b
  apply Fin.ext
  match b with
  | 0 => show (((goRectK L).emb x) 0).val / 512 = (wL L).val; rw [e0]; omega
  | 1 => show (((goRectK L).emb x) 0).val % 512 / 128 = (x 0).val / 128; rw [e0]; omega
  | 2 => show (((goRectK L).emb x) 0).val % 128 = (x 0).val % 128; rw [e0]; omega

end Cert.Proof.Run

end
-- ==== Proof.Tile.lean ====
/-
  One tile's task: the copy of its list, four gathers started on one semaphore before any is waited for, their four
  waits, and the copy of the gathered rows to its block of the output. The task is run once, at a symbolic SparseCore
  and subcore, with the value of every buffer carried to the end.
-/
module

public import proofs.«01_k».proof.Proof.TileViews

@[expose] public section

noncomputable section

namespace Cert.Proof.Run

open Cert.KernelIdeal Cert.KernelIdeal.Gen

open Idealize.ShloMosaic Idealize.ShloMosaic.Transfers
open Idealize.ShloMosaic.ValueIdx (ix1 ix2 ix3 eq_ix1 eq_ix2)
open Idealize.ShloMosaic.SparseCore (S V T rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable (tb : (d : Dev nD) → Buf (Elt F) (tbLoc d)) (ix : (d : Dev nD) → Buf (Elt F) (ixLoc d)) (g0 : (d : Dev nD) → Buf (Elt F) (goLoc d))
variable (d : Dev nD) (L : grid1.Coords)

/-! ## The tile's semaphores and scratch buffers -/

abbrev cAcell : GSem nD τ sig := (tV d L, .dma cc1_scoped0.sem)
abbrev cBcell : GSem nD τ sig := (tV d L, .dma cc1_scoped1.sem)
abbrev cCcell : GSem nD τ sig := (tV d L, .dma cc1_scratch2.sem)

theorem ownSems0_V :
    (ownSems0 (tV d L) : sProp (MM F))
      = iprop(semVal (cAcell d L) 0 ∗ semVal (cBcell d L) 0 ∗ semVal (cCcell d L) 0
          ∗ bigSep ((((ownCells (tV d L)).erase (cAcell d L)).erase (cBcell d L)).erase (cCcell d L)) fun g => semVal g 0) := by
  unfold SparseCore.Cfg.ownSems0
  rw [SparseCore.bigSep_erase' ((mem_ownCells (g := cAcell d L)).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d L)).mpr ⟨rfl, by
      show (SemLoc.dma cc1_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d L)).mpr ⟨rfl, by show (SemLoc.dma cc1_scratch2.sem : SemLoc sig).isScoped .scVector = true; decide⟩⟩⟩)]

theorem ownBufs_V :
    (ownBufs (tV d L) : sProp (MM F))
      = iprop((∃ f, (tV d L).loc cc1_scratch0 ↦{fullShare} f) ∗ (∃ f, (tV d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-! ## The buffers as the task addresses them -/

theorem pts_ixK (f : Buf (Elt F) (ixLoc d)) :
    ((ixK L).view.loc (tV d L) ↦[(ixK L).view.set]{fullShare} f : sProp (MM F)) = ixLoc d ↦[ixSet (wL L)]{fullShare} f := by
  rw [set_ixK]
theorem pts_goK (f : Buf (Elt F) (goLoc d)) :
    ((goK L).view.loc (tV d L) ↦[(goK L).view.set]{fullShare} f : sProp (MM F)) = goLoc d ↦[goSet (wL L)]{fullShare} f := by
  rw [set_goK]
theorem pts_tbV (q : PosShare TreeShare) (f : Buf (Elt F) (tbLoc d)) :
    (tbV.view.loc (tV d L) ↦{q} f : sProp (MM F)) = tbLoc d ↦{q} f := rfl
theorem pts_sV (f : Buf (Elt F) ((tV d L).loc cc1_scratch0)) :
    (sV.view.loc (tV d L) ↦{fullShare} f : sProp (MM F)) = (tV d L).loc cc1_scratch0 ↦{fullShare} f := rfl
theorem pts_rV (f : Buf (Elt F) ((tV d L).loc cc1_scratch1)) :
    (rV.view.loc (tV d L) ↦{fullShare} f : sProp (MM F)) = (tV d L).loc cc1_scratch1 ↦{fullShare} f := rfl

/-! ## The batch of the four gathers' rows -/

variable (hix : ∀ d x, (ix d x : BitVec 32).toNat < 1024)

/-- Gather `j`'s share of the table. -/
abbrev gq (j : Fin 4) : PosShare TreeShare := pieceOf (tq (wL L)) 4 (by decide) j

/-- What row `k` of gather `j` brings back. -/
def rowB (fr : S512x128.Idx → F .f32) (j : Fin 4) (k : Fin 128) : sProp (MM F) :=
  rowBack (F := F) (Ix := HIx 1) (Name := ℕ) (U := UU) (Lvl := ℕ) (tV d L) tbK (dsM j) gathers_S1024x128_S128x128 (lsM j) rfl (gq L j) fullShare
    (tb d) fr (lst ix d (wL L)) (by decide) (lst_lt ix hix d (wL L) j) k

/-- What member `t` of the batch brings back: row `t % 128` of gather `t / 128`. -/
def DD (fr : S512x128.Idx → F .f32) (t : Fin 512) : sProp (MM F) :=
  rowB tb ix d L hix fr ⟨t.val / 128, by omega⟩ ⟨t.val % 128, Nat.mod_lt _ (by decide)⟩

theorem DD_at (fr : S512x128.Idx → F .f32) (j : Fin 4) (k : Fin 128) (t : Fin 512) (h : t.val = 128 * j.val + k.val) :
    DD tb ix d L hix fr t = rowB tb ix d L hix fr j k := by
  unfold DD
  congr 1 <;> apply Fin.ext
  · show t.val / 128 = j.val; omega
  · show t.val % 128 = k.val; omega

instance DD_storable (fr : S512x128.Idx → F .f32) (t : Fin 512) : Storable (upEmb : UEmb _ (MM F)) (DD tb ix d L hix fr t) := by
  unfold DD rowB rowBack; infer_instance

theorem credit_row (j : Fin 4) : ∀ k, ((dsM j).slice (S128x128.rowRect (gathers_S1024x128_S128x128.axis') k) (S128x128.stride_rowRect _ k)).view.dmaCredit = 4096 := by
  revert j; decide +kernel

theorem bigSep_fin4 (Φ : Fin 4 → sProp (MM F)) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

theorem ds_split (f : S512x128.Idx → F .f32) :
    (rV.view.loc (tV d L) ↦{fullShare} f : sProp (MM F)) = iprop((((dsM 0).view.loc (tV d L) ↦[(dsM 0).view.set]{fullShare} f)
      ∗ ((dsM 1).view.loc (tV d L) ↦[(dsM 1).view.set]{fullShare} f) ∗ ((dsM 2).view.loc (tV d L) ↦[(dsM 2).view.set]{fullShare} f)
      ∗ ((dsM 3).view.loc (tV d L) ↦[(dsM 3).view.set]{fullShare} f))) := by
  rw [← bigSep_fin4 (fun j => ((dsM j).view.loc (tV d L) ↦[dsSet j]{fullShare} f : sProp (MM F))),
    ← pointsTo_biUnion Finset.univ (ℓ := rV.view.loc (tV d L)) dsSet ds_disjoint, ds_cover]

theorem ls_split (f : S4x128.Idx → BitVec 32) :
    (sV.view.loc (tV d L) ↦{fullShare} f : sProp (MM F)) = iprop((((lsM 0).view.loc (tV d L) ↦[(lsM 0).view.set]{fullShare} f)
      ∗ ((lsM 1).view.loc (tV d L) ↦[(lsM 1).view.set]{fullShare} f) ∗ ((lsM 2).view.loc (tV d L) ↦[(lsM 2).view.set]{fullShare} f)
      ∗ ((lsM 3).view.loc (tV d L) ↦[(lsM 3).view.set]{fullShare} f))) := by
  rw [← bigSep_fin4 (fun j => ((lsM j).view.loc (tV d L) ↦[lsSet j]{fullShare} f : sProp (MM F))),
    ← pointsTo_biUnion Finset.univ (ℓ := sV.view.loc (tV d L)) lsSet ls_disjoint, ls_cover]

theorem tb_split (f : Buf (Elt F) (tbLoc d)) :
    (tbK.view.loc (tV d L) ↦[tbK.view.set]{tq (wL L)} f : sProp (MM F)) = iprop((tbK.view.loc (tV d L) ↦[tbK.view.set]{gq L 0} f)
      ∗ (tbK.view.loc (tV d L) ↦[tbK.view.set]{gq L 1} f) ∗ (tbK.view.loc (tV d L) ↦[tbK.view.set]{gq L 2} f)
      ∗ (tbK.view.loc (tV d L) ↦[tbK.view.set]{gq L 3} f)) := by
  rw [pointsTo_piecesOf (tbK.view.set) f (o := 4) (by decide) (tq (wL L)), bigSep_fin4]

/-- A gather's destination, written with what it delivers, holds its rows of `tileRows`. -/
theorem ds_written (fr : S512x128.Idx → F .f32) (j : Fin 4) :
    ((dsM j).view.loc (tV d L) ↦[(dsM j).view.set]{fullShare} ((dsM j).view.write (Elt F) fr
        (gatherPayload (F := F) gathers_S1024x128_S128x128 (tbK.view.read (Elt F) (tb d))
          (rows (o := 128) (z := 1024) ((lsM j).view.read (Elt F) (lst ix d (wL L))) rfl (lst_lt ix hix d (wL L) j))) Finset.univ) : sProp (MM F))
      = ((dsM j).view.loc (tV d L) ↦[(dsM j).view.set]{fullShare} tileRows tb ix d (wL L)) := by
  refine pointsTo_congr fun y hy => ?_
  obtain ⟨x, -, rfl⟩ := Finset.mem_map.mp hy
  rw [View.write_emb_of_mem _ _ (Finset.mem_univ x)]
  exact (cast_eq _ _).trans (gather_eq tb ix hix d (wL L) j x)

theorem DD_block (fr : S512x128.Idx → F .f32) (j : Fin 4) (b : ℕ) (hb : b + 128 ≤ 512) (h : b = 128 * j.val) :
    (bigSep Finset.univ fun k : Fin 128 => DD tb ix d L hix fr (blockMem hb k)) = bigSep Finset.univ (rowB tb ix d L hix fr j) :=
  bigSep_congr fun k _ => DD_at tb ix d L hix fr j k _ (by simp only [blockMem]; omega)

/-- Every member of the batch: the second scratch gathered, the list and the table's share back. -/
theorem rows_join (fr : S512x128.Idx → F .f32) :
    bigSep Finset.univ (DD tb ix d L hix fr)
      ⊢ iprop((rV.view.loc (tV d L) ↦{fullShare} tileRows tb ix d (wL L)) ∗ (tbK.view.loc (tV d L) ↦[tbK.view.set]{tq (wL L)} tb d)
          ∗ (sV.view.loc (tV d L) ↦{fullShare} lst ix d (wL L))) := by
  have hj : ∀ j : Fin 4, bigSep Finset.univ (rowB tb ix d L hix fr j)
      ⊢ iprop(((dsM j).view.loc (tV d L) ↦[(dsM j).view.set]{fullShare} tileRows tb ix d (wL L))
          ∗ (tbK.view.loc (tV d L) ↦[tbK.view.set]{gq L j} tb d) ∗ ((lsM j).view.loc (tV d L) ↦[(lsM j).view.set]{fullShare} lst ix d (wL L))) := fun j => by
    rw [← ds_written tb ix d L hix fr j]
    exact rowBack_join (F := F) (Ix := HIx 1) (Name := ℕ) (U := UU) (Lvl := ℕ) (tV d L) (src := tbK) (dst := dsM j) (hg := gathers_S1024x128_S128x128)
      (offs := lsM j) (hn := rfl) (q := gq L j) (qo := fullShare) (fs := tb d) (fd := fr) (fo := lst ix d (wL L)) (hs := by decide)
      (hin := lst_lt ix hix d (wL L) j)
  rw [bigSep_pending_zero, pending_block _ 0 128 (by decide), pending_block _ (0 + 128) 128 (by decide), pending_block _ (0 + 128 + 128) 128 (by decide),
    pending_block _ (0 + 128 + 128 + 128) 128 (by decide)]
  rw [DD_block tb ix d L hix fr 0 _ _ (by simp), DD_block tb ix d L hix fr 1 _ _ (by simp), DD_block tb ix d L hix fr 2 _ _ (by simp),
    DD_block tb ix d L hix fr 3 _ _ (by simp)]
  rw [ds_split, ls_split, tb_split]
  iintro ⟨H0, H1, H2, H3, -⟩
  ihave H0 := hj 0 $$ H0
  ihave H1 := hj 1 $$ H1
  ihave H2 := hj 2 $$ H2
  ihave H3 := hj 3 $$ H3
  icases H0 with ⟨Hd0, Ht0, Hl0⟩
  icases H1 with ⟨Hd1, Ht1, Hl1⟩
  icases H2 with ⟨Hd2, Ht2, Hl2⟩
  icases H3 with ⟨Hd3, Ht3, Hl3⟩
  isplitl [Hd0 Hd1 Hd2 Hd3]
  · isplitl [Hd0]; · iexact Hd0
    isplitl [Hd1]; · iexact Hd1
    isplitl [Hd2]; · iexact Hd2
    iexact Hd3
  isplitl [Ht0 Ht1 Ht2 Ht3]
  · isplitl [Ht0]; · iexact Ht0
    isplitl [Ht1]; · iexact Ht1
    isplitl [Ht2]; · iexact Ht2
    iexact Ht3
  · isplitl [Hl0]; · iexact Hl0
    isplitl [Hl1]; · iexact Hl1
    isplitl [Hl2]; · iexact Hl2
    iexact Hl3

/-- A resource put aside, for the executor to pass by. -/
def aside (R : sProp (MM F)) : sProp (MM F) := R
theorem aside_in (R : sProp (MM F)) : R ⊢ aside R := Entails.of_eq rfl
theorem aside_out (R : sProp (MM F)) : aside R ⊢ R := Entails.of_eq rfl

theorem read_lst (fs : Buf (Elt F) (sV.view.loc (tV d L))) (pay : S4x128.Idx → Elt F .i32)
    (hpay : pay = (ixK L).view.read (Elt F) (ix d)) :
    View.write (Elt F) sV.view fs pay Finset.univ = lst ix d (wL L) := by
  subst hpay
  rw [View.write_whole_univ, read_ixK]

/-- The tile's block of the output, written with what the tile's second scratch holds, holds the gathered rows. -/
theorem go_written (pay : S512x128.Idx → F .f32) (hpay : pay = rV.view.read (Elt F) (tileRows tb ix d (wL L))) :
    ((goK L).view.loc (tV d L) ↦[(goK L).view.set]{fullShare} (goK L).view.writes (Elt F) (g0 d) [⟨Rect.whole S512x128, pay⟩] : sProp (MM F))
      = (goLoc d ↦[goSet (wL L)]{fullShare} gathered tb ix d) := by
  subst hpay
  rw [← pts_goK]
  refine pointsTo_congr fun y hy => ?_
  obtain ⟨x, -, rfl⟩ := Finset.mem_map.mp hy
  have hw := congrFun (View.write_univ_eq_writes_whole (Val := Elt F) (goK L).view (g0 d) [] (tileRows tb ix d (wL L))) ((goK L).view.emb x)
  simp only [Memref.view_whole, View.read_whole]
  refine (hw.symm.trans ?_)
  rw [View.write_emb_of_mem _ _ (Finset.mem_univ x)]
  exact (cast_eq _ _).trans (gathered_eq tb ix d L x).symm

set_option maxHeartbeats 4000000 in
include hix in
theorem tile_body [FloatOps F] (hF : (K (F := F)).Facts) (O : CellTallies nD τ sig (HIx 1)) (W : Waits sig (HIx 1)) (hO : ∀ g, O g none = 0) :
    iprop(levAts (K (F := F)).L (K (F := F)).lev ∗ emp ∗ goRes tb ix g0 d (wL L)
        ∗ scopedBufs (tV d L) ∗ scopedSems0 (tV d L) ∗ owes (tV d L) O W)
      ⊢ wp frame (wpE (defs₀ (F := F)) 𝒱₀ (tV d L) none) Set.univ
          (cc1_gather_k L tbV (Memref.isWhole_whole _) ixV (Memref.isWhole_whole _) goV (Memref.isWhole_whole _)
            sV (Memref.isWhole_whole _) rV (Memref.isWhole_whole _) cc1_scratch2 cc1_scoped0 cc1_scoped1)
          fun _ => iprop(tdRes tb ix d (wL L)
            ∗ scopedBufs (tV d L) ∗ scopedSems0 (tV d L)
            ∗ ∃ W', ⌜∀ p ∈ W', p ∈ W ∨ p.2 = none⌝ ∗ owes (tV d L) O W') := by
  have _ := hix
  unfold goRes tdRes
  simp only [cc1_gather_k_eq_skeleton]; unfold cc1_gather_k_skel
  simp only [k1_part1_eq_skeleton, k1_part2_eq_skeleton]; unfold k1_part1_skel k1_part2_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (tV d L) (default : HIx 1) O from
    (K (F := F)).mayWaits_none (thr := tV d L) hO) $$ Hlv
  ihave Hi' := (Entails.of_eq (pts_ixK (F := F) d L _).symm) $$ Hi
  ihave Ho' := (Entails.of_eq (pts_goK (F := F) d L _).symm) $$ Ho
  ihave Hx' := (Entails.of_eq (pts_tbV (F := F) d L _ _).symm) $$ Hx
  ihave Hs' := (Entails.of_eq (pts_sV (F := F) d L _).symm) $$ Hs
  ihave Hr' := (Entails.of_eq (pts_rV (F := F) d L _).symm) $$ Hr
  imod (batch_alloc' countersEmb (tV d L) (default : HIx 1) 4096 (sm := .dma cc1_scratch2.sem) (E := Set.univ) (DD tb ix d L hix fr)) $$ HsemC with HB
  sl_exec
  ihave Hs'' := (Entails.of_eq (congrArg (fun f => (sV.view.loc (tV d L) ↦{fullShare} f : sProp (MM F))) (read_lst ix d L fs (tile_body.sl.dma0 ix d L) rfl))) $$ Hs'
  ihave Hs4 := (Entails.of_eq (ls_split d L (lst ix d (wL L)))) $$ Hs''
  icases Hs4 with ⟨Hs0, Hs1, Hs2, Hs3⟩
  ihave Hr4 := (Entails.of_eq (ds_split d L fr)) $$ Hr'
  icases Hr4 with ⟨Hr0, Hr1, Hr2, Hr3⟩
  ihave Hxs := (pointsTo_split_subset (q := tq (wL L)) (f := tb d) (S := Finset.univ) (Finset.subset_univ tbK.view.set)).1 $$ Hx'
  icases Hxs with ⟨Hxs, Hxr⟩
  ihave Hx4 := (Entails.of_eq (tb_split d L (tb d))) $$ Hxs
  icases Hx4 with ⟨Hx0, Hx1, Hx2, Hx3⟩
  iapply (wp_gatherInBatch countersEmb 𝒱₀ (tV d L) none (src := tbK) (dst := dsM 0) (hg := gathers_S1024x128_S128x128) (offs := lsM 0) (hn := rfl)
      (q := gq L 0) (qo := fullShare) (fs := tb d) (fd := fr) (fo := lst ix d (wL L)) (default : HIx 1) 4096 0 (D := DD tb ix d L hix fr)
      (credit_row 0) (by decide) (lst_lt ix hix d (wL L) 0) (by decide)
      (fun k => Entails.of_eq (DD_at tb ix d L hix fr 0 k _ rfl).symm)) $$ [Hx0 Hr0 Hs0 HB]
  · isplitl [Hx0]; · iexact Hx0
    isplitl [Hr0]; · iexact Hr0
    isplitl [Hs0]; · iexact Hs0
    iexact HB
  iintro HB
  sl_exec
  iapply (wp_gatherInBatch countersEmb 𝒱₀ (tV d L) none (src := tbK) (dst := dsM 1) (hg := gathers_S1024x128_S128x128) (offs := lsM 1) (hn := rfl)
      (q := gq L 1) (qo := fullShare) (fs := tb d) (fd := fr) (fo := lst ix d (wL L)) (default : HIx 1) 4096 128 (D := DD tb ix d L hix fr)
      (credit_row 1) (by decide) (lst_lt ix hix d (wL L) 1) (by decide)
      (fun k => Entails.of_eq (DD_at tb ix d L hix fr 1 k _ rfl).symm)) $$ [Hx1 Hr1 Hs1 HB]
  · isplitl [Hx1]; · iexact Hx1
    isplitl [Hr1]; · iexact Hr1
    isplitl [Hs1]; · iexact Hs1
    iexact HB
  iintro HB
  sl_exec
  iapply (wp_gatherInBatch countersEmb 𝒱₀ (tV d L) none (src := tbK) (dst := dsM 2) (hg := gathers_S1024x128_S128x128) (offs := lsM 2) (hn := rfl)
      (q := gq L 2) (qo := fullShare) (fs := tb d) (fd := fr) (fo := lst ix d (wL L)) (default : HIx 1) 4096 256 (D := DD tb ix d L hix fr)
      (credit_row 2) (by decide) (lst_lt ix hix d (wL L) 2) (by decide)
      (fun k => Entails.of_eq (DD_at tb ix d L hix fr 2 k _ rfl).symm)) $$ [Hx2 Hr2 Hs2 HB]
  · isplitl [Hx2]; · iexact Hx2
    isplitl [Hr2]; · iexact Hr2
    isplitl [Hs2]; · iexact Hs2
    iexact HB
  iintro HB
  sl_exec
  iapply (wp_gatherInBatch countersEmb 𝒱₀ (tV d L) none (src := tbK) (dst := dsM 3) (hg := gathers_S1024x128_S128x128) (offs := lsM 3) (hn := rfl)
      (q := gq L 3) (qo := fullShare) (fs := tb d) (fd := fr) (fo := lst ix d (wL L)) (default : HIx 1) 4096 384 (D := DD tb ix d L hix fr)
      (credit_row 3) (by decide) (lst_lt ix hix d (wL L) 3) (by decide)
      (fun k => Entails.of_eq (DD_at tb ix d L hix fr 3 k _ rfl).symm)) $$ [Hx3 Hr3 Hs3 HB]
  · isplitl [Hx3]; · iexact Hx3
    isplitl [Hr3]; · iexact Hr3
    isplitl [Hs3]; · iexact Hs3
    iexact HB
  iintro HB
  sl_exec
  iapply (wp_waitBatchMulO countersEmb 𝒱₀ (tV d L) none (default : HIx 1) (N := 4096) 128 (D := DD tb ix d L hix fr) (j := 512) (u := 0)
      (by decide) (by decide)) $$ [HB HO]
  · isplitl [HB]; · iexact HB
    isplitl [HO]; · iexact HO
    iapply (Transfers.MayWaits.elim (SemLoc.dma cc1_scratch2.sem)) $$ Hmw
  iintro ⟨HB, HO⟩
  ihave HB := (aside_in _) $$ HB
  sl_exec
  ihave HB := (aside_out _) $$ HB
  iapply (wp_waitBatchMulO countersEmb 𝒱₀ (tV d L) none (default : HIx 1) (N := 4096) 128 (D := DD tb ix d L hix fr) (j := 512) (u := 0 + 128 * 4096)
      (by decide) (by decide)) $$ [HB HO]
  · isplitl [HB]; · iexact HB
    isplitl [HO]; · iexact HO
    iapply (Transfers.MayWaits.elim (SemLoc.dma cc1_scratch2.sem)) $$ Hmw
  iintro ⟨HB, HO⟩
  ihave HB := (aside_in _) $$ HB
  sl_exec
  ihave HB := (aside_out _) $$ HB
  iapply (wp_waitBatchMulO countersEmb 𝒱₀ (tV d L) none (default : HIx 1) (N := 4096) 128 (D := DD tb ix d L hix fr) (j := 512) (u := 0 + 128 * 4096 + 128 * 4096)
      (by decide) (by decide)) $$ [HB HO]
  · isplitl [HB]; · iexact HB
    isplitl [HO]; · iexact HO
    iapply (Transfers.MayWaits.elim (SemLoc.dma cc1_scratch2.sem)) $$ Hmw
  iintro ⟨HB, HO⟩
  ihave HB := (aside_in _) $$ HB
  sl_exec
  ihave HB := (aside_out _) $$ HB
  iapply (wp_waitBatchAllO countersEmb 𝒱₀ (tV d L) none (default : HIx 1) (N := 4096) (J := 128 * 4096) (D := DD tb ix d L hix fr)
      (u := 0 + 128 * 4096 + 128 * 4096 + 128 * 4096) (by decide) (by decide) (by decide)) $$ [HB HO]
  · isplitl [HB]; · iexact HB
    isplitl [HO]; · iexact HO
    iapply (Transfers.MayWaits.elim (SemLoc.dma cc1_scratch2.sem)) $$ Hmw
  iintro ⟨HB, HsemC, HO⟩
  ihave HR := (rows_join tb ix d L hix fr) $$ HB
  icases HR with ⟨Hr', Hxs, Hs'⟩
  ihave Hx' := (pointsTo_split_subset (q := tq (wL L)) (f := tb d) (S := Finset.univ) (Finset.subset_univ tbK.view.set)).2 $$ [Hxs Hxr]; · isplitl [Hxs] <;> iassumption
  sl_exec
  ihave Ho'' := (Entails.of_eq (go_written tb ix g0 d L (tile_body.sl.dma0_1 tb ix d L) rfl)) $$ Ho'
  sl_step
  isplitl [Hi' Hx' Ho'']
  · isplitl [Hi']; · iapply (Entails.of_eq (pts_ixK (F := F) d L _)); iexact Hi'
    isplitl [Hx']; · iexact Hx'
    iexact Ho''
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  iterate 6 (rcases Finset.mem_insert.mp hp with hp | hp; · exact .inr (hp ▸ rfl))
  exact .inl hp

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 1 ()
      = SparseCore.onTile hcore1 hsub1 (fun c s => cc1_gather_k (coordsV c s)
          tbV (Memref.isWhole_whole _) ixV (Memref.isWhole_whole _) goV (Memref.isWhole_whole _)
          sV (Memref.isWhole_whole _) rV (Memref.isWhole_whole _) cc1_scratch2 cc1_scoped0 cc1_scoped1) ⟨⟩ c s := rfl

theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
include hix in
theorem tileObl [FloatOps F] (hF : (K (F := F)).Facts) : (K (F := F)).TileObl (D (F := F)) 𝒱 (P tb ix g0) v₀ 0 := by
  intro d c i O W hO _ _
  simp only [show (P tb ix g0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tb ix g0 d (coordsV ⟨_, hci.1⟩ ⟨_, hci.2⟩) hix hF O W hO).trans (wp_mono frame _ _ fun _ => obl_post)

end Cert.Proof.Run

end
-- ==== Proof.Splits.lean ====
/-
  The three arrays of the SparseCore call, whole, are the thirty-two tiles' parts of them, and the other way round.
-/
module

public import proofs.«01_k».proof.Proof.Setup

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

theorem ix_split (d : Dev nD) (f : Buf (Elt F) (ixLoc d)) :
    (ixLoc d ↦{fullShare} f : sProp (MM F)) = bigSep Finset.univ fun w : Fin 32 => ixLoc d ↦[ixSet w]{fullShare} f := by
  rw [← pointsTo_biUnion Finset.univ (ℓ := ixLoc d) ixSet (fun i _ j _ h => Rect.part_disjoint ixdiv h)]
  rw [show (Finset.univ : Finset (Fin 32)).biUnion ixSet = Finset.univ from Rect.biUnion_part ixdiv]
  try rfl

theorem go_split (d : Dev nD) (f : Buf (Elt F) (goLoc d)) :
    (goLoc d ↦{fullShare} f : sProp (MM F)) = bigSep Finset.univ fun w : Fin 32 => goLoc d ↦[goSet w]{fullShare} f := by
  rw [← pointsTo_biUnion Finset.univ (ℓ := goLoc d) goSet (fun i _ j _ h => Rect.part_disjoint godiv h)]
  rw [show (Finset.univ : Finset (Fin 32)).biUnion goSet = Finset.univ from Rect.biUnion_part godiv]
  try rfl

theorem tbl_split (d : Dev nD) (f : Buf (Elt F) (tbLoc d)) :
    (tbLoc d ↦{fullShare} f : sProp (MM F)) = bigSep Finset.univ fun w : Fin 32 => tbLoc d ↦{tq w} f :=
  Idealize.ShloMosaic.pointsTo_piecesOf Finset.univ f (by decide) fullShare

/-- Tiles by SparseCore and subcore. -/
def tileEquiv : Fin 2 × Fin 16 ≃ Fin 32 where
  toFun p := tileNo p.1 p.2
  invFun w := (⟨w.val % 2, Nat.mod_lt _ (by decide)⟩, ⟨w.val / 2, by omega⟩)
  left_inv p := by
    refine Prod.ext (Fin.ext ?_) (Fin.ext ?_)
    · show (2 * p.2.val + p.1.val) % 2 = p.1.val; omega
    · show (2 * p.2.val + p.1.val) / 2 = p.2.val; omega
  right_inv w := Fin.ext (by show 2 * (w.val / 2) + w.val % 2 = w.val; omega)

theorem by_tile (Φ : Fin 32 → sProp (MM F)) :
    bigSep Finset.univ Φ = bigSep Finset.univ fun c : Fin 2 => bigSep Finset.univ fun s : Fin 16 => Φ (tileNo c s) := by
  rw [bigSep_univ_equiv tileEquiv, bigSep_univ_prod]
  rfl

variable [FloatOps F]
variable (tb : (d : Dev nD) → Buf (Elt F) (tbLoc d)) (ix : (d : Dev nD) → Buf (Elt F) (ixLoc d)) (g0 : (d : Dev nD) → Buf (Elt F) (goLoc d))

/-- What the SparseCores take at the call: the lists, the table and the output's old contents. -/
theorem st_eq (d : Dev nD) : (bigSep Finset.univ fun c : Fin ((K (F := F)).nCore 0) => (P tb ix g0).st 0 d c)
    = iprop((ixLoc d ↦{fullShare} ix d) ∗ (tbLoc d ↦{fullShare} tb d) ∗ (goLoc d ↦{fullShare} g0 d)) := by
  rw [ix_split, tbl_split, go_split, ← bigSep_sep', ← bigSep_sep']
  exact (by_tile (fun w => goRes tb ix g0 d w)).symm

/-- What they bring back: the same with the output gathered. -/
theorem dn_eq (d : Dev nD) : (bigSep Finset.univ fun c : Fin ((K (F := F)).nCore 0) => (P tb ix g0).dn 0 d c)
    = iprop((ixLoc d ↦{fullShare} ix d) ∗ (tbLoc d ↦{fullShare} tb d) ∗ (goLoc d ↦{fullShare} gathered tb ix d)) := by
  rw [ix_split, tbl_split, go_split, ← bigSep_sep', ← bigSep_sep']
  exact (by_tile (fun w => tdRes tb ix d w)).symm

end Cert.Proof.Run

end
-- ==== Proof.TcRegion.lean ====
/-
  The TensorCore kernel as a region of the program: from every array at known contents, its 32 grid points leave the
  inputs as they were and each output array at a value given row by row by what one block's body computes.
-/
module

public import proofs.«01_k».proof.Proof.TcRun
public import Idealize.ShloMosaic.Lib.Pipeline.RegionsLoop
public import Idealize.ShloMosaic.Lib.Pipeline.FrameBody
public import Idealize.ShloMosaic.Lib.Pipeline.ValueKit

@[expose] public section

noncomputable section

namespace Cert.Proof.Run

open Cert.KernelIdeal Cert.KernelIdeal.Gen

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

variable (V : (c : Dev nD) → (b : Ref sig .tc) → Buf (Elt F) ((c : Thread nD τ).loc b))

/-! ## A point's input blocks, and its results -/

abbrev in0 (c : Dev nD) (t : Fin cfg0.N) : Vec F S512x128 .f32 := ((cfg0.win 0).blk t).view.read (Elt F) (V c main_arg0)
abbrev in1 (c : Dev nD) (t : Fin cfg0.N) : Vec F S128x256 .f32 := ((cfg0.win 1).blk t).view.read (Elt F) (V c main_arg1)
abbrev in2 (c : Dev nD) (t : Fin cfg0.N) : Vec F S1x256 .f32 := ((cfg0.win 2).blk t).view.read (Elt F) (V c main_v2)
abbrev in3 (c : Dev nD) (t : Fin cfg0.N) : Vec F S256x256 .f32 := ((cfg0.win 3).blk t).view.read (Elt F) (V c main_arg3)
abbrev in4 (c : Dev nD) (t : Fin cfg0.N) : Vec F S1x256 .f32 := ((cfg0.win 4).blk t).view.read (Elt F) (V c main_v3)
abbrev in5 (c : Dev nD) (t : Fin cfg0.N) : Vec F S256x129 .f32 := ((cfg0.win 5).blk t).view.read (Elt F) (V c main_arg5)
abbrev in6 (c : Dev nD) (t : Fin cfg0.N) : Vec F S1x129 .f32 := ((cfg0.win 6).blk t).view.read (Elt F) (V c main_v4)
abbrev in7 (c : Dev nD) (t : Fin cfg0.N) : Vec F S129x1024 .f32 := ((cfg0.win 7).blk t).view.read (Elt F) (V c main_v0)

def out8 (c : Dev nD) (t : Fin cfg0.N) : Vec F S512x129 .f32 :=
  oW (in0 V c t) (in1 V c t) (in2 V c t) (in3 V c t) (in4 V c t) (in5 V c t) (in6 V c t)
def out9 (c : Dev nD) (t : Fin cfg0.N) : Vec F S512x1 .i32 :=
  oI (in0 V c t) (in1 V c t) (in2 V c t) (in3 V c t) (in4 V c t) (in5 V c t) (in6 V c t) (in7 V c t)
def out10 (c : Dev nD) (t : Fin cfg0.N) : Vec F S1x4x128 .i32 :=
  oI3 (in0 V c t) (in1 V c t) (in2 V c t) (in3 V c t) (in4 V c t) (in5 V c t) (in6 V c t) (in7 V c t)
def out11 (c : Dev nD) (t : Fin cfg0.N) : Vec F S512x1 .f32 :=
  oY (in0 V c t) (in1 V c t) (in2 V c t) (in3 V c t) (in4 V c t) (in5 V c t) (in6 V c t) (in7 V c t)
def out12 (c : Dev nD) (t : Fin cfg0.N) : Vec F S512x1 .f32 :=
  oL (in0 V c t) (in1 V c t) (in2 V c t) (in3 V c t) (in4 V c t) (in5 V c t) (in6 V c t) (in7 V c t)

/-! ## The proof data -/

/-- What the core owes all along: the SparseCore call's start signals. -/
abbrev Oc (c : Dev nD) : CellTallies nD τ sig (HIx 1) := (K (F := F)).Otc c 0
/-- The waits the core may have recorded: those at level zero. -/
abbrev lowPairs (c : Dev nD) : Set (SemLoc sig × HIx 1) := {p | (K (F := F)).lev (T c, p.1) p.2 ≤ 0}

def dat (c : Dev nD) : Dat τ (Elt F) (HIx 1) ℕ UU ℕ cfg0 c where
  A w := V c (Pipeline.arrRef spec0 w)
  after w t := match w with
    | ⟨0, _⟩ => in0 V c t
    | ⟨1, _⟩ => in1 V c t
    | ⟨2, _⟩ => in2 V c t
    | ⟨3, _⟩ => in3 V c t
    | ⟨4, _⟩ => in4 V c t
    | ⟨5, _⟩ => in5 V c t
    | ⟨6, _⟩ => in6 V c t
    | ⟨7, _⟩ => in7 V c t
    | ⟨8, _⟩ => out8 V c t
    | ⟨9, _⟩ => out9 V c t
    | ⟨10, _⟩ => out10 V c t
    | ⟨11, _⟩ => out11 V c t
    | ⟨12, _⟩ => out12 V c t
  Φ _ := Pipeline.scopedRest (Ix := HIx 1) (Name := ℕ) (U := UU) (Lvl := ℕ) (Val := Elt F) spec0 c
  q _ := fullShare
  owed _ := Oc (F := F) c
  recorded _ := lowPairs (F := F) c

abbrev adm : (p : Fin 1) → (pcfgs (F := F) p).Adm := fun p => (cfgs p).toPCfg_adm

/-- The proof data of every pipeline of the program: the one. -/
def pdats : (p : Fin 1) → (c : Dev nD) → Dat τ (Elt F) (HIx 1) ℕ UU ℕ (Pipeline.pin (pcfgs (F := F)) adm p) c
  | ⟨0, _⟩ => fun c => dat V c

theorem bef0 (c : Dev nD) (t : Fin cfg0.N) (d) : (dat V c).before 0 t d = in0 V c t :=
  (dat V c).before_in_eq_fetched 0 rfl (fun _ => rfl) (fun _ _ _ => rfl) (fun _ => rfl) t d
theorem bef1 (c : Dev nD) (t : Fin cfg0.N) (d) : (dat V c).before 1 t d = in1 V c t :=
  (dat V c).before_in_eq_fetched 1 rfl (fun _ => rfl) (fun _ _ _ => rfl) (fun _ => rfl) t d
theorem bef2 (c : Dev nD) (t : Fin cfg0.N) (d) : (dat V c).before 2 t d = in2 V c t :=
  (dat V c).before_in_eq_fetched 2 rfl (fun _ => rfl) (fun _ _ _ => rfl) (fun _ => rfl) t d
theorem bef3 (c : Dev nD) (t : Fin cfg0.N) (d) : (dat V c).before 3 t d = in3 V c t :=
  (dat V c).before_in_eq_fetched 3 rfl (fun _ => rfl) (fun _ _ _ => rfl) (fun _ => rfl) t d
theorem bef4 (c : Dev nD) (t : Fin cfg0.N) (d) : (dat V c).before 4 t d = in4 V c t :=
  (dat V c).before_in_eq_fetched 4 rfl (fun _ => rfl) (fun _ _ _ => rfl) (fun _ => rfl) t d
theorem bef5 (c : Dev nD) (t : Fin cfg0.N) (d) : (dat V c).before 5 t d = in5 V c t :=
  (dat V c).before_in_eq_fetched 5 rfl (fun _ => rfl) (fun _ _ _ => rfl) (fun _ => rfl) t d
theorem bef6 (c : Dev nD) (t : Fin cfg0.N) (d) : (dat V c).before 6 t d = in6 V c t :=
  (dat V c).before_in_eq_fetched 6 rfl (fun _ => rfl) (fun _ _ _ => rfl) (fun _ => rfl) t d
theorem bef7 (c : Dev nD) (t : Fin cfg0.N) (d) : (dat V c).before 7 t d = in7 V c t :=
  (dat V c).before_in_eq_fetched 7 rfl (fun _ => rfl) (fun _ _ _ => rfl) (fun _ => rfl) t d

seal out9 in
theorem aft9 (c : Dev nD) (t : Fin cfg0.N) : (dat V c).after 9 t = out9 V c t := rfl
seal out10 in
theorem aft10 (c : Dev nD) (t : Fin cfg0.N) : (dat V c).after 10 t = out10 V c t := rfl
theorem aft11 (c : Dev nD) (t : Fin cfg0.N) : (dat V c).after 11 t = out11 V c t := rfl
theorem aft12 (c : Dev nD) (t : Fin cfg0.N) : (dat V c).after 12 t = out12 V c t := rfl

/-- Owning a whole buffer through its memref: the buffer held at contents that read as stated. -/
theorem owns_of_whole (c : Dev nD) {sp : Space} {S : Shape} {e : EltTy} (M : Memref sig .tc sp S e) (h : M.IsWhole) (X : S.Idx → Elt F e) :
    (owns (c : Thread nD τ) M fullShare X : sProp (MM F)) = iprop(∃ f, ⌜M.view.read (Elt F) f = X⌝ ∗ ptc c M f) := by
  unfold owns; rw [h.set_eq_univ]

set_option maxRecDepth 8000 in
set_option maxHeartbeats 4000000 in
/-- The kernel's body at every point, from the staging buffers as the pipeline hands them to those it takes back. -/
theorem body_obligation (c : Dev nD) : BodyObligation (dat V c) (defs₀ (F := F)) 𝒱₀ none Set.univ := fun t => by
  rw [bigSep_W0, bigSep_W0]
  rw [show (dat V c).Φ t.succ = (dat V c).Φ t.castSucc from rfl,
    show (dat V c).owesAt none t.succ = (dat V c).owesAt none t.castSucc from rfl]
  have ho : ∀ (w : Fin 13) (X : _), (owns (c : Thread nD τ) ((cfg0.win w).stage (cfg0.slots t w)) fullShare X : sProp (MM F))
      = iprop(∃ f, ⌜((cfg0.win w).stage (cfg0.slots t w)).view.read (Elt F) f = X⌝ ∗ ptc c ((cfg0.win w).stage (cfg0.slots t w)) f) :=
    fun w X => owns_of_whole c _ (stage_whole0 w _) X
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave H0 := (Entails.of_eq (ho 0 _)) $$ H0
  icases H0 with ⟨%f0, %h0, H0⟩
  ihave H1 := (Entails.of_eq (ho 1 _)) $$ H1
  icases H1 with ⟨%f1, %h1, H1⟩
  ihave H2 := (Entails.of_eq (ho 2 _)) $$ H2
  icases H2 with ⟨%f2, %h2, H2⟩
  ihave H3 := (Entails.of_eq (ho 3 _)) $$ H3
  icases H3 with ⟨%f3, %h3, H3⟩
  ihave H4 := (Entails.of_eq (ho 4 _)) $$ H4
  icases H4 with ⟨%f4, %h4, H4⟩
  ihave H5 := (Entails.of_eq (ho 5 _)) $$ H5
  icases H5 with ⟨%f5, %h5, H5⟩
  ihave H6 := (Entails.of_eq (ho 6 _)) $$ H6
  icases H6 with ⟨%f6, %h6, H6⟩
  ihave H7 := (Entails.of_eq (ho 7 _)) $$ H7
  icases H7 with ⟨%f7, %h7, H7⟩
  ihave H8 := (Entails.of_eq (ho 8 _)) $$ H8
  icases H8 with ⟨%f8, %h8, H8⟩
  ihave H9 := (Entails.of_eq (ho 9 _)) $$ H9
  icases H9 with ⟨%f9, %h9, H9⟩
  ihave H10 := (Entails.of_eq (ho 10 _)) $$ H10
  icases H10 with ⟨%f10, %h10, H10⟩
  ihave H11 := (Entails.of_eq (ho 11 _)) $$ H11
  icases H11 with ⟨%f11, %h11, H11⟩
  ihave H12 := (Entails.of_eq (ho 12 _)) $$ H12
  icases H12 with ⟨%f12, %h12, H12⟩
  rw [bef0] at h0
  rw [bef1] at h1
  rw [bef2] at h2
  rw [bef3] at h3
  rw [bef4] at h4
  rw [bef5] at h5
  rw [bef6] at h6
  rw [bef7] at h7
  iapply (tcBody (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12))
    f0 f1 f2 f3 f4 f5 f6 f7 f8 f9 f10 f11 f12 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, ⟨%g8, %k8, H8⟩, ⟨%g9, %k9, H9⟩, ⟨%g10, %k10, H10⟩, ⟨%g11, %k11, H11⟩, ⟨%g12, %k12, H12⟩⟩
  isplitl [HΦ]; · iexact HΦ
  isplitl [Howes]; · iexact Howes
  isplitl [H0]
  · iapply (Entails.of_eq (ho 0 _).symm); iexists f0; isplitr; swap; (· iexact H0); ipureintro; exact h0
  isplitl [H1]
  · iapply (Entails.of_eq (ho 1 _).symm); iexists f1; isplitr; swap; (· iexact H1); ipureintro; exact h1
  isplitl [H2]
  · iapply (Entails.of_eq (ho 2 _).symm); iexists f2; isplitr; swap; (· iexact H2); ipureintro; exact h2
  isplitl [H3]
  · iapply (Entails.of_eq (ho 3 _).symm); iexists f3; isplitr; swap; (· iexact H3); ipureintro; exact h3
  isplitl [H4]
  · iapply (Entails.of_eq (ho 4 _).symm); iexists f4; isplitr; swap; (· iexact H4); ipureintro; exact h4
  isplitl [H5]
  · iapply (Entails.of_eq (ho 5 _).symm); iexists f5; isplitr; swap; (· iexact H5); ipureintro; exact h5
  isplitl [H6]
  · iapply (Entails.of_eq (ho 6 _).symm); iexists f6; isplitr; swap; (· iexact H6); ipureintro; exact h6
  isplitl [H7]
  · iapply (Entails.of_eq (ho 7 _).symm); iexists f7; isplitr; swap; (· iexact H7); ipureintro; exact h7
  isplitl [H8]
  · iapply (Entails.of_eq (ho 8 _).symm); iexists g8; isplitr; swap; (· iexact H8); ipureintro; refine k8.trans (?_ : _ = out8 V c t); unfold out8; rw [show (win0_0.stage (cfg0.slots t 0)).view.read (Elt F) f0 = in0 V c t from h0, show (win0_1.stage (cfg0.slots t 1)).view.read (Elt F) f1 = in1 V c t from h1, show (win0_2.stage (cfg0.slots t 2)).view.read (Elt F) f2 = in2 V c t from h2, show (win0_3.stage (cfg0.slots t 3)).view.read (Elt F) f3 = in3 V c t from h3, show (win0_4.stage (cfg0.slots t 4)).view.read (Elt F) f4 = in4 V c t from h4, show (win0_5.stage (cfg0.slots t 5)).view.read (Elt F) f5 = in5 V c t from h5, show (win0_6.stage (cfg0.slots t 6)).view.read (Elt F) f6 = in6 V c t from h6]
  isplitl [H9]
  · iapply (Entails.of_eq (ho 9 _).symm); iexists g9; isplitr; swap; (· iexact H9); ipureintro; refine Eq.trans (k9.trans (?_ : _ = out9 V c t)) (aft9 V c t).symm; unfold out9; rw [show (win0_0.stage (cfg0.slots t 0)).view.read (Elt F) f0 = in0 V c t from h0, show (win0_1.stage (cfg0.slots t 1)).view.read (Elt F) f1 = in1 V c t from h1, show (win0_2.stage (cfg0.slots t 2)).view.read (Elt F) f2 = in2 V c t from h2, show (win0_3.stage (cfg0.slots t 3)).view.read (Elt F) f3 = in3 V c t from h3, show (win0_4.stage (cfg0.slots t 4)).view.read (Elt F) f4 = in4 V c t from h4, show (win0_5.stage (cfg0.slots t 5)).view.read (Elt F) f5 = in5 V c t from h5, show (win0_6.stage (cfg0.slots t 6)).view.read (Elt F) f6 = in6 V c t from h6, show (win0_7.stage (cfg0.slots t 7)).view.read (Elt F) f7 = in7 V c t from h7]
  isplitl [H10]
  · iapply (Entails.of_eq (ho 10 _).symm); iexists g10; isplitr; swap; (· iexact H10); ipureintro; refine Eq.trans (k10.trans (?_ : _ = out10 V c t)) (aft10 V c t).symm; unfold out10; rw [show (win0_0.stage (cfg0.slots t 0)).view.read (Elt F) f0 = in0 V c t from h0, show (win0_1.stage (cfg0.slots t 1)).view.read (Elt F) f1 = in1 V c t from h1, show (win0_2.stage (cfg0.slots t 2)).view.read (Elt F) f2 = in2 V c t from h2, show (win0_3.stage (cfg0.slots t 3)).view.read (Elt F) f3 = in3 V c t from h3, show (win0_4.stage (cfg0.slots t 4)).view.read (Elt F) f4 = in4 V c t from h4, show (win0_5.stage (cfg0.slots t 5)).view.read (Elt F) f5 = in5 V c t from h5, show (win0_6.stage (cfg0.slots t 6)).view.read (Elt F) f6 = in6 V c t from h6, show (win0_7.stage (cfg0.slots t 7)).view.read (Elt F) f7 = in7 V c t from h7]
  isplitl [H11]
  · iapply (Entails.of_eq (ho 11 _).symm); iexists g11; isplitr; swap; (· iexact H11); ipureintro; refine Eq.trans (k11.trans (?_ : _ = out11 V c t)) (aft11 V c t).symm; unfold out11; rw [show (win0_0.stage (cfg0.slots t 0)).view.read (Elt F) f0 = in0 V c t from h0, show (win0_1.stage (cfg0.slots t 1)).view.read (Elt F) f1 = in1 V c t from h1, show (win0_2.stage (cfg0.slots t 2)).view.read (Elt F) f2 = in2 V c t from h2, show (win0_3.stage (cfg0.slots t 3)).view.read (Elt F) f3 = in3 V c t from h3, show (win0_4.stage (cfg0.slots t 4)).view.read (Elt F) f4 = in4 V c t from h4, show (win0_5.stage (cfg0.slots t 5)).view.read (Elt F) f5 = in5 V c t from h5, show (win0_6.stage (cfg0.slots t 6)).view.read (Elt F) f6 = in6 V c t from h6, show (win0_7.stage (cfg0.slots t 7)).view.read (Elt F) f7 = in7 V c t from h7]
  · iapply (Entails.of_eq (ho 12 _).symm); iexists g12; isplitr; swap; (· iexact H12); ipureintro; refine Eq.trans (k12.trans (?_ : _ = out12 V c t)) (aft12 V c t).symm; unfold out12; rw [show (win0_0.stage (cfg0.slots t 0)).view.read (Elt F) f0 = in0 V c t from h0, show (win0_1.stage (cfg0.slots t 1)).view.read (Elt F) f1 = in1 V c t from h1, show (win0_2.stage (cfg0.slots t 2)).view.read (Elt F) f2 = in2 V c t from h2, show (win0_3.stage (cfg0.slots t 3)).view.read (Elt F) f3 = in3 V c t from h3, show (win0_4.stage (cfg0.slots t 4)).view.read (Elt F) f4 = in4 V c t from h4, show (win0_5.stage (cfg0.slots t 5)).view.read (Elt F) f5 = in5 V c t from h5, show (win0_6.stage (cfg0.slots t 6)).view.read (Elt F) f6 = in6 V c t from h6, show (win0_7.stage (cfg0.slots t 7)).view.read (Elt F) f7 = in7 V c t from h7]

end Cert.Proof.Run

end
-- ==== Proof.TcReg.lean ====
/-
  The TensorCore kernel's output arrays after its last grid point, row by row, and the kernel as one step of the program:
  entered with every array held at known contents, left with the outputs at these.
-/
module

public import proofs.«01_k».proof.Proof.TcRegion

@[expose] public section

noncomputable section

namespace Cert.Proof.Run

open Cert.KernelIdeal Cert.KernelIdeal.Gen

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

variable (V : (c : Dev nD) → (b : Ref sig .tc) → Buf (Elt F) ((c : Thread nD τ).loc b))

/-! ## The output arrays after the last point -/

/-- The point that writes row `r`, and the row's place in that point's block. -/
def ptOf (r : Fin 16384) : Fin cfg0.N := ⟨r.val / 512, by have := r.isLt; show _ < grid0.N; rw [N_0]; omega⟩
def rwOf (r : Fin 16384) : Fin 512 := ⟨r.val % 512, Nat.mod_lt _ (by decide)⟩
def ptOf3 (r : Fin 32) : Fin cfg0.N := ⟨r.val, by have := r.isLt; show _ < grid0.N; rw [N_0]; omega⟩

def fin8 (c : Dev nD) : Buf (Elt F) ((c : Thread nD τ).loc main_v5_0) := fun (y : S16384x129.Idx) => out8 V c (ptOf (y 0)) (ix2 (n0 := 512) (n1 := 129) (rwOf (y 0)) (y 1))
def fin9 (c : Dev nD) : Buf (Elt F) ((c : Thread nD τ).loc main_v5_1) := fun (y : S16384x1.Idx) => out9 V c (ptOf (y 0)) (ix2 (n0 := 512) (n1 := 1) (rwOf (y 0)) (y 1))
def fin10 (c : Dev nD) : Buf (Elt F) ((c : Thread nD τ).loc main_v5_2) := fun (y : S32x4x128.Idx) => out10 V c (ptOf3 (y 0)) (ix3 (n0 := 1) (n1 := 4) (n2 := 128) 0 (y 1) (y 2))
def fin11 (c : Dev nD) : Buf (Elt F) ((c : Thread nD τ).loc main_v5_3) := fun (y : S16384x1.Idx) => out11 V c (ptOf (y 0)) (ix2 (n0 := 512) (n1 := 1) (rwOf (y 0)) (y 1))
def fin12 (c : Dev nD) : Buf (Elt F) ((c : Thread nD τ).loc main_v5_4) := fun (y : S16384x1.Idx) => out12 V c (ptOf (y 0)) (ix2 (n0 := 512) (n1 := 1) (rwOf (y 0)) (y 1))

theorem tr8 : ∀ t : Fin cfg0.N, cc0_transform_8 (grid0.coords t) 0 = t.val ∧ cc0_transform_8 (grid0.coords t) 1 = 0 := by decide +kernel
theorem tr9 : ∀ t : Fin cfg0.N, cc0_transform_9 (grid0.coords t) 0 = t.val ∧ cc0_transform_9 (grid0.coords t) 1 = 0 := by decide +kernel
theorem tr10 : ∀ t : Fin cfg0.N, cc0_transform_10 (grid0.coords t) 0 = t.val ∧ cc0_transform_10 (grid0.coords t) 1 = 0 ∧ cc0_transform_10 (grid0.coords t) 2 = 0 := by decide +kernel
theorem tr11 : ∀ t : Fin cfg0.N, cc0_transform_11 (grid0.coords t) 0 = t.val ∧ cc0_transform_11 (grid0.coords t) 1 = 0 := by decide +kernel
theorem tr12 : ∀ t : Fin cfg0.N, cc0_transform_12 (grid0.coords t) 0 = t.val ∧ cc0_transform_12 (grid0.coords t) 1 = 0 := by decide +kernel
theorem tr0 : ∀ t : Fin cfg0.N, cc0_transform_0 (grid0.coords t) 0 = t.val ∧ cc0_transform_0 (grid0.coords t) 1 = 0 := by decide +kernel

theorem aft8 (c : Dev nD) (t : Fin cfg0.N) : (dat V c).after 8 t = out8 V c t := rfl

theorem arr8 (c : Dev nD) : (dat V c).arrAt 8 cfg0.N = fin8 V c := by
  refine (dat V c).arrAt_eq_of_covers 8 _ (by decide +kernel) fun t hf y => ?_
  have hy0 : (y 0).val < 512 := (y 0).isLt
  have h0 : (((win0_8.blk t).view.emb y) 0).val = cc0_transform_8 (grid0.coords t) 0 * 512 + (y 0).val := Pipeline.Window.rect_emb_val win0_8 t y 0
  have h1 : (((win0_8.blk t).view.emb y) 1).val = cc0_transform_8 (grid0.coords t) 1 * 129 + (y 1).val := Pipeline.Window.rect_emb_val win0_8 t y 1
  rw [(tr8 t).1] at h0; rw [(tr8 t).2, Nat.zero_mul, Nat.zero_add] at h1
  have e1 : ptOf (((win0_8.blk t).view.emb y) 0) = t := Fin.ext (by show _ / 512 = _; rw [h0]; omega)
  have e2 : ix2 (n0 := 512) (n1 := 129) (rwOf (((win0_8.blk t).view.emb y) 0)) (((win0_8.blk t).view.emb y) 1) = (y : S512x129.Idx) := by
    funext a; match a with
    | 0 => exact Fin.ext (by show _ % 512 = _; rw [h0]; omega)
    | 1 => exact Fin.ext h1
  blk_simp
  unfold fin8
  rw [e1, aft8]
  exact congrArg (out8 V c t) e2.symm

theorem arr9 (c : Dev nD) : (dat V c).arrAt 9 cfg0.N = fin9 V c := by
  refine (dat V c).arrAt_eq_of_covers 9 _ (by decide +kernel) fun t hf y => ?_
  have hy0 : (y 0).val < 512 := (y 0).isLt
  have h0 : (((win0_9.blk t).view.emb y) 0).val = cc0_transform_9 (grid0.coords t) 0 * 512 + (y 0).val := Pipeline.Window.rect_emb_val win0_9 t y 0
  have h1 : (((win0_9.blk t).view.emb y) 1).val = cc0_transform_9 (grid0.coords t) 1 * 1 + (y 1).val := Pipeline.Window.rect_emb_val win0_9 t y 1
  rw [(tr9 t).1] at h0; rw [(tr9 t).2, Nat.zero_mul, Nat.zero_add] at h1
  have e1 : ptOf (((win0_9.blk t).view.emb y) 0) = t := Fin.ext (by show _ / 512 = _; rw [h0]; omega)
  have e2 : ix2 (n0 := 512) (n1 := 1) (rwOf (((win0_9.blk t).view.emb y) 0)) (((win0_9.blk t).view.emb y) 1) = (y : S512x1.Idx) := by
    funext a; match a with
    | 0 => exact Fin.ext (by show _ % 512 = _; rw [h0]; omega)
    | 1 => exact Fin.ext h1
  blk_simp
  unfold fin9
  rw [e1, aft9]
  exact congrArg (out9 V c t) e2.symm

theorem arr11 (c : Dev nD) : (dat V c).arrAt 11 cfg0.N = fin11 V c := by
  refine (dat V c).arrAt_eq_of_covers 11 _ (by decide +kernel) fun t hf y => ?_
  have hy0 : (y 0).val < 512 := (y 0).isLt
  have h0 : (((win0_11.blk t).view.emb y) 0).val = cc0_transform_11 (grid0.coords t) 0 * 512 + (y 0).val := Pipeline.Window.rect_emb_val win0_11 t y 0
  have h1 : (((win0_11.blk t).view.emb y) 1).val = cc0_transform_11 (grid0.coords t) 1 * 1 + (y 1).val := Pipeline.Window.rect_emb_val win0_11 t y 1
  rw [(tr11 t).1] at h0; rw [(tr11 t).2, Nat.zero_mul, Nat.zero_add] at h1
  have e1 : ptOf (((win0_11.blk t).view.emb y) 0) = t := Fin.ext (by show _ / 512 = _; rw [h0]; omega)
  have e2 : ix2 (n0 := 512) (n1 := 1) (rwOf (((win0_11.blk t).view.emb y) 0)) (((win0_11.blk t).view.emb y) 1) = (y : S512x1.Idx) := by
    funext a; match a with
    | 0 => exact Fin.ext (by show _ % 512 = _; rw [h0]; omega)
    | 1 => exact Fin.ext h1
  blk_simp
  unfold fin11
  rw [e1, aft11]
  exact congrArg (out11 V c t) e2.symm

theorem arr12 (c : Dev nD) : (dat V c).arrAt 12 cfg0.N = fin12 V c := by
  refine (dat V c).arrAt_eq_of_covers 12 _ (by decide +kernel) fun t hf y => ?_
  have hy0 : (y 0).val < 512 := (y 0).isLt
  have h0 : (((win0_12.blk t).view.emb y) 0).val = cc0_transform_12 (grid0.coords t) 0 * 512 + (y 0).val := Pipeline.Window.rect_emb_val win0_12 t y 0
  have h1 : (((win0_12.blk t).view.emb y) 1).val = cc0_transform_12 (grid0.coords t) 1 * 1 + (y 1).val := Pipeline.Window.rect_emb_val win0_12 t y 1
  rw [(tr12 t).1] at h0; rw [(tr12 t).2, Nat.zero_mul, Nat.zero_add] at h1
  have e1 : ptOf (((win0_12.blk t).view.emb y) 0) = t := Fin.ext (by show _ / 512 = _; rw [h0]; omega)
  have e2 : ix2 (n0 := 512) (n1 := 1) (rwOf (((win0_12.blk t).view.emb y) 0)) (((win0_12.blk t).view.emb y) 1) = (y : S512x1.Idx) := by
    funext a; match a with
    | 0 => exact Fin.ext (by show _ % 512 = _; rw [h0]; omega)
    | 1 => exact Fin.ext h1
  blk_simp
  unfold fin12
  rw [e1, aft12]
  exact congrArg (out12 V c t) e2.symm

theorem arr10 (c : Dev nD) : (dat V c).arrAt 10 cfg0.N = fin10 V c := by
  refine (dat V c).arrAt_eq_of_covers 10 _ (by decide +kernel) fun t hf y => ?_
  have hy0 : (y 0).val < 1 := (y 0).isLt
  have h0 : (((win0_10.blk t).view.emb y) 0).val = cc0_transform_10 (grid0.coords t) 0 * 1 + (y 0).val := Pipeline.Window.rect_emb_val win0_10 t y 0
  have h1 : (((win0_10.blk t).view.emb y) 1).val = cc0_transform_10 (grid0.coords t) 1 * 4 + (y 1).val := Pipeline.Window.rect_emb_val win0_10 t y 1
  have h2 : (((win0_10.blk t).view.emb y) 2).val = cc0_transform_10 (grid0.coords t) 2 * 128 + (y 2).val := Pipeline.Window.rect_emb_val win0_10 t y 2
  rw [(tr10 t).1] at h0; rw [(tr10 t).2.1, Nat.zero_mul, Nat.zero_add] at h1; rw [(tr10 t).2.2, Nat.zero_mul, Nat.zero_add] at h2
  have e1 : ptOf3 (((win0_10.blk t).view.emb y) 0) = t := Fin.ext (h0.trans (by omega))
  have e2 : ix3 (n0 := 1) (n1 := 4) (n2 := 128) 0 (((win0_10.blk t).view.emb y) 1) (((win0_10.blk t).view.emb y) 2) = (y : S1x4x128.Idx) := by
    funext a; match a with
    | 0 => exact Fin.ext (by show 0 = (y 0).val; omega)
    | 1 => exact Fin.ext h1
    | 2 => exact Fin.ext h2
  blk_simp
  unfold fin10
  rw [e1, aft10]
  exact congrArg (out10 V c t) e2.symm

/-! ## The region -/

/-- The contents the region leaves: the output arrays at their final contents, every other array as it was. -/
def Vp (c : Dev nD) (b : Ref sig .tc) : Buf (Elt F) ((c : Thread nD τ).loc b) :=
  if h : b = main_v5_0 then h ▸ fin8 V c
  else if h : b = main_v5_1 then h ▸ fin9 V c
  else if h : b = main_v5_2 then h ▸ fin10 V c
  else if h : b = main_v5_3 then h ▸ fin11 V c
  else if h : b = main_v5_4 then h ▸ fin12 V c
  else V c b

theorem Vp_8 (c : Dev nD) : Vp V c main_v5_0 = fin8 V c := by unfold Vp; rw [dif_pos rfl]
theorem Vp_9 (c : Dev nD) : Vp V c main_v5_1 = fin9 V c := by unfold Vp; rw [dif_neg (by decide), dif_pos rfl]
theorem Vp_10 (c : Dev nD) : Vp V c main_v5_2 = fin10 V c := by unfold Vp; rw [dif_neg (by decide), dif_neg (by decide), dif_pos rfl]
theorem Vp_11 (c : Dev nD) : Vp V c main_v5_3 = fin11 V c := by unfold Vp; rw [dif_neg (by decide), dif_neg (by decide), dif_neg (by decide), dif_pos rfl]
theorem Vp_12 (c : Dev nD) : Vp V c main_v5_4 = fin12 V c := by unfold Vp; rw [dif_neg (by decide), dif_neg (by decide), dif_neg (by decide), dif_neg (by decide), dif_pos rfl]
theorem Vp_ne (c : Dev nD) (b : Ref sig .tc) (h8 : b ≠ main_v5_0) (h9 : b ≠ main_v5_1) (h10 : b ≠ main_v5_2) (h11 : b ≠ main_v5_3) (h12 : b ≠ main_v5_4) :
    Vp V c b = V c b := by unfold Vp; rw [dif_neg h8, dif_neg h9, dif_neg h10, dif_neg h11, dif_neg h12]

theorem Oc_none (c : Dev nD) (g : GSem nD τ sig) : Oc (F := F) c g none = 0 := by
  by_contra h
  have := (K (F := F)).lev_of_Otc_pos (Nat.pos_of_ne_zero h)
  simp at this

set_option backward.isDefEq.respectTransparency.types false in
/-- The TensorCore kernel as a region: entered with every array held at `V`, left with every array held at `Vp V`. -/
def reg (R : Dev nD → sProp (MM F)) : Pipeline.RegionSeg (pcfgs (F := F)) adm (pdats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ _ _ _ _ fun w s t => (K (F := F)).mayWait_none _ (Oc_none c)
  pre c := iprop(unscopedBufs c (V c) ∗ R c ∗ ∃ W, ⌜(K (F := F)).WBelow (T c) W 0⌝ ∗ owes (c : Thread nD τ) (Oc (F := F) c) W)
  post c := iprop(unscopedBufs c (Vp V c) ∗ R c ∗ ∃ W, ⌜(K (F := F)).WBelow (T c) W 0⌝ ∗ owes (c : Thread nD τ) (Oc (F := F) c) W)
  X _ := BI.emp
  Y _ := BI.emp
  Z c := iprop(Pipeline.unscopedRest (Ix := HIx 1) (Name := ℕ) (U := UU) (Lvl := ℕ) spec0 c (V c) ∗ R c)
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V) ((pdats V 0 c).share_full fun _ => rfl) (V c) (Vp V c) ((pdats V 0 c).arrAt · cfg0.N)
      (fun w => by
        fin_cases w
        · exact ((pdats V 0 c).arrAt_in 0 rfl _).trans (Vp_ne V c main_arg0 (by decide) (by decide) (by decide) (by decide) (by decide)).symm
        · exact ((pdats V 0 c).arrAt_in 1 rfl _).trans (Vp_ne V c main_arg1 (by decide) (by decide) (by decide) (by decide) (by decide)).symm
        · exact ((pdats V 0 c).arrAt_in 2 rfl _).trans (Vp_ne V c main_v2 (by decide) (by decide) (by decide) (by decide) (by decide)).symm
        · exact ((pdats V 0 c).arrAt_in 3 rfl _).trans (Vp_ne V c main_arg3 (by decide) (by decide) (by decide) (by decide) (by decide)).symm
        · exact ((pdats V 0 c).arrAt_in 4 rfl _).trans (Vp_ne V c main_v3 (by decide) (by decide) (by decide) (by decide) (by decide)).symm
        · exact ((pdats V 0 c).arrAt_in 5 rfl _).trans (Vp_ne V c main_arg5 (by decide) (by decide) (by decide) (by decide) (by decide)).symm
        · exact ((pdats V 0 c).arrAt_in 6 rfl _).trans (Vp_ne V c main_v4 (by decide) (by decide) (by decide) (by decide) (by decide)).symm
        · exact ((pdats V 0 c).arrAt_in 7 rfl _).trans (Vp_ne V c main_v0 (by decide) (by decide) (by decide) (by decide) (by decide)).symm
        · exact (arr8 V c).trans (Vp_8 V c).symm
        · exact (arr9 V c).trans (Vp_9 V c).symm
        · exact (arr10 V c).trans (Vp_10 V c).symm
        · exact (arr11 V c).trans (Vp_11 V c).symm
        · exact (arr12 V c).trans (Vp_12 V c).symm)
      (fun b hb => Vp_ne V c b (fun h => hb (h ▸ Finset.mem_image.mpr ⟨8, Finset.mem_univ _, rfl⟩))
        (fun h => hb (h ▸ Finset.mem_image.mpr ⟨9, Finset.mem_univ _, rfl⟩)) (fun h => hb (h ▸ Finset.mem_image.mpr ⟨10, Finset.mem_univ _, rfl⟩))
        (fun h => hb (h ▸ Finset.mem_image.mpr ⟨11, Finset.mem_univ _, rfl⟩)) (fun h => hb (h ▸ Finset.mem_image.mpr ⟨12, Finset.mem_univ _, rfl⟩)))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr
    · ipureintro
      intro p hp
      rcases hW hp with h | ⟨w, s, rfl⟩
      · exact h
      · exact le_rfl
    iexact HO

end Cert.Proof.Run

end
-- ==== Proof.Launch.lean ====
/-
  The whole program: the arrays prepared on the TensorCore, the TensorCore kernel, the SparseCore call, the last
  concatenation. From any launch memory whose computed row numbers lie in the table, it runs to its end leaving its
  arguments as they were and its results at the values stated here.
-/
module

public import proofs.«01_k».proof.Proof.Tile
public import proofs.«01_k».proof.Proof.Splits
public import proofs.«01_k».proof.Proof.TcReg

@[expose] public section

noncomputable section

namespace Cert.Proof.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

/-! ## The arrays held as a set -/

/-- The TensorCore's arrays. -/
def ucRefs : Finset (DevRef τ sig) := (StableHlo.tcRefs τ sig).filter fun b => ¬ b.isScoped

theorem unscopedBufs_held (c : Dev nD) (W : Valuation τ sig (Elt F)) :
    (unscopedBufs c (fun b => W b) : sProp (MM F)) = StableHlo.held (c : Thread nD τ) ucRefs W := by
  unfold unscopedBufs StableHlo.held ucRefs StableHlo.tcRefs
  rw [Finset.filter_map, bigSep_map]
  rfl

theorem sub_ucRefs (op : HloOp τ sig (Elt F)) (h : op.bufs ⊆ StableHlo.tcRefs τ sig) : op.bufs ⊆ ucRefs := fun b hb =>
  Finset.mem_filter.mpr ⟨h hb, by rw [op.no_scoped b hb]; decide⟩

/-! ## The operations before and after the kernels -/

abbrev opT : HloOp τ sig (Elt F) := StableHlo.unary main_arg7 main_v0 ((transpose S129x1024 [1, 0] · transposes_S1024x129_S129x1024_1_0) : (⟨S1024x129, .f32⟩ : BufTy).Contents (Elt F) → (⟨S129x1024, .f32⟩ : BufTy).Contents (Elt F))
abbrev opS : HloOp τ sig (Elt F) := StableHlo.unary main_arg7 main_v1 ((extractStridedSlice S1024x128 ![0, 0] · slices_S1024x129_S1024x128_0_0) : (⟨S1024x129, .f32⟩ : BufTy).Contents (Elt F) → (⟨S1024x128, .f32⟩ : BufTy).Contents (Elt F))
abbrev opR1 : HloOp τ sig (Elt F) := StableHlo.reshape main_arg2 main_v2 (rfl : (.f32 : EltTy) = .f32) shapeCasts_S256_S1x256
abbrev opR2 : HloOp τ sig (Elt F) := StableHlo.reshape main_arg4 main_v3 (rfl : (.f32 : EltTy) = .f32) shapeCasts_S256_S1x256
abbrev opR3 : HloOp τ sig (Elt F) := StableHlo.reshape main_arg6 main_v4 (rfl : (.f32 : EltTy) = .f32) shapeCasts_S129_S1x129
/-- Two arrays side by side. -/
def glue (a : (⟨S16384x128, .f32⟩ : BufTy).Contents (Elt F)) (b : (⟨S16384x1, .f32⟩ : BufTy).Contents (Elt F)) : (⟨S16384x129, .f32⟩ : BufTy).Contents (Elt F) :=
  concatenate S16384x129 1 [⟨S16384x128, a⟩, ⟨S16384x1, b⟩] concatenates_S16384x128_S16384x1_S16384x129_d1
abbrev opC : HloOp τ sig (Elt F) := StableHlo.binary main_v6 main_v5_4 main_v7 glue

/-! ## The arrays' contents along the program -/

variable (m : (ℓ : Loc nD τ sig) → Buf (Elt F) ℓ) (ρ : Dev nD → PrngReg)

def W0 (d : Dev nD) : Valuation τ sig (Elt F) := fun b => m (d, b)
def W5 (d : Dev nD) : Valuation τ sig (Elt F) := opR3.result (opR2.result (opR1.result (opS.result (opT.result (W0 m d)))))
/-- The contents the TensorCore kernel is entered at. -/
def Va (c : Dev nD) (b : Ref sig .tc) : Buf (Elt F) ((c : Thread nD τ).loc b) := W5 m c b

abbrev tbM (d : Dev nD) : Buf (Elt F) (tbLoc d) := Va m d main_v1
abbrev ixM (d : Dev nD) : Buf (Elt F) (ixLoc d) := fin10 (Va m) d
abbrev goM (d : Dev nD) : Buf (Elt F) (goLoc d) := Va m d main_v6
abbrev PM : (K (F := F)).Pay (nD := nD) (Val := Elt F) (Name := ℕ) (U := UU) := P (tbM m) (ixM m) (goM m)

/-- After the TensorCore kernel, -/
def Wb (d : Dev nD) : Valuation τ sig (Elt F) :=
  Function.update (Function.update (Function.update (Function.update (Function.update (W5 m d)
    (main_v5_4 : DevRef τ sig) (fin12 (Va m) d)) (main_v5_3 : DevRef τ sig) (fin11 (Va m) d)) (main_v5_2 : DevRef τ sig) (fin10 (Va m) d))
    (main_v5_1 : DevRef τ sig) (fin9 (Va m) d)) (main_v5_0 : DevRef τ sig) (fin8 (Va m) d)
/-- after the SparseCore call, -/
def Wc (d : Dev nD) : Valuation τ sig (Elt F) := Function.update (Wb m d) (main_v6 : DevRef τ sig) (gathered (tbM m) (ixM m) d)
/-- and at the end. -/
def Wf (d : Dev nD) : Valuation τ sig (Elt F) := opC.result (Wc m d)

theorem Vp_eq (d : Dev nD) (b : Ref sig .tc) : Vp (Va m) d b = Wb m d b := by
  have ne : ∀ {b b' : Ref sig .tc}, b ≠ b' → (b : DevRef τ sig) ≠ (b' : DevRef τ sig) := fun h e => h (Proc.devRef_injective _ e)
  unfold Wb
  by_cases h8 : b = main_v5_0
  · subst h8; rw [Vp_8, Function.update_self]
  rw [Function.update_of_ne (ne h8)]
  by_cases h9 : b = main_v5_1
  · subst h9; rw [Vp_9, Function.update_self]
  rw [Function.update_of_ne (ne h9)]
  by_cases h10 : b = main_v5_2
  · subst h10; rw [Vp_10, Function.update_self]
  rw [Function.update_of_ne (ne h10)]
  by_cases h11 : b = main_v5_3
  · subst h11; rw [Vp_11, Function.update_self]
  rw [Function.update_of_ne (ne h11)]
  by_cases h12 : b = main_v5_4
  · subst h12; rw [Vp_12, Function.update_self]
  rw [Function.update_of_ne (ne h12), Vp_ne _ _ _ h8 h9 h10 h11 h12]
  rfl

/-! ## The three arrays of the call out of the set, and back -/

abbrev callRefs : Finset (DevRef τ sig) := {(main_v5_2 : DevRef τ sig), (main_v1 : DevRef τ sig), (main_v6 : DevRef τ sig)}

theorem callRefs_sub : callRefs ⊆ ucRefs := by decide

theorem held_call (d : Dev nD) (W : Valuation τ sig (Elt F)) :
    (StableHlo.held (T d) callRefs W : sProp (MM F))
      = iprop((ixLoc d ↦{fullShare} W (main_v5_2 : DevRef τ sig)) ∗ (tbLoc d ↦{fullShare} W (main_v1 : DevRef τ sig)) ∗ (goLoc d ↦{fullShare} W (main_v6 : DevRef τ sig))) := by
  unfold StableHlo.held
  rw [SparseCore.bigSep_insert' (by decide), SparseCore.bigSep_insert' (by decide), bigSep_singleton]

/-! ## The launch element of the ghost state -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), (1 : Counters)))

/-- What the TensorCore starts with for its pipeline. -/
def extra (d : Dev nD) : sProp (MM F) :=
  iprop((bigSep Finset.univ fun p => Pipeline.cellsGhost (Pipeline.pin (pcfgs (F := F)) adm) EP p d)
    ∗ (bigSep Finset.univ fun p => Pipeline.toksInit (Pipeline.pin (pcfgs (F := F)) adm) EP p d))

theorem hu₀ : (ownU (u₀ (F := F)) : sProp (MM F))
    ⊢ |={Set.univ}=> iprop(BI.own (EH (initOf (K (F := F)).hsCells (K (F := F)).hsToks)) ∗ (bigSep Finset.univ fun d : Dev nD => extra (F := F) d)
        ∗ bigSep Finset.univ fun thr : Thread nD τ => bigSep Finset.univ fun q : Fin 1 => (PM m).x q thr) := by
  unfold u₀
  iintro Hu
  ihave H := (ownU_pair (initOf (K (F := F)).hsCells (K (F := F)).hsToks) (_ : UP × Counters)) $$ Hu
  icases H with ⟨HH, HR⟩
  ihave HR' := (own_pair_emb (embR (nD := nD) (τ := τ) (sig := sig) (Ix := HIx 1) (Val := Elt F) (Name := ℕ) (Lvl := ℕ) (A := UH) (B := UP × Counters)) _ _) $$ HR
  icases HR' with ⟨HP, -⟩
  imod (Pipeline.fund_ghost (Pipeline.pin (pcfgs (F := F)) adm) (EP (F := F)) cellOf_inj) $$ HP with ⟨Hg, Ht⟩
  imodintro
  isplitl [HH]; · iexact HH
  isplitl [Hg Ht]
  · unfold extra
    rw [bigSep_sep']
    isplitl [Hg] <;> iassumption
  rw [show (bigSep Finset.univ fun thr : Thread nD τ => bigSep Finset.univ fun q : Fin 1 => (PM (F := F) m).x q thr) = bigSep Finset.univ fun _ => iprop(emp) from
    bigSep_congr fun _ _ => bigSep_univ_of_subsingleton (0 : Fin 1), show (bigSep Finset.univ fun _ : Thread nD τ => (iprop(emp) : sProp (MM F))) = iprop(emp) from bigSep_emp_const _]
  iempintro

/-! ## @main on the TensorCore -/

abbrev FIN (d : Dev nD) : sProp (MM F) := StableHlo.held (T d) ucRefs (Wf m d)

theorem bufs_W0 (d : Dev nD) : (unscopedBufs d (fun b => m ((SparseCore.T d).loc b)) : sProp (MM F)) = StableHlo.held (SparseCore.T d) ucRefs (W0 m d) :=
  unscopedBufs_held d (W0 m d)

/-- The TensorCore's call state but what it owes. -/
def tcRest (d : Dev nD) : sProp (MM F) :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some (SparseCore.Cfg.Blocks.last q)) 1)))

theorem tcSt_zero (d : Dev nD) : ((K (F := F)).tcSt EH d 0 : sProp (MM F))
    = iprop((∃ W, ⌜(K (F := F)).WBelow (SparseCore.T d) W 0⌝ ∗ owes (SparseCore.T d) (Oc (F := F) d) W) ∗ tcRest d) := rfl

/-- The TensorCore kernel's own call, without the SparseCore's labels. -/
def entryProg : Prog (TpuEff nD τ sig (Elt F) (ΛP (F := F)) .tc) PUnit := .op (.customCall (Pipeline.entry 0) ()) fun _ => .ret ⟨⟩

theorem liftEntry : SparseCore.liftProg (Q := 1) (entryProg (F := F)) = (Prog.lift (.customCall (SparseCore.inner (Pipeline.entry 0)) ()) : Prog (TpuEff nD τ sig (Elt F) (SparseCore.Sig (ΛP (F := F)) 1) .tc) PUnit) := rfl

set_option backward.isDefEq.respectTransparency.types false in
/-- The TensorCore kernel, called from @main. -/
theorem kernel [∀ e, Nonempty (Elt F e)] (d : Dev nD) (Q : PUnit → sProp (MM F)) :
    iprop((iprop(boundary (SparseCore.T d) ∗ StableHlo.held (SparseCore.T d) ucRefs (Wb m d) ∗ ∃ W, ⌜(K (F := F)).WBelow (SparseCore.T d) W 0⌝ ∗ owes (SparseCore.T d) (Oc (F := F) d) W) -∗ Q ⟨⟩)
        ∗ boundary (SparseCore.T d) ∗ StableHlo.held (SparseCore.T d) ucRefs (W5 m d) ∗ (∃ W, ⌜(K (F := F)).WBelow (SparseCore.T d) W 0⌝ ∗ owes (SparseCore.T d) (Oc (F := F) d) W)
        ∗ levAts (K (F := F)).L (K (F := F)).lev ∗ extra (F := F) d)
      ⊢ wp frame (wpE ((K (F := F)).defs (D (F := F))) 𝒱 (SparseCore.T d) none) Set.univ (Prog.lift (.customCall (SparseCore.inner (Pipeline.entry 0)) ())) Q := by
  rw [← liftEntry]
  refine BI.Entails.trans ?_ ((K (F := F)).wp_liftProg (D (F := F)) 𝒱 (SparseCore.T d) Set.univ none (entryProg (F := F)) Q)
  unfold entryProg
  have h2 : ∀ u ∈ (none : Option (Variants.lift 𝒱₀).V), (Variants.lift 𝒱₀).lt (.inr ((Pipeline.pin (pcfgs (F := F)) adm 0).tripCount + 1)) u :=
    fun u h => (Option.not_mem_none u h).elim
  have h3 := Pipeline.RegionSeg.wp (Val := Elt F) (Name := ℕ) (U := UU) (pcs := pcfgs (F := F)) (a := adm) (pdats := pdats (Va m)) (ι := none) (phinj := cellOf_inj) (EP := EP) (defs₀ := defs₀) (𝒱₀ := 𝒱₀)
    (K (F := F)).L (K (F := F)).lev (reg (Va m) fun _ => iprop(emp)) d none h2 (α := PUnit) (fun _ => .ret ⟨⟩) Q
  refine BI.Entails.trans ?_ h3
  rw [← unscopedBufs_held d (W5 m d), ← unscopedBufs_held d (Wb m d)]
  unfold extra
  rw [bigSep_univ_of_subsingleton (0 : Fin 1), bigSep_univ_of_subsingleton (0 : Fin 1)]
  show (_ : sProp (MM F)) ⊢ _
  iintro ⟨Hk, Hb, Hh, HO, Hlev, Hg, Ht⟩
  isplitl [Hk]
  · iintro ⟨Hb, Hpost⟩
    ihave Hpost' := (Entails.of_eq (show (reg (Va m) fun _ => iprop(emp)).post d = iprop(unscopedBufs d (Vp (Va m) d) ∗ emp ∗ ∃ W, ⌜(K (F := F)).WBelow (SparseCore.T d) W 0⌝ ∗ owes (SparseCore.T d) (Oc (F := F) d) W) from rfl)) $$ Hpost
    rw [wp_ret]; imodintro
    icases Hpost' with ⟨Hh, -, HO⟩
    iapply Hk
    isplitl [Hb]; · iexact Hb
    isplitl [Hh]
    · rw [show (fun b : Ref sig .tc => Wb m d b) = Vp (Va m) d from funext fun b => (Vp_eq m d b).symm]
      iexact Hh
    iexact HO
  isplitl [Hb]; · iexact Hb
  isplitl [Hh HO]
  · iapply (Entails.of_eq (show (reg (Va m) fun _ => iprop(emp)).pre d = iprop(unscopedBufs d (Va m d) ∗ emp ∗ ∃ W, ⌜(K (F := F)).WBelow (SparseCore.T d) W 0⌝ ∗ owes (SparseCore.T d) (Oc (F := F) d) W) from rfl).symm)
    isplitl [Hh]; · iexact Hh
    isplitr; · iempintro
    iexact HO
  isplitl [Hlev]; · iexact Hlev
  isplitl [Hg] <;> iassumption

theorem Wb_tb (d : Dev nD) : Wb m d (main_v1 : DevRef τ sig) = tbM m d := by
  unfold Wb
  rw [Function.update_of_ne (by decide), Function.update_of_ne (by decide), Function.update_of_ne (by decide), Function.update_of_ne (by decide), Function.update_of_ne (by decide)]
  rfl
theorem Wb_go (d : Dev nD) : Wb m d (main_v6 : DevRef τ sig) = goM m d := by
  unfold Wb
  rw [Function.update_of_ne (by decide), Function.update_of_ne (by decide), Function.update_of_ne (by decide), Function.update_of_ne (by decide), Function.update_of_ne (by decide)]
  rfl
theorem Wb_ix (d : Dev nD) : Wb m d (main_v5_2 : DevRef τ sig) = ixM m d := by
  unfold Wb
  rw [Function.update_of_ne (by decide), Function.update_of_ne (by decide), Function.update_self]

theorem call_split (d : Dev nD) : (StableHlo.held (SparseCore.T d) ucRefs (Wb m d) : sProp (MM F))
    = iprop((bigSep Finset.univ fun c => (PM m).st 0 d c) ∗ StableHlo.held (SparseCore.T d) (ucRefs \ callRefs) (Wb m d)) := by
  rw [StableHlo.held_sub_split (SparseCore.T d) callRefs_sub, held_call, Wb_tb, Wb_go, Wb_ix, st_eq]

theorem call_join (d : Dev nD) : iprop((bigSep Finset.univ fun c => (PM m).dn 0 d c) ∗ StableHlo.held (SparseCore.T d) (ucRefs \ callRefs) (Wb m d))
    = (StableHlo.held (SparseCore.T d) ucRefs (Wc m d) : sProp (MM F)) := by
  rw [StableHlo.held_sub_split (SparseCore.T d) callRefs_sub (Wc m d), held_call, dn_eq]
  rw [show Wc m d (main_v6 : DevRef τ sig) = gathered (tbM m) (ixM m) d from Function.update_self ..,
    show Wc m d (main_v5_2 : DevRef τ sig) = ixM m d from (Function.update_of_ne (by decide) ..).trans (Wb_ix m d),
    show Wc m d (main_v1 : DevRef τ sig) = tbM m d from (Function.update_of_ne (by decide) ..).trans (Wb_tb m d),
    StableHlo.held_congr (SparseCore.T d) (V := Wb m d) (V' := Wc m d) fun b hb => (Function.update_of_ne (fun e => by subst e; exact absurd hb (by decide)) ..).symm]

set_option maxHeartbeats 1000000 in
theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ extra (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [bufs_W0]
  simp only [main, wp_bind, wp_pure]
  iintro ⟨#Hctx, Hst, ⟨Hb, Hh, Hts, -⟩, Hx⟩
  iapply (StableHlo.wp_hlo_within 𝒱 (T d) none Set.univ (op := opT) (sub_ucRefs _ (StableHlo.unary_bufs_sub ..))) $$ [Hb Hh]
  · isplitl [Hb] <;> iassumption
  iintro ⟨Hb, Hh⟩
  rw [wp_ret]; imodintro
  iapply (StableHlo.wp_hlo_within 𝒱 (T d) none Set.univ (op := opS) (sub_ucRefs _ (StableHlo.unary_bufs_sub ..))) $$ [Hb Hh]
  · isplitl [Hb] <;> iassumption
  iintro ⟨Hb, Hh⟩
  rw [wp_ret]; imodintro
  iapply (StableHlo.wp_hlo_within 𝒱 (T d) none Set.univ (op := opR1) (sub_ucRefs _ (StableHlo.reshape_bufs_sub ..))) $$ [Hb Hh]
  · isplitl [Hb] <;> iassumption
  iintro ⟨Hb, Hh⟩
  rw [wp_ret]; imodintro
  iapply (StableHlo.wp_hlo_within 𝒱 (T d) none Set.univ (op := opR2) (sub_ucRefs _ (StableHlo.reshape_bufs_sub ..))) $$ [Hb Hh]
  · isplitl [Hb] <;> iassumption
  iintro ⟨Hb, Hh⟩
  rw [wp_ret]; imodintro
  iapply (StableHlo.wp_hlo_within 𝒱 (T d) none Set.univ (op := opR3) (sub_ucRefs _ (StableHlo.reshape_bufs_sub ..))) $$ [Hb Hh]
  · isplitl [Hb] <;> iassumption
  iintro ⟨Hb, Hh⟩
  rw [wp_ret]; imodintro
  -- the TensorCore kernel
  ihave Hst' := (Entails.of_eq (tcSt_zero d)) $$ Hst
  icases Hst' with ⟨HO, Hst⟩
  ihave Hlev := (SparseCore.Cfg.ctx_levAts κ) $$ Hctx
  iapply (kernel m d _) $$ [Hst Hb Hh Hts HO Hx Hlev]
  isplitl [Hst Hts]
  · iintro ⟨Hb, Hh, HO⟩
    iapply ((K (F := F)).wp_run (D (F := F)) 𝒱 (EH := EH) (P := PM m) κ d 0) $$ [Hst Hh HO Hb Hts]
    isplitr; · iexact Hctx
    isplitl [Hst HO]
    · iapply (Entails.of_eq (tcSt_zero d).symm)
      isplitl [HO] <;> iassumption
    ihave Hh' := (Entails.of_eq (call_split m d)) $$ Hh
    icases Hh' with ⟨Hc, Hr⟩
    isplitl [Hc]; · iexact Hc
    iintro ⟨Hst, Hc⟩
    ihave Hh := (Entails.of_eq (call_join m d)) $$ [Hc Hr]
    · isplitl [Hc] <;> iassumption
    iapply (StableHlo.wp_hlo_within 𝒱 (T d) none Set.univ (op := opC) (sub_ucRefs _ (StableHlo.binary_bufs_sub ..))) $$ [Hb Hh]
    · isplitl [Hb] <;> iassumption
    iintro ⟨Hb, Hh⟩
    rw [wp_ret]; imodintro; imodintro
    isplitl [Hst]; · iexact Hst
    isplitl [Hh]; · iexact Hh
    isplitl [Hb] <;> iassumption
  isplitl [Hb]; · iexact Hb
  isplitl [Hh]; · iexact Hh
  isplitl [HO]; · iexact HO
  isplitl [Hlev] <;> iassumption

end Cert.Proof.Run

end
-- ==== Proof.Final.lean ====
/-
  The program's run as one statement: where every array ends, in terms of the launch memory.
-/
module

public import proofs.«01_k».proof.Proof.Launch

@[expose] public section

noncomputable section

namespace Cert.Proof.Run

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ) (ρ : Dev nD → PrngReg)

/-- Every array of the TensorCore at its final contents. -/
def fq (d : Dev nD) (s' : Phys nD τ sig (Elt F)) : Prop := ∀ b ∈ ucRefs, s'.mem.mem (d, b) = Wf m d b

theorem hfin (d : Dev nD) (s' : Phys nD τ sig (Elt F)) : iprop(FIN m d ∗ SI s') ⊢ (⌜fq m d s'⌝ : sProp (MM F)) := by
  have h1 : ∀ b : DevRef τ sig, iprop(FIN m d ∗ SI s') ⊢ (⌜b ∈ ucRefs → s'.mem.mem (d, b) = Wf m d b⌝ : sProp (MM F)) := by
    intro b
    by_cases hb : b ∈ ucRefs
    · iintro ⟨Hh, HSI⟩
      ihave H := (show (FIN m d : sProp (MM F)) ⊢ _ from BI.bigSep_elim hb) $$ Hh
      ihave H' := (SI_pointsTo_agree (st := s') (ℓ := (d, b)) (I := Finset.univ) (q := fullShare) (f := Wf m d b)) $$ [HSI H]
      · isplitl [HSI] <;> iassumption
      icases H' with %h
      ipureintro; exact fun _ => funext fun i => h i (Finset.mem_univ i)
    · iintro -; ipureintro; exact fun h => absurd h hb
  exact (forall_intro h1).trans pure_forall.2

/-- Every run from the launch memory ends with the arrays at their final contents and the semaphores at zero. -/
theorem run_main [∀ e, Nonempty (Elt F e)] (hix : ∀ d x, (ixM m d x : BitVec 32).toNat < 1024) :
    θ_run (Cert.KernelIdeal.defs (F := F)) (Cert.KernelIdeal.threads (F := F)) ⟨m, fun _ => 0, ρ⟩
      (fun r => (∀ c : Dev nD, ∀ b ∈ ucRefs, r.2.mem (c, b) = Wf m c b) ∧ r.2.sem = fun _ => 0) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (tbM m) (ixM m) (goM m) hix facts)
    (fun q _ => match q with | 0 => SparseCore.Cfg.VecSplit.of_plain (vecSplit (tbM m) (ixM m) (goM m)))
    m ρ main (extra (F := F)) (FIN m) (u₀ (F := F)) (sep_elim_left.trans (hu₀ m)) (hmain m ρ) (fq m) (hfin m) _ (fun _ h hz => ⟨h, hz⟩)

/-! ## The arrays the kernel is entered at -/

theorem Va_arg0 (d : Dev nD) : Va m d main_arg0 = m ((d : Thread nD τ).loc main_arg0) := by
  unfold Va W5 opT opS opR1 opR2 opR3
  rw [StableHlo.reshape_result_ne', StableHlo.reshape_result_ne', StableHlo.reshape_result_ne', StableHlo.unary_result_ne', StableHlo.unary_result_ne'] <;> first | rfl | decide
theorem Va_arg1 (d : Dev nD) : Va m d main_arg1 = m ((d : Thread nD τ).loc main_arg1) := by
  unfold Va W5 opT opS opR1 opR2 opR3
  rw [StableHlo.reshape_result_ne', StableHlo.reshape_result_ne', StableHlo.reshape_result_ne', StableHlo.unary_result_ne', StableHlo.unary_result_ne'] <;> first | rfl | decide
theorem Va_arg3 (d : Dev nD) : Va m d main_arg3 = m ((d : Thread nD τ).loc main_arg3) := by
  unfold Va W5 opT opS opR1 opR2 opR3
  rw [StableHlo.reshape_result_ne', StableHlo.reshape_result_ne', StableHlo.reshape_result_ne', StableHlo.unary_result_ne', StableHlo.unary_result_ne'] <;> first | rfl | decide
theorem Va_arg5 (d : Dev nD) : Va m d main_arg5 = m ((d : Thread nD τ).loc main_arg5) := by
  unfold Va W5 opT opS opR1 opR2 opR3
  rw [StableHlo.reshape_result_ne', StableHlo.reshape_result_ne', StableHlo.reshape_result_ne', StableHlo.unary_result_ne', StableHlo.unary_result_ne'] <;> first | rfl | decide
theorem Va_v0 (d : Dev nD) : Va m d main_v0 = transpose S129x1024 [1, 0] (m ((d : Thread nD τ).loc main_arg7)) transposes_S1024x129_S129x1024_1_0 := by
  unfold Va W5 opT opS opR1 opR2 opR3
  rw [StableHlo.reshape_result_ne', StableHlo.reshape_result_ne', StableHlo.reshape_result_ne', StableHlo.unary_result_ne', StableHlo.unary_result'] <;> first | rfl | decide
theorem Va_v1 (d : Dev nD) : Va m d main_v1 = extractStridedSlice S1024x128 ![0, 0] (m ((d : Thread nD τ).loc main_arg7)) slices_S1024x129_S1024x128_0_0 := by
  unfold Va W5 opT opS opR1 opR2 opR3
  rw [StableHlo.reshape_result_ne', StableHlo.reshape_result_ne', StableHlo.reshape_result_ne', StableHlo.unary_result', StableHlo.unary_result_ne'] <;> first | rfl | decide
theorem Va_v2 (d : Dev nD) : Va m d main_v2 = shapeCast S1x256 (m ((d : Thread nD τ).loc main_arg2)) shapeCasts_S256_S1x256 := by
  unfold Va W5 opT opS opR1 opR2 opR3
  rw [StableHlo.reshape_result_ne', StableHlo.reshape_result_ne', StableHlo.reshape_result', StableHlo.unary_result_ne', StableHlo.unary_result_ne'] <;> first | rfl | decide
theorem Va_v3 (d : Dev nD) : Va m d main_v3 = shapeCast S1x256 (m ((d : Thread nD τ).loc main_arg4)) shapeCasts_S256_S1x256 := by
  unfold Va W5 opT opS opR1 opR2 opR3
  rw [StableHlo.reshape_result_ne', StableHlo.reshape_result', StableHlo.reshape_result_ne', StableHlo.unary_result_ne', StableHlo.unary_result_ne'] <;> first | rfl | decide
theorem Va_v4 (d : Dev nD) : Va m d main_v4 = shapeCast S1x129 (m ((d : Thread nD τ).loc main_arg6)) shapeCasts_S129_S1x129 := by
  unfold Va W5 opT opS opR1 opR2 opR3
  rw [StableHlo.reshape_result', StableHlo.reshape_result_ne', StableHlo.reshape_result_ne', StableHlo.unary_result_ne', StableHlo.unary_result_ne'] <;> first | rfl | decide

/-! ## The arrays at the end -/

/-- The program's arguments are written by nothing. -/
theorem Wf_arg (d : Dev nD) (b : Ref sig .tc) (h : b ∈ [main_arg0, main_arg1, main_arg2, main_arg3, main_arg4, main_arg5, main_arg6, main_arg7]) :
    Wf m d (b : DevRef τ sig) = m ((d : Thread nD τ).loc b) := by
  have ne : ∀ {b' : Ref sig .tc}, b ≠ b' → (b : DevRef τ sig) ≠ (b' : DevRef τ sig) := fun h e => h (Proc.devRef_injective _ e)
  unfold Wf Wc Wb W5 opC opT opS opR1 opR2 opR3
  have h' : ∀ b' ∈ [main_v0, main_v1, main_v2, main_v3, main_v4, main_v5_0, main_v5_1, main_v5_2, main_v5_3, main_v5_4, main_v6, main_v7], b ≠ b' := by
    intro b' hb' e; subst e; revert h hb'; revert b; decide
  rw [StableHlo.binary_result_ne' (h := h' _ (by decide)), Function.update_of_ne (ne (h' _ (by decide))), Function.update_of_ne (ne (h' _ (by decide))),
    Function.update_of_ne (ne (h' _ (by decide))), Function.update_of_ne (ne (h' _ (by decide))), Function.update_of_ne (ne (h' _ (by decide))),
    Function.update_of_ne (ne (h' _ (by decide))),
    StableHlo.reshape_result_ne' (h := h' _ (by decide)), StableHlo.reshape_result_ne' (h := h' _ (by decide)), StableHlo.reshape_result_ne' (h := h' _ (by decide)),
    StableHlo.unary_result_ne' (h := h' _ (by decide)), StableHlo.unary_result_ne' (h := h' _ (by decide))]
  rfl

theorem Wf_8 (d : Dev nD) : Wf m d (main_v5_0 : DevRef τ sig) = fin8 (Va m) d := by
  unfold Wf Wc Wb opC
  rw [StableHlo.binary_result_ne' (h := by decide), Function.update_of_ne (by decide), Function.update_self]
theorem Wf_9 (d : Dev nD) : Wf m d (main_v5_1 : DevRef τ sig) = fin9 (Va m) d := by
  unfold Wf Wc Wb opC
  rw [StableHlo.binary_result_ne' (h := by decide), Function.update_of_ne (by decide), Function.update_of_ne (by decide), Function.update_self]
theorem Wf_11 (d : Dev nD) : Wf m d (main_v5_3 : DevRef τ sig) = fin11 (Va m) d := by
  unfold Wf Wc Wb opC
  rw [StableHlo.binary_result_ne' (h := by decide), Function.update_of_ne (by decide), Function.update_of_ne (by decide), Function.update_of_ne (by decide), Function.update_of_ne (by decide), Function.update_self]
theorem Wf_7 (d : Dev nD) : Wf m d (main_v7 : DevRef τ sig) = glue (gathered (tbM m) (ixM m) d) (fin12 (Va m) d) := by
  unfold Wf opC
  rw [StableHlo.binary_result']
  congr 1

end Cert.Proof.Run

end
-- ==== Proof.Blocks.lean ====
/-
  What the kernel's input blocks hold at each grid point: the point's rows of the data, and the other arrays whole.
-/
module

public import proofs.«01_k».proof.Proof.Chosen
public import proofs.«01_k».proof.Proof.Final

@[expose] public section

noncomputable section

namespace Cert.Proof.Run

open Cert.KernelIdeal Cert.KernelIdeal.Gen
open Idealize.ShloMosaic Idealize.ShloMosaic.TcCoe

variable {F : FTy → Type} [FloatOps F]
variable (V : (c : Dev nD) → (b : Ref sig .tc) → Buf (Elt F) ((c : Thread nD τ).loc b))

theorem tr1 : ∀ (t : Fin cfg0.N) (a : Fin 2), cc0_transform_1 (grid0.coords t) a = 0 := by decide +kernel
theorem tr2 : ∀ (t : Fin cfg0.N) (a : Fin 2), cc0_transform_2 (grid0.coords t) a = 0 := by decide +kernel
theorem tr3 : ∀ (t : Fin cfg0.N) (a : Fin 2), cc0_transform_3 (grid0.coords t) a = 0 := by decide +kernel
theorem tr4 : ∀ (t : Fin cfg0.N) (a : Fin 2), cc0_transform_4 (grid0.coords t) a = 0 := by decide +kernel
theorem tr5 : ∀ (t : Fin cfg0.N) (a : Fin 2), cc0_transform_5 (grid0.coords t) a = 0 := by decide +kernel
theorem tr6 : ∀ (t : Fin cfg0.N) (a : Fin 2), cc0_transform_6 (grid0.coords t) a = 0 := by decide +kernel
theorem tr7 : ∀ (t : Fin cfg0.N) (a : Fin 2), cc0_transform_7 (grid0.coords t) a = 0 := by decide +kernel

/-- Row `r` of point `t`'s block, among all rows. -/
def rowAt (t : Fin cfg0.N) (r : Fin 512) : Fin 16384 := ⟨t.val * 512 + r.val, by have := t.isLt; have h : cfg0.N = 32 := N_0; omega⟩

theorem in0_at (c : Dev nD) (t : Fin cfg0.N) (r : Fin 512) (k : Fin 128) :
    in0 V c t (ix2 r k) = V c main_arg0 (ix2 (n0 := 16384) (n1 := 128) (rowAt t r) k) := by
  have h0 : (((win0_0.blk t).view.emb (ix2 r k)) 0).val = cc0_transform_0 (grid0.coords t) 0 * 512 + r.val := Pipeline.Window.rect_emb_val win0_0 t (ix2 r k) 0
  have h1 : (((win0_0.blk t).view.emb (ix2 r k)) 1).val = cc0_transform_0 (grid0.coords t) 1 * 128 + k.val := Pipeline.Window.rect_emb_val win0_0 t (ix2 r k) 1
  rw [(tr0 t).1] at h0; rw [(tr0 t).2, Nat.zero_mul, Nat.zero_add] at h1
  refine congrArg (V c main_arg0) (?_ : (win0_0.blk t).view.emb (ix2 r k) = _)
  funext a; match a with
  | 0 => exact Fin.ext h0
  | 1 => exact Fin.ext h1

theorem in1_eq (c : Dev nD) (t : Fin cfg0.N) : in1 V c t = V c main_arg1 := by
  funext y
  refine congrArg (V c main_arg1) (?_ : (win0_1.blk t).view.emb y = _)
  funext a
  have h : ((win0_1.blk t).view.emb y a).val = cc0_transform_1 (grid0.coords t) a * _ + (y a).val := Pipeline.Window.rect_emb_val win0_1 t y a
  rw [tr1, Nat.zero_mul, Nat.zero_add] at h
  exact Fin.ext h

theorem in2_eq (c : Dev nD) (t : Fin cfg0.N) : in2 V c t = V c main_v2 := by
  funext y
  refine congrArg (V c main_v2) (?_ : (win0_2.blk t).view.emb y = _)
  funext a
  have h : ((win0_2.blk t).view.emb y a).val = cc0_transform_2 (grid0.coords t) a * _ + (y a).val := Pipeline.Window.rect_emb_val win0_2 t y a
  rw [tr2, Nat.zero_mul, Nat.zero_add] at h
  exact Fin.ext h

theorem in3_eq (c : Dev nD) (t : Fin cfg0.N) : in3 V c t = V c main_arg3 := by
  funext y
  refine congrArg (V c main_arg3) (?_ : (win0_3.blk t).view.emb y = _)
  funext a
  have h : ((win0_3.blk t).view.emb y a).val = cc0_transform_3 (grid0.coords t) a * _ + (y a).val := Pipeline.Window.rect_emb_val win0_3 t y a
  rw [tr3, Nat.zero_mul, Nat.zero_add] at h
  exact Fin.ext h

theorem in4_eq (c : Dev nD) (t : Fin cfg0.N) : in4 V c t = V c main_v3 := by
  funext y
  refine congrArg (V c main_v3) (?_ : (win0_4.blk t).view.emb y = _)
  funext a
  have h : ((win0_4.blk t).view.emb y a).val = cc0_transform_4 (grid0.coords t) a * _ + (y a).val := Pipeline.Window.rect_emb_val win0_4 t y a
  rw [tr4, Nat.zero_mul, Nat.zero_add] at h
  exact Fin.ext h

theorem in5_eq (c : Dev nD) (t : Fin cfg0.N) : in5 V c t = V c main_arg5 := by
  funext y
  refine congrArg (V c main_arg5) (?_ : (win0_5.blk t).view.emb y = _)
  funext a
  have h : ((win0_5.blk t).view.emb y a).val = cc0_transform_5 (grid0.coords t) a * _ + (y a).val := Pipeline.Window.rect_emb_val win0_5 t y a
  rw [tr5, Nat.zero_mul, Nat.zero_add] at h
  exact Fin.ext h

theorem in6_eq (c : Dev nD) (t : Fin cfg0.N) : in6 V c t = V c main_v4 := by
  funext y
  refine congrArg (V c main_v4) (?_ : (win0_6.blk t).view.emb y = _)
  funext a
  have h : ((win0_6.blk t).view.emb y a).val = cc0_transform_6 (grid0.coords t) a * _ + (y a).val := Pipeline.Window.rect_emb_val win0_6 t y a
  rw [tr6, Nat.zero_mul, Nat.zero_add] at h
  exact Fin.ext h

theorem in7_eq (c : Dev nD) (t : Fin cfg0.N) : in7 V c t = V c main_v0 := by
  funext y
  refine congrArg (V c main_v0) (?_ : (win0_7.blk t).view.emb y = _)
  funext a
  have h : ((win0_7.blk t).view.emb y a).val = cc0_transform_7 (grid0.coords t) a * _ + (y a).val := Pipeline.Window.rect_emb_val win0_7 t y a
  rw [tr7, Nat.zero_mul, Nat.zero_add] at h
  exact Fin.ext h

/-- The rows the point writes are its own. -/
theorem rowAt_ptOf (R : Fin 16384) : rowAt (ptOf R) (rwOf R) = R := Fin.ext (by show R.val / 512 * 512 + R.val % 512 = R.val; omega)

theorem ptOf_rowAt (t : Fin cfg0.N) (r : Fin 512) : ptOf (rowAt t r) = t := Fin.ext (by show (t.val * 512 + r.val) / 512 = t.val; omega)

theorem rwOf_rowAt (t : Fin cfg0.N) (r : Fin 512) : rwOf (rowAt t r) = r := Fin.ext (by show (t.val * 512 + r.val) % 512 = r.val; omega)

/-- Row `R` of the data, as the region finds it. -/
theorem in0_row (c : Dev nD) (R : Fin 16384) (k : Fin 128) : in0 V c (ptOf R) (ix2 (rwOf R) k) = V c main_arg0 (ix2 (n0 := 16384) (n1 := 128) R k) := by
  rw [in0_at, rowAt_ptOf]

end Cert.Proof.Run
-- ==== Proof.Outcome.lean ====
/-
  The kernel's arrays at the end, row by row, over the extended reals.
-/
module

public import proofs.«01_k».proof.Proof.Blocks

@[expose] public section

noncomputable section

namespace Cert.Proof.Run

open Cert.KernelIdeal Cert.KernelIdeal.Gen Cert.Proof.Maths
open Idealize.ShloMosaic Idealize.ShloMosaic.TcCoe

/-! ## The arguments, and a row's values -/

variable (m : (ℓ : Loc nD τ sig) → Buf (Elt Ideal) ℓ) (d : Dev nD)

abbrev a0 : FVec Ideal S16384x128 .f32 := m ((d : Thread nD τ).loc main_arg0)
abbrev a1 : FVec Ideal S128x256 .f32 := m ((d : Thread nD τ).loc main_arg1)
abbrev a2 : FVec Ideal S256 .f32 := m ((d : Thread nD τ).loc main_arg2)
abbrev a3 : FVec Ideal S256x256 .f32 := m ((d : Thread nD τ).loc main_arg3)
abbrev a4 : FVec Ideal S256 .f32 := m ((d : Thread nD τ).loc main_arg4)
abbrev a5 : FVec Ideal S256x129 .f32 := m ((d : Thread nD τ).loc main_arg5)
abbrev a6 : FVec Ideal S129 .f32 := m ((d : Thread nD τ).loc main_arg6)
abbrev a7 : FVec Ideal S1024x129 .f32 := m ((d : Thread nD τ).loc main_arg7)

/-- Row `R` of the data. -/
def xRow (R : Fin 16384) (k : Fin 128) : EReal := a0 m d (ix2 R k)
/-- The codebook. -/
def code (c : Fin 1024) (k : Fin 129) : EReal := a7 m d (ix2 c k)
/-- The weights predicted for row `R`. -/
def wRow (R : Fin 16384) (n : Fin 129) : EReal :=
  rowW (fun k => a0 m d (ix2 R k)) (fun k n => a1 m d (ix2 k n)) (fun n => a2 m d (ix1 n)) (fun k n => a3 m d (ix2 k n)) (fun n => a4 m d (ix1 n))
    (fun k n => a5 m d (ix2 k n)) (fun n => a6 m d (ix1 n)) n
/-- Code `k` is the first nearest to row `R`'s prediction. -/
def Nearest (R : Fin 16384) (k : Fin 1024) : Prop := First (rowSq (xRow m d R) (code m d) (wRow m d R)) k

/-! ## The arrays the region finds -/

theorem v2_at (n : Fin 256) : (Va m d main_v2 : FVec Ideal S1x256 .f32) (ix2 0 n) = a2 m d (ix1 n) := by
  rw [Va_v2]; unfold a2; generalize m ((d : Thread nD τ).loc main_arg2) = b; revert b
  intro (b : FVec Ideal S256 .f32); pointwise
theorem v3_at (n : Fin 256) : (Va m d main_v3 : FVec Ideal S1x256 .f32) (ix2 0 n) = a4 m d (ix1 n) := by
  rw [Va_v3]; unfold a4; generalize m ((d : Thread nD τ).loc main_arg4) = b; revert b
  intro (b : FVec Ideal S256 .f32); pointwise
theorem v4_at (n : Fin 129) : (Va m d main_v4 : FVec Ideal S1x129 .f32) (ix2 0 n) = a6 m d (ix1 n) := by
  rw [Va_v4]; unfold a6; generalize m ((d : Thread nD τ).loc main_arg6) = b; revert b
  intro (b : FVec Ideal S129 .f32); pointwise
theorem v0_at (k : Fin 129) (c : Fin 1024) : (Va m d main_v0 : FVec Ideal S129x1024 .f32) (ix2 k c) = code m d c k := by
  rw [Va_v0]; unfold code a7; generalize m ((d : Thread nD τ).loc main_arg7) = b; revert b
  intro (b : FVec Ideal S1024x129 .f32); pointwise
theorem v1_at (c : Fin 1024) (k : Fin 128) : (Va m d main_v1 : FVec Ideal S1024x128 .f32) (ix2 c k) = code m d c ⟨k.val, by omega⟩ := by
  rw [Va_v1]; unfold code a7; generalize m ((d : Thread nD τ).loc main_arg7) = b; revert b
  intro (b : FVec Ideal S1024x129 .f32); pointwise

theorem in0_xRow (R : Fin 16384) : (fun k => in0 (Va m) d (ptOf R) (ix2 (rwOf R) k)) = xRow m d R := by
  funext k; rw [in0_row, Va_arg0]; rfl

theorem in7_code (t : Fin cfg0.N) : (fun c k => in7 (Va m) d t (ix2 k c)) = code m d := by
  funext c k; rw [in7_eq]; exact v0_at m d k c

/-! ## The weights -/

theorem out8_at (R : Fin 16384) (n : Fin 129) : out8 (Va m) d (ptOf R) (ix2 (rwOf R) n) = wRow m d R n := by
  unfold out8 wRow
  rw [oW_row, in1_eq, in2_eq, in3_eq, in4_eq, in5_eq, in6_eq, in0_xRow, Va_arg1, Va_arg3, Va_arg5]
  simp only [v2_at, v3_at, v4_at]
  rfl

theorem fin8_at (R : Fin 16384) (n : Fin 129) : (fin8 (Va m) d : FVec Ideal S16384x129 .f32) (ix2 R n) = wRow m d R n := out8_at m d R n

/-! ## The numbers -/

theorem out9_at (R : Fin 16384) : ∃ k, Nearest m d R k ∧ out9 (Va m) d (ptOf R) (ix2 (rwOf R) 0) = BitVec.ofNat 32 k.val := by
  obtain ⟨k, hk, he⟩ := oI_first (in0 (Va m) d (ptOf R)) (in1 (Va m) d (ptOf R)) (in2 (Va m) d (ptOf R)) (in3 (Va m) d (ptOf R)) (in4 (Va m) d (ptOf R))
    (in5 (Va m) d (ptOf R)) (in6 (Va m) d (ptOf R)) (in7 (Va m) d (ptOf R)) (rwOf R)
  refine ⟨k, ?_, he⟩
  have hw : (fun n => oW (in0 (Va m) d (ptOf R)) (in1 (Va m) d (ptOf R)) (in2 (Va m) d (ptOf R)) (in3 (Va m) d (ptOf R)) (in4 (Va m) d (ptOf R))
    (in5 (Va m) d (ptOf R)) (in6 (Va m) d (ptOf R)) (ix2 (rwOf R) n)) = wRow m d R := funext fun n => out8_at m d R n
  rw [hw, in0_xRow, in7_code] at hk
  exact hk

theorem fin9_at (R : Fin 16384) : ∃ k, Nearest m d R k ∧ (fin9 (Va m) d : IVec S16384x1 32) (ix2 R 0) = BitVec.ofNat 32 k.val := out9_at m d R

theorem fin9_of {R : Fin 16384} {k : Fin 1024} (hk : Nearest m d R k) : out9 (Va m) d (ptOf R) (ix2 (rwOf R) 0) = BitVec.ofNat 32 k.val := by
  obtain ⟨k', hk', h⟩ := out9_at m d R
  rw [h, First.unique hk' hk]

/-- The lists of numbers hold, at the place of row `R`'s word, row `R`'s number. -/
theorem out10_at (t : Fin 32) (a : Fin 4) (b : Fin 128) : ∃ R : Fin 16384, R.val = t.val * 512 + a.val * 128 + b.val
    ∧ out10 (Va m) d (ptOf3 t) (ix3 0 a b) = out9 (Va m) d (ptOf R) (ix2 (rwOf R) 0) := by
  refine ⟨⟨t.val * 512 + a.val * 128 + b.val, by omega⟩, rfl, ?_⟩
  have ht : ptOf ⟨t.val * 512 + a.val * 128 + b.val, by omega⟩ = ptOf3 t := Fin.ext (by show (t.val * 512 + a.val * 128 + b.val) / 512 = t.val; omega)
  have hr : rwOf ⟨t.val * 512 + a.val * 128 + b.val, by omega⟩ = ⟨a.val * 128 + b.val, by omega⟩ :=
    Fin.ext (by show (t.val * 512 + a.val * 128 + b.val) % 512 = a.val * 128 + b.val; omega)
  rw [ht, hr]
  exact oI3_at _ _ _ _ _ _ _ _ a b

/-- Every number in the lists is a row of the codebook. -/
theorem ixM_lt (x : S32x4x128.Idx) : (ixM m d x : BitVec 32).toNat < 1024 := by
  obtain ⟨R, -, h⟩ := out10_at m d (x 0) (x 1) (x 2)
  obtain ⟨k, -, hk⟩ := out9_at m d R
  have e : (ixM m d x : BitVec 32) = BitVec.ofNat 32 k.val := h.trans hk
  rw [e, BitVec.toNat_ofNat]
  omega

theorem rowNo_of {R : Fin 16384} {k : Fin 1024} (hk : Nearest m d R k) : rowNo (ixM m) d (wordOf R) = k := by
  obtain ⟨R', hR, h⟩ := out10_at m d ⟨R.val / 512, by omega⟩ ⟨R.val % 512 / 128, by omega⟩ ⟨R.val % 128, by omega⟩
  have hR' : R' = R := Fin.ext (hR.trans (by show R.val / 512 * 512 + R.val % 512 / 128 * 128 + R.val % 128 = R.val; omega))
  subst hR'
  have e : (ixM m d (wordOf R') : BitVec 32) = BitVec.ofNat 32 k.val := h.trans (fin9_of m d hk)
  refine Fin.ext ?_
  show (ixM m d (wordOf R') : BitVec 32).toNat % 1024 = k.val
  rw [e, BitVec.toNat_ofNat]
  omega

/-! ## The codeword and its prediction -/

theorem gathered_at {R : Fin 16384} {k : Fin 1024} (hk : Nearest m d R k) (n : Fin 128) :
    (gathered (tbM m) (ixM m) d : FVec Ideal S16384x128 .f32) (ix2 R n) = code m d k ⟨n.val, by omega⟩ := by
  rw [← v1_at, ← rowNo_of m d hk]
  rfl

theorem fin12_at {R : Fin 16384} {k : Fin 1024} (hk : Nearest m d R k) : (fin12 (Va m) d : FVec Ideal S16384x1 .f32) (ix2 R 0) = code m d k 128 := by
  have h : out12 (Va m) d (ptOf R) (ix2 (rwOf R) 0) = lastRow (in7 (Va m) d (ptOf R)) (ix2 0 k) := pay4_at _ _ _ k (fin9_of m d hk)
  refine h.trans ?_
  rw [lastRow_at, ← in7_code m d (ptOf R)]

theorem glue_at {R : Fin 16384} {k : Fin 1024} (hk : Nearest m d R k) (n : Fin 129) :
    glue (F := Ideal) (gathered (tbM m) (ixM m) d) (fin12 (Va m) d) (ix2 R n) = code m d k n := by
  have h : ∀ (a : FVec Ideal S16384x128 .f32) (b : FVec Ideal S16384x1 .f32), glue (F := Ideal) a b (ix2 R n)
      = if h : n.val < 128 then a (ix2 R ⟨n.val, h⟩) else b (ix2 R ⟨n.val - 128, by omega⟩) := by
    intro a b
    pointwise [glue]
  rw [h]
  by_cases hn : n.val < 128
  · rw [dif_pos hn, gathered_at m d hk]
  · have e : (⟨n.val - 128, by omega⟩ : Fin 1) = 0 := Fin.ext (by show n.val - 128 = 0; omega)
    rw [dif_neg hn, e, fin12_at m d hk]
    exact congrArg (code m d k) (Fin.ext (by show 128 = n.val; omega))

theorem fin11_at {R : Fin 16384} {k : Fin 1024} (hk : Nearest m d R k) : (fin11 (Va m) d : FVec Ideal S16384x1 .f32) (ix2 R 0) = rowScore (xRow m d R) (code m d) k := by
  have h : out11 (Va m) d (ptOf R) (ix2 (rwOf R) 0) = k0_pay7 (in0 (Va m) d (ptOf R)) (in7 (Va m) d (ptOf R)) (ix2 (rwOf R) k) := pay3_at _ _ _ k (fin9_of m d hk)
  refine h.trans ?_
  rw [score_row, in0_xRow, in7_code]

end Cert.Proof.Run
-- ==== Proof.RefRows.lean ====
/-
  The reference's arrays at a row, over the extended reals.
-/
module

public import proofs.«01_k».proof.Proof.Least

@[expose] public section

noncomputable section

namespace Cert.Proof.Maths

open Idealize.ShloMosaic
open Cert.ReferenceIdeal Cert.ReferenceIdeal.Gen Cert.Proof.Ref

variable (x : FVec Ideal S16384x128 .f32) (w1 : FVec Ideal S128x256 .f32) (b1 : FVec Ideal S256 .f32) (w2 : FVec Ideal S256x256 .f32) (b2 : FVec Ideal S256 .f32)
  (w3 : FVec Ideal S256x129 .f32) (b3 : FVec Ideal S129 .f32) (cb : FVec Ideal S1024x129 .f32)

theorem rAug_row (R : Fin 16384) (k : Fin 129) : rAug (F := Ideal) x (ix2 R k) = rowAug (fun k => x (ix2 R k)) k := by
  unfold rowAug
  pointwise [rAug]

theorem rW_row (R : Fin 16384) (n : Fin 129) : rW (F := Ideal) x w1 b1 w2 b2 w3 b3 (ix2 R n)
    = rowW (fun k => x (ix2 R k)) (fun k n => w1 (ix2 k n)) (fun n => b1 (ix1 n)) (fun k n => w2 (ix2 k n)) (fun n => b2 (ix1 n))
        (fun k n => w3 (ix2 k n)) (fun n => b3 (ix1 n)) n := by
  unfold rowW affine
  pointwise [rW, rRelu]

theorem rSq_row (w : FVec Ideal S16384x129 .f32) (R : Fin 16384) (c : Fin 1024) : rSq (F := Ideal) x w cb (ix2 R c)
    = rowSq (fun k => x (ix2 R k)) (fun c k => cb (ix2 c k)) (fun n => w (ix2 R n)) c := by
  unfold rowSq rowY rowScore
  pointwise [rSq, rAug_row]

theorem rY_row (w wq : FVec Ideal S16384x129 .f32) (R : Fin 16384) : rY (F := Ideal) x w wq (ix2 R 0)
    = rowY (fun k => x (ix2 R k)) (fun n => w (ix2 R n) + (-w (ix2 R n) + wq (ix2 R n))) := by
  unfold rowY
  pointwise [rY, rAug_row]

theorem drop_refRow (i : S16384x1024.Idx) : reducesTo_S16384x1024_S16384_d1.drop i = ix1 (i 0) := by
  funext b; match b with
  | 0 => exact Fin.ext (reducesTo_S16384x1024_S16384_d1.drop_apply_val_of_eq i 0 0)

/-- The reference's comparison of two pairs: the lesser value, and on equal values the lesser number. -/
def pairLe (a b : EReal × BitVec 32) : Prop := a.1 < b.1 ∨ (a.1 = b.1 ∧ a.2.toInt ≤ b.2.toInt)

theorem reducer_eq (a b : EReal × BitVec 32) : reducer_argmin_f32_i32 (F := Ideal) a b
    = if a.1 < b.1 then a else if a.1 = b.1 ∧ a.2.toInt < b.2.toInt then (b.1, a.2) else b := by
  have h : reducer_argmin_f32_i32 (F := Ideal) a b
      = (let v4 := IntOp.ori (BitVec.ofBool (decide (a.1 < b.1))) (BitVec.ofBool (decide (a.1 ≠ a.1)))
         (Scalar.select v4 a.1 b.1, Scalar.select (IntOp.ori v4 (IntOp.andi (BitVec.ofBool (decide (a.1 = b.1))) (BitVec.ofBool (a.2.slt b.2)))) a.2 b.2)) := rfl
  rw [h]
  have hs : a.2.slt b.2 = decide (a.2.toInt < b.2.toInt) := rfl
  by_cases h1 : a.1 < b.1
  · have h2 : a.1 ≠ b.1 := ne_of_lt h1
    simp [h1, h2, Scalar.select, IntOp.ori, IntOp.andi]
  · by_cases h2 : a.1 = b.1 <;> by_cases h3 : a.2.toInt < b.2.toInt <;> simp [h1, h2, h3, hs, Scalar.select, IntOp.ori, IntOp.andi]

theorem reducer_cases (a b : EReal × BitVec 32) : (reducer_argmin_f32_i32 (F := Ideal) a b = a ∨ reducer_argmin_f32_i32 (F := Ideal) a b = b)
    ∧ pairLe (reducer_argmin_f32_i32 (F := Ideal) a b) a ∧ pairLe (reducer_argmin_f32_i32 (F := Ideal) a b) b := by
  rw [reducer_eq]
  by_cases h1 : a.1 < b.1
  · rw [if_pos h1]; exact ⟨Or.inl rfl, Or.inr ⟨rfl, le_rfl⟩, Or.inl h1⟩
  · rw [if_neg h1]
    by_cases h2 : a.1 = b.1 ∧ a.2.toInt < b.2.toInt
    · rw [if_pos h2]
      exact ⟨Or.inl (by rw [← h2.1]), Or.inr ⟨h2.1.symm, le_rfl⟩, Or.inr ⟨rfl, h2.2.le⟩⟩
    · rw [if_neg h2]
      refine ⟨Or.inr rfl, ?_, Or.inr ⟨rfl, le_rfl⟩⟩
      rcases lt_or_eq_of_le (not_lt.1 h1) with h | h
      · exact Or.inl h
      · exact Or.inr ⟨h, not_lt.1 fun h3 => h2 ⟨h.symm, h3⟩⟩

theorem pairLe_trans (a b c : EReal × BitVec 32) (h : pairLe a b) (h' : pairLe b c) : pairLe a c := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

theorem foldl_pick_self {α : Type} (f : α → α → α) (le : α → α → Prop) (hr : ∀ a, le a a) (ht : ∀ a b c, le a b → le b c → le a c)
    (hm : ∀ a b, f a b = a ∨ f a b = b) (hl : ∀ a b, le (f a b) a ∧ le (f a b) b) (l : List α) (z : α) :
    (l.foldl f z = z ∨ l.foldl f z ∈ l) ∧ le (l.foldl f z) z ∧ ∀ p ∈ l, le (l.foldl f z) p := by
  obtain ⟨h1, h2, h3⟩ := foldl_pick f le hr ht hm hl id l z
  refine ⟨?_, h2, h3⟩
  rcases h1 with h1 | ⟨i, hi, h1⟩
  · exact Or.inl h1
  · exact Or.inr (by rw [show l.foldl f z = i from h1]; exact hi)

theorem arg_fold {s t u : Shape} {axes : List (Fin s.rank)} {φ : FTy} {β : Type} (f : Ideal φ × β → Ideal φ × β → Ideal φ × β) (x : FVec Ideal s φ) (y : s.Idx → β)
    (ix : u.Idx → Ideal φ) (iy : u.Idx → β) (h : s.ReducesTo axes t) (hu : 0 < u.numel) (j : t.Idx) :
    Host.argReduce f x y ix iy h hu j = (Host.argReduceFiber x y h j).foldl f (ix (Shape.Idx.first hu), iy (Shape.Idx.first hu)) := by
  rw [Ideal.argReduce_eq_reduce2, Host.reduce2_eq_foldl_fiber]

theorem mem_fiber {s t : Shape} {axes : List (Fin s.rank)} {α β : Type} (x : s.Idx → α) (y : s.Idx → β) (h : s.ReducesTo axes t) (j : t.Idx) (p : α × β) :
    p ∈ Host.argReduceFiber x y h j ↔ ∃ i, h.drop i = j ∧ (x i, y i) = p := by
  unfold Host.argReduceFiber
  simp only [List.mem_map, List.mem_filter, List.mem_finRange, _root_.true_and, decide_eq_true_eq]
  constructor
  · rintro ⟨n, hn, rfl⟩; exact ⟨_, hn, rfl⟩
  · rintro ⟨i, hi, rfl⟩; exact ⟨s.rowMajor i, by rw [Equiv.symm_apply_apply]; exact hi, by rw [Equiv.symm_apply_apply]⟩

theorem rIdx_eq {F : FTy → Type} [FloatOps F] (sq : (⟨S16384x1024, .f32⟩ : BufTy).Contents (Elt F)) : rIdx (F := F) sq
    = fun j => (Host.argReduce reducer_argmin_f32_i32 sq (iotaInDim S16384x1024 32 1) (constant S_ .f32 0x7F800000#32) (constantI S_ 32 0#32) reducesTo_S16384x1024_S16384_d1 h_S_ j).2 := by
  delta rIdx
  with_reducible rfl

theorem rIdx_fold (sq : FVec Ideal S16384x1024 .f32) (R : Fin 16384) : ∃ (l : List (Ideal .f32 × BitVec 32)) (z : Ideal .f32 × BitVec 32),
    rIdx (F := Ideal) sq (ix1 R) = (l.foldl (reducer_argmin_f32_i32 (F := Ideal)) z).2
      ∧ (∀ p, p ∈ l ↔ ∃ i : S16384x1024.Idx, i 0 = R ∧ (sq i, BitVec.ofNat 32 (i 1).val) = p)
      ∧ z = (constant (F := Ideal) S_ .f32 0x7F800000#32 (Shape.Idx.first h_S_), constantI S_ 32 0#32 (Shape.Idx.first h_S_)) := by
  obtain ⟨l, hl⟩ : ∃ l, l = Host.argReduceFiber sq (iotaInDim S16384x1024 32 1) reducesTo_S16384x1024_S16384_d1 (ix1 R) := ⟨_, rfl⟩
  refine ⟨l, _, ?_, fun p => ?_, rfl⟩
  · rw [rIdx_eq]
    beta_reduce
    rw [arg_fold, ← hl]
  rw [hl]
  rw [mem_fiber]
  simp only [drop_refRow]
  constructor
  · rintro ⟨i, hi, h⟩; exact ⟨i, congrFun hi 0, h⟩
  · rintro ⟨i, rfl, h⟩; exact ⟨i, rfl, h⟩

/-- The reference's choice at row `R` is the first place of the row's least. -/
theorem rIdx_first (sq : FVec Ideal S16384x1024 .f32) (R : Fin 16384) :
    ∃ k : Fin 1024, First (fun c => sq (ix2 R c)) k ∧ rIdx (F := Ideal) sq (ix1 R) = BitVec.ofNat 32 k.val := by
  obtain ⟨l, z, e, hl₀, hz⟩ := rIdx_fold sq R
  obtain ⟨res, hres⟩ : ∃ res : EReal × BitVec 32, res = l.foldl (reducer_argmin_f32_i32 (F := Ideal)) z := ⟨_, rfl⟩
  rw [← hres] at e
  have hz' : z = (⊤, 0#32) := by
    have htop : Ideal.ofBits .f32 0x7F800000#32 = ⊤ := by simp [Ideal.ofBits, Ideal.ieee]
    rw [hz, ← htop]; rfl
  obtain ⟨h1, h2, h3⟩ := foldl_pick_self (reducer_argmin_f32_i32 (F := Ideal)) pairLe (fun a => Or.inr ⟨rfl, le_rfl⟩) pairLe_trans
    (fun a b => (reducer_cases a b).1) (fun a b => (reducer_cases a b).2) l z
  rw [← hres] at h1 h2 h3
  rw [hz'] at h1
  have hl : ∀ c : Fin 1024, (sq (ix2 R c), BitVec.ofNat 32 c.val) ∈ l := by
    intro c
    exact (hl₀ _).2 ⟨ix2 R c, rfl, rfl⟩
  have hl' : ∀ p ∈ l, ∃ c : Fin 1024, p = (sq (ix2 R c), BitVec.ofNat 32 c.val) := by
    intro p hp
    obtain ⟨i, hi, rfl⟩ := (hl₀ p).1 hp
    refine ⟨i 1, ?_⟩
    have : i = ix2 R (i 1) := by
      funext a; match a with
      | 0 => exact hi
      | 1 => rfl
    exact Prod.ext (congrArg sq this) rfl
  have hle : ∀ c : Fin 1024, pairLe res (sq (ix2 R c), BitVec.ofNat 32 c.val) := fun c => by
    exact h3 _ (hl c)
  have key : ∃ k : Fin 1024, res = (sq (ix2 R k), BitVec.ofNat 32 k.val) := by
    rcases h1 with h1 | h1
    · refine ⟨0, ?_⟩
      rcases hle 0 with h | ⟨h, -⟩
      · rw [h1] at h; exact absurd h not_top_lt
      · rw [h1] at h ⊢; exact Prod.ext h rfl
    · exact hl' res h1
  obtain ⟨k, hk⟩ := key
  refine ⟨k, ⟨fun j => ?_, fun j hj => ?_⟩, by rw [e, hk]⟩
  · rcases hle j with h | ⟨h, -⟩ <;> rw [hk] at h
    · exact h.le
    · exact h.le
  · rcases hle j with h | ⟨-, h⟩ <;> rw [hk] at h
    · exact absurd hj (ne_of_gt h)
    · simp only [toInt_lane _ k.isLt, toInt_lane _ j.isLt] at h
      exact Fin.le_def.2 (by exact_mod_cast h)

end Cert.Proof.Maths
-- ==== Proof.Take.lean ====
/-
  The reference's lookup at a row: where every number is a row of the codebook, row `R` of the result is the codebook's row.
-/
module

public import proofs.«01_k».proof.Proof.RefRows
public import Idealize.ShloMosaic.Lib.ReduceAll
public import Idealize.ShloMosaic.Lib.Routing.Ops

@[expose] public section

noncomputable section

namespace Cert.Proof.Maths

open Idealize.ShloMosaic
open Cert.ReferenceIdeal Cert.ReferenceIdeal.Gen Cert.Proof.Ref

variable {F : FTy → Type} [FloatOps F]

/-- A number below 1024 is not negative as a word. -/
theorem word_slt (k : Fin 1024) : IntOp.cmpi .slt (BitVec.ofNat 32 k.val) 0#32 = 0#1 := by
  revert k; decide +kernel
theorem word_sge (k : Fin 1024) : IntOp.cmpi .sge (BitVec.ofNat 32 k.val) 0#32 = 1#1 := by
  revert k; decide +kernel
theorem word_sle (k : Fin 1024) : IntOp.cmpi .sle (BitVec.ofNat 32 k.val) 1023#32 = 1#1 := by
  revert k; decide +kernel

theorem rRow_at (i : IVec S16384 32) (R : Fin 16384) (k : Fin 1024) (h : i (ix1 R) = BitVec.ofNat 32 k.val) :
    rRow (F := F) i (ix2 R 0) = BitVec.ofNat 32 k.val := by
  have e : rRow (F := F) i (ix2 R 0) = Scalar.select (IntOp.cmpi .slt (i (ix1 R)) 0#32) (IntOp.addi (i (ix1 R)) 1024#32) (i (ix1 R)) := by
    pointwise [rRow]
  rw [e, h, word_slt]
  rfl

/-- The test that a row's number is a row of the codebook. -/
theorem inRange_at (v : IVec S16384x1 32) (y : S16384x1.Idx) (k : Fin 1024) (h : v y = BitVec.ofNat 32 k.val) :
    andi (cmpi .sge v (broadcastInDim S16384x1 ![] bcast_S_S16384x1 (constantI S_ 32 0#32)))
          (cmpi .sle v (broadcastInDim S16384x1 ![0, 1] bcast_S1x1_S16384x1_0_1 (broadcastInDim S1x1 ![1] bcast_S1_S1x1_1 (constantI S1 32 1023#32)))) y = 1#1 := by
  show IntOp.andi (IntOp.cmpi .sge (v y) 0#32) (IntOp.cmpi .sle (v y) 1023#32) = 1#1
  rw [h, word_sge, word_sle]
  rfl

theorem rTake_row (cb : FVec F S1024x129 .f32) (i : IVec S16384 32) (hi : ∀ R, ∃ k : Fin 1024, i (ix1 R) = BitVec.ofNat 32 k.val)
    (R : Fin 16384) (k : Fin 1024) (h : i (ix1 R) = BitVec.ofNat 32 k.val) (n : Fin 129) : rTake (F := F) cb i (ix2 R n) = cb (ix2 k n) := by
  have hg : Host.gather gather_S1024x129_S16384x1_S16384x129_1_0_n_n_0_1_1129 cb (rRow (F := F) i) (ix2 R n) = cb (ix2 k n) :=
    Routing.gather_row _ rfl rfl rfl rfl rfl cb (rRow (F := F) i) R n k (rRow_at i R k h) (by decide)
  have e : ∀ (p : IVec S16384 1) (a b : FVec F S16384x129 .f32), p (ix1 R) = 1#1 →
      select (broadcastInDim S16384x129 ![0] bcast_S16384_S16384x129_0 p) a b (ix2 R n) = a (ix2 R n) := by
    intro p a b hp
    have e : select (broadcastInDim S16384x129 ![0] bcast_S16384_S16384x129_0 p) a b (ix2 R n) = Scalar.select (p (ix1 R)) (a (ix2 R n)) (b (ix2 R n)) := by
      pointwise
    rw [e, hp]
    rfl
  refine (e _ _ _ ?_).trans hg
  refine Host.reduce_andi_one _ _ _ _ _ rfl fun y => ?_
  obtain ⟨R', z, rfl⟩ : ∃ (R' : Fin 16384) (z : Fin 1), y = ix2 R' z := ⟨y 0, y 1, by funext a; match a with | 0 => rfl | 1 => rfl⟩
  obtain rfl : z = 0 := Subsingleton.elim _ _
  obtain ⟨k', hk'⟩ := hi R'
  exact inRange_at _ _ k' (rRow_at i R' k' hk')

end Cert.Proof.Maths
-- ==== Proof.Finite.lean ====
/-
  Finite arguments: what the condition says of their entries, and that the predicted weights are then finite.
-/
module

public import proofs.«01_k».proof.Proof.Take
public import proofs.«01_k».proof.Pre_finite

@[expose] public section

noncomputable section

namespace Cert.Proof.Maths

open Idealize.ShloMosaic

/-! ## Real numbers among the extended reals -/

/-- A value that is a real number. -/
def Real' (a : EReal) : Prop := ∃ r : ℝ, a = (r : EReal)

theorem Real'.add {a b : EReal} : Real' a → Real' b → Real' (a + b)
  | ⟨r, hr⟩, ⟨s, hs⟩ => ⟨r + s, by rw [hr, hs, EReal.coe_add]⟩
theorem Real'.mul {a b : EReal} : Real' a → Real' b → Real' (a * b)
  | ⟨r, hr⟩, ⟨s, hs⟩ => ⟨r * s, by rw [hr, hs, EReal.coe_mul]⟩
theorem Real'.zero : Real' 0 := ⟨0, rfl⟩
theorem Real'.max {a b : EReal} (ha : Real' a) (hb : Real' b) : Real' (max a b) := by
  rcases max_choice a b with h | h <;> rw [h] <;> assumption
theorem Real'.sum {ι : Type} (s : Finset ι) (f : ι → EReal) (h : ∀ i, Real' (f i)) : Real' (∑ i ∈ s, f i) := by
  classical
  induction s using Finset.induction_on with
  | empty => exact Real'.zero
  | insert a s ha ih => rw [Finset.sum_insert ha]; exact (h a).add ih

theorem Real'.affine {K N : ℕ} {x : Fin K → EReal} {w : Fin K → Fin N → EReal} {b : Fin N → EReal} (hx : ∀ k, Real' (x k)) (hw : ∀ k n, Real' (w k n))
    (hb : ∀ n, Real' (b n)) (n : Fin N) : Real' (affine x w b n) :=
  (Real'.sum _ _ fun k => (hx k).mul (hw k n)).add (hb n)

theorem Real'.rowW {x : Fin 128 → EReal} {w1 : Fin 128 → Fin 256 → EReal} {b1 : Fin 256 → EReal} {w2 : Fin 256 → Fin 256 → EReal} {b2 : Fin 256 → EReal}
    {w3 : Fin 256 → Fin 129 → EReal} {b3 : Fin 129 → EReal} (hx : ∀ k, Real' (x k)) (h1 : ∀ k n, Real' (w1 k n)) (hb1 : ∀ n, Real' (b1 n))
    (h2 : ∀ k n, Real' (w2 k n)) (hb2 : ∀ n, Real' (b2 n)) (h3 : ∀ k n, Real' (w3 k n)) (hb3 : ∀ n, Real' (b3 n)) (n : Fin 129) :
    Real' (rowW x w1 b1 w2 b2 w3 b3 n) :=
  Real'.affine (fun k => (Real'.affine (fun k => (Real'.affine hx h1 hb1 k).max Real'.zero) h2 hb2 k).max Real'.zero) h3 hb3 n

/-- Adding to a real its negation and any value leaves the value. -/
theorem straight {a : EReal} (ha : Real' a) (q : EReal) : a + (-a + q) = q := by
  obtain ⟨r, rfl⟩ := ha
  rw [← add_assoc, ← sub_eq_add_neg, ← EReal.coe_sub, sub_self, EReal.coe_zero, zero_add]

theorem real_of_abs_lt {a : EReal} (h : max a (-a) < ⊤) : Real' a := by
  induction a using EReal.rec with
  | bot => simp at h
  | coe r => exact ⟨r, rfl⟩
  | top => simp at h

/-! ## The condition -/

section Pre
open Cert.Pre_finite
variable [Cert.Pre_finite.Facts]

/-- Where every entry's absolute value is below infinity, every entry is a real number. -/
theorem all_real {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1) (i : s.Idx) :
    Real' (x i) := by
  haveI : Subsingleton S_.Idx := ⟨fun a b => funext fun k => k.elim0⟩
  have e := Host.reduce_andi_all _ _ _ _ j h i
  have e' : BitVec.ofBool (decide (max (x i) (-x i) < (Ideal.ofBits .f32 0x7F800000#32 : EReal))) = 1#1 := e
  have htop : (Ideal.ofBits .f32 0x7F800000#32 : EReal) = ⊤ := by
    simp [Ideal.ofBits, Ideal.ieee]
  rw [htop] at e'
  refine real_of_abs_lt ?_
  by_contra hn
  rw [decide_eq_false hn] at e'
  exact absurd e' (by decide)

theorem andi_at {a b : IVec S_ 1} {j : S_.Idx} (h : andi a b j = 1#1) : a j = 1#1 ∧ b j = 1#1 := IntOp.andi_eq_one.1 h

/-- The condition says that every entry of every argument but the codebook is a real number. -/
theorem pre_real (x : FVec Ideal S16384x128 .f32) (w1 : FVec Ideal S128x256 .f32) (b1 : FVec Ideal S256 .f32) (w2 : FVec Ideal S256x256 .f32)
    (b2 : FVec Ideal S256 .f32) (w3 : FVec Ideal S256x129 .f32) (b3 : FVec Ideal S129 .f32) (cb : FVec Ideal S1024x129 .f32)
    (h : Cert.Pre_finite.fn (F := Ideal) x w1 b1 w2 b2 w3 b3 cb = fun _ => 1#1) :
    (∀ i, Real' (x i)) ∧ (∀ i, Real' (w1 i)) ∧ (∀ i, Real' (b1 i)) ∧ (∀ i, Real' (w2 i)) ∧ (∀ i, Real' (b2 i)) ∧ (∀ i, Real' (w3 i)) ∧ (∀ i, Real' (b3 i)) := by
  have j : S_.Idx := fun k => k.elim0
  have h0 := congrFun h j
  unfold Cert.Pre_finite.fn Cert.Pre_finite.fn_part1 at h0
  dsimp only at h0
  obtain ⟨h0, h6⟩ := andi_at h0
  obtain ⟨h0, h5⟩ := andi_at h0
  obtain ⟨h0, h4⟩ := andi_at h0
  obtain ⟨h0, h3⟩ := andi_at h0
  obtain ⟨h0, h2⟩ := andi_at h0
  obtain ⟨h0, h1⟩ := andi_at h0
  exact ⟨all_real _ _ _ _ j h0, all_real _ _ _ _ j h1, all_real _ _ _ _ j h2, all_real _ _ _ _ j h3, all_real _ _ _ _ j h4, all_real _ _ _ _ j h5, all_real _ _ _ _ j h6⟩

end Pre

end Cert.Proof.Maths
-- ==== Proof.Same.lean ====
/-
  The four results: the kernel's arrays at the end are the reference's, over the extended reals.
-/
module

public import proofs.«01_k».proof.Proof.Outcome
public import proofs.«01_k».proof.Proof.Finite

@[expose] public section

noncomputable section

namespace Cert.Proof.Maths

open Cert.KernelIdeal Cert.KernelIdeal.Gen Cert.Proof.Run
open Idealize.ShloMosaic Idealize.ShloMosaic.TcCoe

/-! ## The reference's shape changes, read at a row -/

theorem rIdx1_at (i : IVec Cert.ReferenceIdeal.S16384 32) (R : Fin 16384) : Ref.rIdx1 (F := Ideal) i (ix2 R 0) = i (ix1 R) := by
  pointwise [Ref.rIdx1]

theorem flat_at (i : IVec Cert.ReferenceIdeal.S16384x1 32) (R : Fin 16384) :
    shapeCast Cert.ReferenceIdeal.S16384 i Cert.ReferenceIdeal.Gen.shapeCasts_S16384x1_S16384 (ix1 R) = i (ix2 R 0) := by
  pointwise

/-! ## The results -/

variable (m : (ℓ : Loc nD τ sig) → Buf (Elt Ideal) ℓ) (d : Dev nD)

/-- The reference's weights on the kernel's arguments. -/
abbrev refW : FVec Ideal Cert.ReferenceIdeal.S16384x129 .f32 := Ref.rW (F := Ideal) (a0 m d) (a1 m d) (a2 m d) (a3 m d) (a4 m d) (a5 m d) (a6 m d)
/-- The reference's squared distances on the kernel's arguments. -/
abbrev refSq : FVec Ideal Cert.ReferenceIdeal.S16384x1024 .f32 := Ref.rSq (F := Ideal) (a0 m d) (refW m d) (a7 m d)
/-- The reference's numbers on the kernel's arguments. -/
abbrev refIdx : IVec Cert.ReferenceIdeal.S16384x1 32 := Ref.rIdx1 (F := Ideal) (Ref.rIdx (F := Ideal) (refSq m d))
/-- The reference's codewords on the kernel's arguments. -/
abbrev refTake : FVec Ideal Cert.ReferenceIdeal.S16384x129 .f32 :=
  Ref.rTake (F := Ideal) (a7 m d) (shapeCast Cert.ReferenceIdeal.S16384 (refIdx m d) Cert.ReferenceIdeal.Gen.shapeCasts_S16384x1_S16384)
/-- The reference's predictions on the kernel's arguments. -/
abbrev refY : FVec Ideal Cert.ReferenceIdeal.S16384x1 .f32 := Ref.rY (F := Ideal) (a0 m d) (refW m d) (refTake m d)

theorem refW_at (R : Fin 16384) (n : Fin 129) : refW m d (ix2 R n) = wRow m d R n := rW_row _ _ _ _ _ _ _ R n

theorem refIdx_at (R : Fin 16384) : ∃ k, Nearest m d R k ∧ refIdx m d (ix2 R 0) = BitVec.ofNat 32 k.val := by
  obtain ⟨k, hk, h⟩ := rIdx_first (refSq m d) R
  refine ⟨k, ?_, (rIdx1_at _ R).trans h⟩
  have e : (fun c => refSq m d (ix2 R c)) = rowSq (xRow m d R) (code m d) (wRow m d R) := funext fun c => by
    refine (rSq_row _ _ _ R c).trans ?_
    rw [show (fun n => refW m d (ix2 R n)) = wRow m d R from funext (refW_at m d R)]
    rfl
  rwa [e] at hk

theorem refTake_at (R : Fin 16384) : ∃ k, Nearest m d R k ∧ ∀ n, refTake m d (ix2 R n) = code m d k n := by
  obtain ⟨k, hk, h⟩ := refIdx_at m d R
  refine ⟨k, hk, fun n => rTake_row _ _ (fun R' => ?_) R k ((flat_at _ R).trans h) n⟩
  obtain ⟨k', -, h'⟩ := refIdx_at m d R'
  exact ⟨k', (flat_at _ R').trans h'⟩

/-- Result 1: the weights. -/
theorem same_w : (fin8 (Va m) d : FVec Ideal S16384x129 .f32) = refW m d := by
  funext y
  obtain ⟨R, n, rfl⟩ : ∃ (R : Fin 16384) (n : Fin 129), y = ix2 R n := ⟨y 0, y 1, by funext a; match a with | 0 => rfl | 1 => rfl⟩
  rw [fin8_at, refW_at]

theorem col_eq (y : S16384x1.Idx) : ∃ R : Fin 16384, y = ix2 R 0 := by
  refine ⟨y 0, ?_⟩
  funext a; match a with
  | 0 => rfl
  | 1 => exact Subsingleton.elim (α := Fin 1) _ _

/-- Result 3: the numbers. -/
theorem same_idx : (fin9 (Va m) d : IVec S16384x1 32) = refIdx m d := by
  funext y
  obtain ⟨R, rfl⟩ := col_eq y
  obtain ⟨k, hk, h⟩ := fin9_at m d R
  obtain ⟨k', hk', h'⟩ := refIdx_at m d R
  rw [h, h', First.unique hk hk']

/-- Result 2: the codewords. -/
theorem same_take : glue (F := Ideal) (gathered (tbM m) (ixM m) d) (fin12 (Va m) d) = refTake m d := by
  funext y
  obtain ⟨R, n, rfl⟩ : ∃ (R : Fin 16384) (n : Fin 129), y = ix2 R n := ⟨y 0, y 1, by funext a; match a with | 0 => rfl | 1 => rfl⟩
  obtain ⟨k, hk, h⟩ := refTake_at m d R
  rw [glue_at m d hk, h]

/-- Result 4: the codeword's prediction, where the weights are finite. -/
theorem same_y (hw : ∀ R n, Real' (wRow m d R n)) : (fin11 (Va m) d : FVec Ideal S16384x1 .f32) = refY m d := by
  funext y
  obtain ⟨R, rfl⟩ := col_eq y
  obtain ⟨k, hk, h⟩ := refTake_at m d R
  rw [fin11_at m d hk]
  refine Eq.symm ((rY_row _ _ _ R).trans ?_)
  unfold rowY rowScore
  refine Finset.sum_congr rfl fun n _ => ?_
  beta_reduce
  rw [h n, refW_at m d R n, straight (hw R n)]
  rfl

/-- The weights are finite where the arguments are. -/
theorem wRow_real [Cert.Pre_finite.Facts] (h : Cert.Pre_finite.fn (F := Ideal) (a0 m d) (a1 m d) (a2 m d) (a3 m d) (a4 m d) (a5 m d) (a6 m d) (a7 m d) = fun _ => 1#1)
    (R : Fin 16384) (n : Fin 129) : Real' (wRow m d R n) := by
  obtain ⟨h0, h1, h2, h3, h4, h5, h6⟩ := pre_real _ _ _ _ _ _ _ _ h
  exact Real'.rowW (fun k => h0 _) (fun k n => h1 _) (fun n => h2 _) (fun k n => h3 _) (fun n => h4 _) (fun k n => h5 _) (fun n => h6 _) n

end Cert.Proof.Maths
-- ==== Proof.Frames.lean ====
/-
  The claims' runs: the kernel's and the reference's, with their arguments unchanged and every semaphore at zero.
-/
module

public import proofs.«01_k».proof.Defs
public import proofs.«01_k».proof.Proof.Same
public import proofs.«01_k».proof.Proof.Gen.Reference

@[expose] public section

noncomputable section

namespace Cert.Proof

open Idealize.ShloMosaic Idealize.ShloMosaic.TcCoe

namespace Run
open Cert.KernelIdeal Cert.KernelIdeal.Gen

variable (m : (ℓ : Loc nD τ sig) → Buf (Elt Ideal) ℓ) (ρ : Dev nD → PrngReg)

theorem run_ideal : θ_run (Cert.KernelIdeal.defs (F := Ideal)) (Cert.KernelIdeal.threads (F := Ideal)) ⟨m, fun _ => 0, ρ⟩
    (fun r => (∀ c : Dev nD, ∀ b ∈ ucRefs, r.2.mem (c, b) = Wf m c b) ∧ r.2.sem = fun _ => 0) :=
  run_main m ρ (ixM_lt m)

theorem arg_kept {mem : (ℓ : Loc nD τ sig) → Buf (Elt Ideal) ℓ} {c : Dev nD} (h : ∀ b ∈ ucRefs, mem (c, b) = Wf m c b) (b : Ref sig .tc)
    (hu : (b : DevRef τ sig) ∈ ucRefs) (hb : b ∈ [main_arg0, main_arg1, main_arg2, main_arg3, main_arg4, main_arg5, main_arg6, main_arg7]) :
    mem ((c.tc : Thread nD τ).loc b) = m ((c.tc : Thread nD τ).loc b) := (h _ hu).trans (Wf_arg m c b hb)

end Run

/-- The kernel keeps its arguments. -/
theorem kernel_frame : Cert.quiescent_KernelIdeal := by
  intro m g _
  refine (θ_run _ _ _).mono ?_ (Run.run_ideal m g)
  rintro r ⟨h, hs⟩
  refine ⟨fun c => ⟨?_, ?_, ?_, ?_, ?_, ?_, ?_, ?_⟩, hs⟩ <;> exact Run.arg_kept m (h c) _ (by decide) (by decide)

/-- The reference keeps its arguments. -/
theorem reference_frame : Cert.quiescent_ReferenceIdeal := by
  intro m g _
  refine (θ_run _ _ _).mono ?_ (Ref.run m g)
  rintro r ⟨h, hs⟩
  exact ⟨fun c => ⟨(h c _).trans (Ref.after_arg0 _), (h c _).trans (Ref.after_arg1 _), (h c _).trans (Ref.after_arg2 _), (h c _).trans (Ref.after_arg3 _),
    (h c _).trans (Ref.after_arg4 _), (h c _).trans (Ref.after_arg5 _), (h c _).trans (Ref.after_arg6 _), (h c _).trans (Ref.after_arg7 _)⟩, hs⟩

/-- The reference over float words keeps its arguments. -/
theorem reference_words_frame : Cert.quiescent_Reference := by
  intro m g _
  refine (θ_run _ _ _).mono ?_ (Ref.run (F := Bits) m g)
  rintro r ⟨h, hs⟩
  exact ⟨fun c => ⟨(h c _).trans (Ref.after_arg0 _), (h c _).trans (Ref.after_arg1 _), (h c _).trans (Ref.after_arg2 _), (h c _).trans (Ref.after_arg3 _),
    (h c _).trans (Ref.after_arg4 _), (h c _).trans (Ref.after_arg5 _), (h c _).trans (Ref.after_arg6 _), (h c _).trans (Ref.after_arg7 _)⟩, hs⟩

/-- The kernel's results, and its arguments kept. -/
theorem kernel_results (m : (ℓ : Loc Cert.KernelIdeal.nD Cert.KernelIdeal.τ Cert.KernelIdeal.sig) → Buf (Elt Ideal) ℓ) (g : Dev Cert.KernelIdeal.nD → PrngReg)
    (hw : ∀ d R n, Maths.Real' (Run.wRow m d R n)) :
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_v5_0) = Maths.refW m c
      ∧ r.2.mem ((c.tc : Thread Cert.KernelIdeal.nD Cert.KernelIdeal.τ).loc Cert.KernelIdeal.main_v7) = Maths.refTake m c
      ∧ r.2.mem ((c.tc : Thread Cert.KernelIdeal.nD Cert.KernelIdeal.τ).loc Cert.KernelIdeal.main_v5_1) = Maths.refIdx m c
      ∧ r.2.mem ((c.tc : Thread Cert.KernelIdeal.nD Cert.KernelIdeal.τ).loc Cert.KernelIdeal.main_v5_3) = Maths.refY m c
      ∧ (∀ b ∈ Run.ucRefs, r.2.mem (c, b) = Run.Wf m c b)) := by
  refine (θ_run _ _ _).mono ?_ (Run.run_ideal m g)
  rintro r ⟨h, -⟩ c
  exact ⟨((h c _ (by decide)).trans (Run.Wf_8 m c)).trans (Maths.same_w m c), ((h c _ (by decide)).trans (Run.Wf_7 m c)).trans (Maths.same_take m c),
    ((h c _ (by decide)).trans (Run.Wf_9 m c)).trans (Maths.same_idx m c), ((h c _ (by decide)).trans (Run.Wf_11 m c)).trans (Maths.same_y m c (hw c)), h c⟩

/-- The kernel's results are the reference's. -/
theorem same [hP : Cert.Pre_finite.Facts] : Cert.algebraic_KernelIdeal_ReferenceIdeal_pre_finite (hPre_finite := hP) := by
  intro m g m' g' hpre harg
  refine ⟨Maths.refW m, Maths.refTake m, Maths.refIdx m, Maths.refY m, ?_, ?_⟩
  · refine (θ_run _ _ _).mono ?_ (kernel_results m g fun d => Maths.wRow_real m d (hpre d))
    intro r h c
    obtain ⟨h1, h2, h3, h4, h⟩ := h c
    refine ⟨h1, h2, h3, h4, ?_, ?_, ?_, ?_, ?_, ?_, ?_, ?_⟩ <;> exact Run.arg_kept m h _ (by decide) (by decide)
  · refine (θ_run _ _ _).mono ?_ (Ref.run m' g')
    rintro r ⟨h, -⟩ c
    obtain ⟨e0, e1, e2, e3, e4, e5, e6, e7⟩ := harg c
    have f0 : StableHlo.launchContents m' c (Cert.ReferenceIdeal.main_arg0 : DevRef Cert.ReferenceIdeal.τ Cert.ReferenceIdeal.sig) = Run.a0 m c := e0
    have f1 : StableHlo.launchContents m' c (Cert.ReferenceIdeal.main_arg1 : DevRef Cert.ReferenceIdeal.τ Cert.ReferenceIdeal.sig) = Run.a1 m c := e1
    have f2 : StableHlo.launchContents m' c (Cert.ReferenceIdeal.main_arg2 : DevRef Cert.ReferenceIdeal.τ Cert.ReferenceIdeal.sig) = Run.a2 m c := e2
    have f3 : StableHlo.launchContents m' c (Cert.ReferenceIdeal.main_arg3 : DevRef Cert.ReferenceIdeal.τ Cert.ReferenceIdeal.sig) = Run.a3 m c := e3
    have f4 : StableHlo.launchContents m' c (Cert.ReferenceIdeal.main_arg4 : DevRef Cert.ReferenceIdeal.τ Cert.ReferenceIdeal.sig) = Run.a4 m c := e4
    have f5 : StableHlo.launchContents m' c (Cert.ReferenceIdeal.main_arg5 : DevRef Cert.ReferenceIdeal.τ Cert.ReferenceIdeal.sig) = Run.a5 m c := e5
    have f6 : StableHlo.launchContents m' c (Cert.ReferenceIdeal.main_arg6 : DevRef Cert.ReferenceIdeal.τ Cert.ReferenceIdeal.sig) = Run.a6 m c := e6
    have f7 : StableHlo.launchContents m' c (Cert.ReferenceIdeal.main_arg7 : DevRef Cert.ReferenceIdeal.τ Cert.ReferenceIdeal.sig) = Run.a7 m c := e7
    refine ⟨(h c _).trans ((Ref.after_w _).trans ?_), (h c _).trans ((Ref.after_take _).trans ?_), (h c _).trans ((Ref.after_idx _).trans ?_),
      (h c _).trans ((Ref.after_y _).trans ?_), (h c _).trans (Ref.after_arg0 _), (h c _).trans (Ref.after_arg1 _), (h c _).trans (Ref.after_arg2 _),
      (h c _).trans (Ref.after_arg3 _), (h c _).trans (Ref.after_arg4 _), (h c _).trans (Ref.after_arg5 _), (h c _).trans (Ref.after_arg6 _), (h c _).trans (Ref.after_arg7 _)⟩
    · rw [f0, f1, f2, f3, f4, f5, f6]
    all_goals rw [f0, f1, f2, f3, f4, f5, f6, f7]

end Cert.Proof
-- ==== Proof.CallSetup.lean ====
/-
  The program as the SparseCore launch theorem sees it, and what the one SparseCore call's handshakes carry.

  The call gathers rows of a table. `tb d` is the table's contents on device `d`, `ix d` the contents of the array of
  row numbers (32 lists of 4 × 128), `g0 d` the output's contents before the call. Tile number `w = 2 s + c` (vector
  subcore `s` of SparseCore `c`) reads list `w`, a 32nd share of the table, and writes block `w` (512 rows) of the
  output. After the call the output is `gathered tb ix d`: row `r` is the table row that word `r` of the lists names.
-/
module

public import proofs.«01_k».proof.Defs
public import proofs.«01_k».proof.Proof.GatherBatch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.ValueIdx
public import Idealize.ShloMosaic.Lib.Tactic
public import proofs.«01_k».proof.Proof.Gen.GatherIdeal
public import proofs.«01_k».proof.Proof.Gen.GatherIdeal.Skeleton

@[expose] public section

noncomputable section

namespace Cert.Proof.Call

open Cert.GatherIdeal Cert.GatherIdeal.Gen

open Idealize.ShloMosaic
open Idealize.ShloMosaic.ValueIdx (ix2 ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program's parts -/

abbrev ΛP [FloatOps F] : Labels := Pipeline.Sig Λ₀ (Fin 0) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := UR sig nD τ
abbrev UU : Type := UH × (UP × Counters)

abbrev MM (F : FTy → Type) : Type := MT nD τ sig (HIx 1) (Elt F) ℕ UU ℕ

abbrev EH : Emb UH (MM F) := embL
abbrev EP : Emb UP (MM F) := (Emb.inl : Emb UP (UP × Counters)).trans embR

instance EP_landsIn : (EP : Emb UP (MM F)).LandsIn (upEmb : UEmb _ (MM F)) := by unfold EP; infer_instance

/-! ## The buffers of the call -/

abbrev tbLoc (d : Dev nD) : Loc nD τ sig := (SparseCore.T d).loc main_arg0
abbrev ixLoc (d : Dev nD) : Loc nD τ sig := (SparseCore.T d).loc main_arg1
abbrev goLoc (d : Dev nD) : Loc nD τ sig := (SparseCore.T d).loc main_v0

abbrev tbV : Memref sig .scVector .hbm S1024x128 .f32 := Memref.whole main_arg0_scv
abbrev ixV : Memref sig .scVector .hbm S32x4x128 .i32 := Memref.whole main_arg1_scv
abbrev goV : Memref sig .scVector .hbm S16384x128 .f32 := Memref.whole main_v0_scv

theorem ixdiv : 32 ∣ S32x4x128.size 0 := ⟨1, rfl⟩
theorem godiv : 32 ∣ S16384x128.size 0 := ⟨512, rfl⟩
/-- List `w` of the row numbers, and block `w` of the output. -/
abbrev ixPart (w : Fin 32) : Rect S32x4x128 := Rect.part (s := S32x4x128) (a₀ := 0) ixdiv w
abbrev goPart (w : Fin 32) : Rect S16384x128 := Rect.part (s := S16384x128) (a₀ := 0) godiv w
abbrev ixSet (w : Fin 32) : Finset S32x4x128.Idx := (ixPart w).set
abbrev goSet (w : Fin 32) : Finset S16384x128.Idx := (goPart w).set

/-- Tile number `2 s + c`. -/
def tileNo (c : Fin 2) (s : Fin 16) : Fin 32 := ⟨2 * s.val + c.val, by omega⟩

/-- Tile `w`'s share of the table. -/
abbrev tq (w : Fin 32) : PosShare TreeShare := pieceOf fullShare 32 (by decide) w

/-! ## The gathered rows -/

variable (tb : (d : Dev nD) → Buf (Elt F) (tbLoc d)) (ix : (d : Dev nD) → Buf (Elt F) (ixLoc d)) (g0 : (d : Dev nD) → Buf (Elt F) (goLoc d))

/-- The table row that word `(a, b, e)` of the lists names. -/
def rowNo (d : Dev nD) (y : S32x4x128.Idx) : Fin 1024 := ⟨(ix d y : BitVec 32).toNat % 1024, Nat.mod_lt _ (by decide)⟩

/-- The place in the lists of the word that names output row `r`. -/
def wordOf (r : Fin 16384) : S32x4x128.Idx :=
  ix3 (n0 := 32) (n1 := 4) (n2 := 128) ⟨r.val / 512, by omega⟩ ⟨r.val % 512 / 128, by omega⟩ ⟨r.val % 128, by omega⟩

/-- The output of the call. -/
def gathered (d : Dev nD) : Buf (Elt F) (goLoc d) := fun (y : S16384x128.Idx) =>
  tb d (ix2 (n0 := 1024) (n1 := 128) (rowNo ix d (wordOf (y 0))) (y 1))

/-! ## What the handshakes carry -/

/-- What tile `w` takes: its list, its share of the table, its block of the output. -/
def goRes (d : Dev nD) (w : Fin 32) : sProp (MM F) :=
  iprop((ixLoc d ↦[ixSet w]{fullShare} ix d) ∗ (tbLoc d ↦{tq w} tb d) ∗ (goLoc d ↦[goSet w]{fullShare} g0 d))

/-- What it brings back: the same with its block gathered. -/
def tdRes (d : Dev nD) (w : Fin 32) : sProp (MM F) :=
  iprop((ixLoc d ↦[ixSet w]{fullShare} ix d) ∗ (tbLoc d ↦{tq w} tb d) ∗ (goLoc d ↦[goSet w]{fullShare} gathered tb ix d))

instance goRes_storable (d : Dev nD) (w : Fin 32) : BI.Storable (upEmb : UEmb _ (MM F)) (goRes tb ix g0 d w) := by unfold goRes; infer_instance
instance tdRes_storable (d : Dev nD) (w : Fin 32) : BI.Storable (upEmb : UEmb _ (MM F)) (tdRes tb ix d w) := by unfold tdRes; infer_instance

variable [FloatOps F]

theorem nSub_zero : (K (F := F)).nSub 0 = 16 := rfl
theorem nCore_zero : (K (F := F)).nCore 0 = 2 := rfl

/-- The tile of SparseCore `c` and subcore `i` of the call. -/
abbrev tileOf (c : Fin ((K (F := F)).nCore 0)) (i : Fin ((K (F := F)).nSub 0)) : Fin 32 := tileNo (Fin.cast nCore_zero c) (Fin.cast nSub_zero i)

/-- A SparseCore takes what its sixteen tiles take, and brings back what they bring back. -/
def P : (K (F := F)).Pay (nD := nD) (Val := Elt F) (Name := ℕ) (U := UU) where
  st := fun q d c => match q with | 0 => bigSep Finset.univ fun i => goRes tb ix g0 d (tileOf (F := F) c i)
  dn := fun q d c => match q with | 0 => bigSep Finset.univ fun i => tdRes tb ix d (tileOf (F := F) c i)
  go := fun q d c i => match q with | 0 => goRes tb ix g0 d (tileOf (F := F) c i)
  td := fun q d c i => match q with | 0 => tdRes tb ix d (tileOf (F := F) c i)
  x := fun _ _ => iprop(emp)

instance P_storable : (P (F := F) tb ix g0).IsStorable where
  st q d c := match q with
    | 0 => (inferInstance : BI.Storable (upEmb : UEmb _ (MM F)) (bigSep Finset.univ fun i => goRes tb ix g0 d (tileOf (F := F) c i)))
  dn q d c := match q with
    | 0 => (inferInstance : BI.Storable (upEmb : UEmb _ (MM F)) (bigSep Finset.univ fun i => tdRes tb ix d (tileOf (F := F) c i)))
  go q d c i := match q with
    | 0 => (inferInstance : BI.Storable (upEmb : UEmb _ (MM F)) (goRes tb ix g0 d (tileOf (F := F) c i)))
  td q d c i := match q with
    | 0 => (inferInstance : BI.Storable (upEmb : UEmb _ (MM F)) (tdRes tb ix d (tileOf (F := F) c i)))

/-- A SparseCore's share of the call is its tiles' shares. -/
theorem vecSplit : (K (F := F)).VecSplit' (P tb ix g0) 0 := by
  intro d c
  show (bigSep Finset.univ fun i => goRes tb ix g0 d (tileOf (F := F) c i)) ⊢ |={Set.univ}=> iprop(
      (bigSep Finset.univ fun i => goRes tb ix g0 d (tileOf (F := F) c i))
      ∗ ((bigSep Finset.univ fun i => tdRes tb ix d (tileOf (F := F) c i)) -∗ (bigSep Finset.univ fun i => tdRes tb ix d (tileOf (F := F) c i))))
  iintro H; imodintro
  isplitl [H]; · iexact H
  iintro H; iexact H

end Cert.Proof.Call

end
-- ==== Proof.CallTileViews.lean ====
/-
  The memrefs of one tile's task and what they read.

  A tile's list is row `w` of the row-number array, copied to a 4 × 128 scratch. Gather `j` reads the 128 words of row
  `j` of that scratch and fills rows `128 j … 128 j + 127` of a 512 × 128 scratch, which is then copied to block `w` of
  the output. The lemmas say which elements each memref names, and that the composition is `gathered`.
-/
module

public import proofs.«01_k».proof.Proof.CallSetup

@[expose] public section

noncomputable section

namespace Cert.Proof.Call

open Cert.GatherIdeal Cert.GatherIdeal.Gen

open Idealize.ShloMosaic
open Idealize.ShloMosaic.ValueIdx (ix1 ix2 ix3 eq_ix1 eq_ix2)
open Idealize.ShloMosaic.SparseCore (S V T rows gatherPayload)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

/-! ## The memrefs -/

abbrev sV : Memref sig .scVector .vmem S4x128 .i32 := Memref.whole cc0_scratch0
abbrev rV : Memref sig .scVector .vmem S512x128 .f32 := Memref.whole cc0_scratch1

abbrev cV (L : grid0.Coords) : Fin τ.nSC := (L 0).castLE hcore0
abbrev jV (L : grid0.Coords) : Fin τ.nSub := (L 1).castLE hsub0
/-- The thread of the tile with coordinates `L`, and its number. -/
abbrev tV (d : Dev nD) (L : grid0.Coords) : Thread nD τ := V d (cV L) (jV L)
abbrev wL (L : grid0.Coords) : Fin 32 := tileNo (Fin.cast (show grid0.bound 0 = 2 from rfl) (L 0)) (Fin.cast (show grid0.bound 1 = 16 from rfl) (L 1))

abbrev ixRectK (L : grid0.Coords) : Rect S32x4x128 := Rect.unit (s := S32x4x128) (k0_off1 L) S1x4x128.size (k0_off1_inb L)
abbrev goRectK (L : grid0.Coords) : Rect S16384x128 := Rect.unit (s := S16384x128) (k0_off2 L) S512x128.size (k0_off2_inb L)
/-- The tile's list and its block of the output. -/
abbrev ixK (L : grid0.Coords) : Memref sig .scVector .hbm S4x128 .i32 := (ixV.slice (ixRectK L) (fun _ => rfl)).squeeze S4x128 squeezes_S1x4x128_S4x128
abbrev goK (L : grid0.Coords) : Memref sig .scVector .hbm S512x128 .f32 := goV.slice (goRectK L) (fun _ => rfl)
/-- The table, as every gather names it. -/
abbrev tbK : Memref sig .scVector .hbm S1024x128 .f32 := tbV.slice (Rect.unit (s := S1024x128) ![0, 0] S1024x128.size inb_S1024x128_S1024x128_0_0) (fun _ => rfl)
/-- The four destinations and the four lists. -/
abbrev ds0 : Memref sig .scVector .vmem S128x128 .f32 := rV.slice (Rect.unit (s := S512x128) ![0, 0] S128x128.size inb_S512x128_S128x128_0_0) (fun _ => rfl)
abbrev ds1 : Memref sig .scVector .vmem S128x128 .f32 := rV.slice (Rect.unit (s := S512x128) ![128, 0] S128x128.size inb_S512x128_S128x128_128_0) (fun _ => rfl)
abbrev ds2 : Memref sig .scVector .vmem S128x128 .f32 := rV.slice (Rect.unit (s := S512x128) ![256, 0] S128x128.size inb_S512x128_S128x128_256_0) (fun _ => rfl)
abbrev ds3 : Memref sig .scVector .vmem S128x128 .f32 := rV.slice (Rect.unit (s := S512x128) ![384, 0] S128x128.size inb_S512x128_S128x128_384_0) (fun _ => rfl)
abbrev ls0 : Memref sig .scVector .vmem S128 .i32 := (sV.slice (Rect.unit (s := S4x128) ![0, 0] S1x128.size inb_S4x128_S1x128_0_0) (fun _ => rfl)).squeeze S128 squeezes_S1x128_S128
abbrev ls1 : Memref sig .scVector .vmem S128 .i32 := (sV.slice (Rect.unit (s := S4x128) ![1, 0] S1x128.size inb_S4x128_S1x128_1_0) (fun _ => rfl)).squeeze S128 squeezes_S1x128_S128
abbrev ls2 : Memref sig .scVector .vmem S128 .i32 := (sV.slice (Rect.unit (s := S4x128) ![2, 0] S1x128.size inb_S4x128_S1x128_2_0) (fun _ => rfl)).squeeze S128 squeezes_S1x128_S128
abbrev ls3 : Memref sig .scVector .vmem S128 .i32 := (sV.slice (Rect.unit (s := S4x128) ![3, 0] S1x128.size inb_S4x128_S1x128_3_0) (fun _ => rfl)).squeeze S128 squeezes_S1x128_S128

/-- The same four, by number. -/
abbrev dsR (j : Fin 4) : Rect S512x128 := Rect.unit (s := S512x128) ![128 * j.val, 0] S128x128.size
  (fun a => by match a with | 0 => (show 128 * j.val + 128 ≤ 512; omega) | 1 => exact le_refl 128)
abbrev lsR (j : Fin 4) : Rect S4x128 := Rect.unit (s := S4x128) ![j.val, 0] S1x128.size
  (fun a => by match a with | 0 => (show j.val + 1 ≤ 4; omega) | 1 => exact le_refl 128)
abbrev dsM (j : Fin 4) : Memref sig .scVector .vmem S128x128 .f32 := rV.slice (dsR j) (fun _ => rfl)
abbrev lsM (j : Fin 4) : Memref sig .scVector .vmem S128 .i32 := (sV.slice (lsR j) (fun _ => rfl)).squeeze S128 squeezes_S1x128_S128

theorem wL_val (L : grid0.Coords) : (wL L).val = 2 * (L 1).val + (L 0).val := rfl

/-! ## The element sets -/

theorem ixRectK_eq (L : grid0.Coords) : ixRectK L = ixPart (wL L) := by
  unfold ixRectK ixPart Rect.part Rect.block
  congr 1 <;> funext a
  · rw [k0_off1_eq]
    match a with
    | 0 => simp [Shape.partIx, Shape.partSize, -Fin.val_cast, wL_val]
    | 1 => simp [Shape.partIx, Shape.partSize]
    | 2 => simp [Shape.partIx, Shape.partSize]
  · match a with
    | 0 => simp [Shape.partSize]
    | 1 => simp [Shape.partSize]
    | 2 => simp [Shape.partSize]

theorem goRectK_eq (L : grid0.Coords) : goRectK L = goPart (wL L) := by
  unfold goRectK goPart Rect.part Rect.block
  congr 1 <;> funext a
  · rw [k0_off2_eq]
    match a with
    | 0 => have := wL_val L; simp [Shape.partIx, Shape.partSize, wL_val]; omega
    | 1 => simp [Shape.partIx, Shape.partSize]
  · match a with
    | 0 => simp [Shape.partSize]
    | 1 => simp [Shape.partSize]

theorem set_ixK (L : grid0.Coords) : (ixK L).view.set = ixSet (wL L) := by
  show ((ixV.view.slice (ixRectK L)).reshape S4x128 squeezes_S1x4x128_S4x128.numel_eq).set = _
  rw [View.set_reshape]
  show ((View.whole (main_arg1_scv : Ref sig .scVector)).slice (ixRectK L)).set = _
  rw [View.set_slice, ixRectK_eq]; exact Finset.map_refl

theorem set_goK (L : grid0.Coords) : (goK L).view.set = goSet (wL L) := by
  show ((View.whole (main_v0_scv : Ref sig .scVector)).slice (goRectK L)).set = _
  rw [View.set_slice, goRectK_eq]; exact Finset.map_refl

abbrev dsSet (j : Fin 4) : Finset S512x128.Idx := (dsM j).view.set
abbrev lsSet (j : Fin 4) : Finset S4x128.Idx := (lsM j).view.set

theorem set_dsM (j : Fin 4) : dsSet j = (dsR j).set := by
  show ((View.whole (cc0_scratch1 : Ref sig .scVector)).slice (dsR j)).set = _
  rw [View.set_slice]; exact Finset.map_refl

theorem set_lsM (j : Fin 4) : lsSet j = (lsR j).set := by
  show (((View.whole (cc0_scratch0 : Ref sig .scVector)).slice (lsR j)).reshape S128 squeezes_S1x128_S128.numel_eq).set = _
  rw [View.set_reshape, View.set_slice]; exact Finset.map_refl

theorem ds_disjoint : ∀ i ∈ (Finset.univ : Finset (Fin 4)), ∀ j ∈ (Finset.univ : Finset (Fin 4)), i ≠ j → Disjoint (dsSet i) (dsSet j) := by
  intro i _ j _ h
  rw [set_dsM, set_dsM]
  refine Finset.disjoint_left.mpr fun y hi hj => h (Fin.ext ?_)
  have h1 := (Rect.mem_set_unit.mp hi) 0
  have h2 := (Rect.mem_set_unit.mp hj) 0
  simp at h1 h2; omega

theorem ls_disjoint : ∀ i ∈ (Finset.univ : Finset (Fin 4)), ∀ j ∈ (Finset.univ : Finset (Fin 4)), i ≠ j → Disjoint (lsSet i) (lsSet j) := by
  intro i _ j _ h
  rw [set_lsM, set_lsM]
  refine Finset.disjoint_left.mpr fun y hi hj => h (Fin.ext ?_)
  have h1 := (Rect.mem_set_unit.mp hi) 0
  have h2 := (Rect.mem_set_unit.mp hj) 0
  simp at h1 h2; omega

theorem ds_cover : (Finset.univ : Finset (Fin 4)).biUnion dsSet = Finset.univ := by
  ext y
  simp only [Finset.mem_biUnion, Finset.mem_univ, _root_.true_and, _root_.iff_true]
  have h0 : (y 0).val < 512 := (y 0).isLt
  have h1 : (y 1).val < 128 := (y 1).isLt
  refine ⟨⟨(y 0).val / 128, by omega⟩, ?_⟩
  rw [set_dsM]
  refine Rect.mem_set_unit.mpr fun a => ?_
  match a with
  | 0 => simp; omega
  | 1 => simp; exact h1

theorem ls_cover : (Finset.univ : Finset (Fin 4)).biUnion lsSet = Finset.univ := by
  ext y
  simp only [Finset.mem_biUnion, Finset.mem_univ, _root_.true_and, _root_.iff_true]
  have h0 : (y 0).val < 4 := (y 0).isLt
  have h1 : (y 1).val < 128 := (y 1).isLt
  refine ⟨⟨(y 0).val, by omega⟩, ?_⟩
  rw [set_lsM]
  refine Rect.mem_set_unit.mpr fun a => ?_
  match a with
  | 0 => simp
  | 1 => simp; exact h1

/-! ## What they read -/

variable (tb : (d : Dev nD) → Buf (Elt F) (tbLoc d)) (ix : (d : Dev nD) → Buf (Elt F) (ixLoc d)) (g0 : (d : Dev nD) → Buf (Elt F) (goLoc d))

/-- The tile's list, as the first scratch holds it. -/
def lst (d : Dev nD) (w : Fin 32) : S4x128.Idx → BitVec 32 := fun x => ix d (ix3 (n0 := 32) (n1 := 4) (n2 := 128) w (x 0) (x 1))

/-- The tile's rows, as the second scratch holds them. -/
def tileRows (d : Dev nD) (w : Fin 32) : S512x128.Idx → F .f32 := fun y =>
  tb d (ix2 (n0 := 1024) (n1 := 128) (rowNo ix d (ix3 (n0 := 32) (n1 := 4) (n2 := 128) w
    ⟨(y 0).val / 128, by have : (y 0).val < 512 := (y 0).isLt; omega⟩ ⟨(y 0).val % 128, Nat.mod_lt _ (by decide)⟩)) (y 1))

theorem read_ixK (d : Dev nD) (L : grid0.Coords) : (ixK L).view.read (Elt F) (ix d) = lst ix d (wL L) := by
  funext x
  show ix d ((ixRectK L).emb (Shape.reshapeEquiv squeezes_S1x4x128_S4x128.numel_eq x)) = _
  rw [Shape.reshapeEquiv_eq_of_rowMajor (y := (ix3 (n0 := 1) (n1 := 4) (n2 := 128) 0 (x 0) (x 1) : S1x4x128.Idx)) squeezes_S1x4x128_S4x128.numel_eq
    (by rw [Shape.rowMajor_val_three, Shape.rowMajor_val_two]; simp)]
  unfold lst
  congr 1
  funext a
  apply Fin.ext
  rw [Rect.emb_apply]
  simp only [Rect.off_unit, Rect.stride_unit, k0_off1_eq]
  match a with
  | 0 => simp; exact (wL_val L).symm
  | 1 => simp
  | 2 => simp

theorem read_tbK (d : Dev nD) : tbK.view.read (Elt F) (tb d) = tb d := by
  funext x
  show tb d ((Rect.unit (s := S1024x128) ![0, 0] S1024x128.size inb_S1024x128_S1024x128_0_0).emb x) = tb d x
  congr 1
  funext a
  apply Fin.ext
  rw [Rect.emb_apply]
  simp only [Rect.off_unit, Rect.stride_unit]
  match a with
  | 0 => simp
  | 1 => simp

theorem read_lsM (j : Fin 4) (f : S4x128.Idx → BitVec 32) (x : S128.Idx) : (lsM j).view.read (Elt F) f x = f (ix2 (n0 := 4) (n1 := 128) j (x 0)) := by
  show f ((lsR j).emb (Shape.reshapeEquiv squeezes_S1x128_S128.numel_eq x)) = _
  rw [Shape.reshapeEquiv_eq_of_rowMajor (y := (ix2 (n0 := 1) (n1 := 128) 0 (x 0) : S1x128.Idx)) squeezes_S1x128_S128.numel_eq
    (by rw [Shape.rowMajor_val_two, Shape.rowMajor_val_one]; simp)]
  congr 1
  funext a
  apply Fin.ext
  rw [Rect.emb_apply]
  simp only [Rect.off_unit, Rect.stride_unit]
  match a with
  | 0 => simp
  | 1 => simp

/-- Every word of a tile's list is in range when every word of the lists is. -/
theorem lst_lt (hix : ∀ d x, (ix d x : BitVec 32).toNat < 1024) (d : Dev nD) (w : Fin 32) (j : Fin 4) :
    ∀ x, ((lsM j).view.read (Elt F) (lst ix d w) x : BitVec 32).toNat < 1024 := fun x => by
  rw [read_lsM]; exact hix d _

/-- What gather `j` delivers is its rows of `tileRows`. -/
theorem gather_eq (hix : ∀ d x, (ix d x : BitVec 32).toNat < 1024) (d : Dev nD) (w : Fin 32) (j : Fin 4) (x : S128x128.Idx) :
    gatherPayload (F := F) gathers_S1024x128_S128x128 (tbK.view.read (Elt F) (tb d))
        (rows (o := 128) (z := 1024) ((lsM j).view.read (Elt F) (lst ix d w)) rfl (lst_lt ix hix d w j)) x
      = tileRows tb ix d w ((dsR j).emb x) := by
  have hx0 : (x 0).val < 128 := (x 0).isLt
  have hx1 : (x 1).val < 128 := (x 1).isLt
  unfold gatherPayload tileRows
  rw [read_tbK]
  congr 1
  funext a
  match a with
  | 0 =>
    refine (Shape.Gathers.idx_axis _ _ _).trans ?_
    apply Fin.ext
    show ((lsM j).view.read (Elt F) (lst ix d w) (S128.rowMajor.symm _) : BitVec 32).toNat = (ix d _ : BitVec 32).toNat % 1024
    rw [Nat.mod_eq_of_lt (hix d _), read_lsM]
    unfold lst
    congr 2
    have e0 : ((S128.rowMajor.symm ((x 0).cast rfl)) 0).val = (x 0).val := by
      rw [← Shape.rowMajor_val_one, Equiv.apply_symm_apply]; rfl
    have e1 : (((dsR j).emb x) 0).val = 128 * j.val + (x 0).val := by
      rw [Rect.emb_apply]; simp
    funext b
    apply Fin.ext
    match b with
    | 0 => rfl
    | 1 => show j.val = (((dsR j).emb x) 0).val / 128; rw [e1]; omega
    | 2 => show ((S128.rowMajor.symm ((x 0).cast rfl)) 0).val = (((dsR j).emb x) 0).val % 128; rw [e0, e1]; omega
  | 1 =>
    apply Fin.ext
    refine (Shape.Gathers.idx_of_ne _ _ _ 1 (by decide)).trans ?_
    show (x 1).val = (((dsR j).emb x) 1).val
    rw [Rect.emb_apply]; simp

/-- The tile's rows, copied to its block, are the block of `gathered`. -/
theorem gathered_eq (d : Dev nD) (L : grid0.Coords) (x : S512x128.Idx) :
    gathered tb ix d ((goRectK L).emb x) = tileRows tb ix d (wL L) x := by
  have hx0 : (x 0).val < 512 := (x 0).isLt
  have e0 : (((goRectK L).emb x) 0).val = 512 * (wL L).val + (x 0).val := by
    rw [Rect.emb_apply]; simp only [Rect.off_unit, Rect.stride_unit, k0_off2_eq]; have := wL_val L; simp [wL_val]; omega
  have e1 : (((goRectK L).emb x) 1) = x 1 := by
    apply Fin.ext; rw [Rect.emb_apply]; simp only [Rect.off_unit, Rect.stride_unit, k0_off2_eq]; simp
  unfold gathered tileRows
  rw [e1]
  congr 3
  unfold wordOf
  funext b
  apply Fin.ext
  match b with
  | 0 => show (((goRectK L).emb x) 0).val / 512 = (wL L).val; rw [e0]; omega
  | 1 => show (((goRectK L).emb x) 0).val % 512 / 128 = (x 0).val / 128; rw [e0]; omega
  | 2 => show (((goRectK L).emb x) 0).val % 128 = (x 0).val % 128; rw [e0]; omega

end Cert.Proof.Call

end
-- ==== Proof.CallTile.lean ====
/-
  One tile's task: the copy of its list, four gathers started on one semaphore before any is waited for, their four
  waits, and the copy of the gathered rows to its block of the output. The task is run once, at a symbolic SparseCore
  and subcore, with the value of every buffer carried to the end.
-/
module

public import proofs.«01_k».proof.Proof.CallTileViews

@[expose] public section

noncomputable section

namespace Cert.Proof.Call

open Cert.GatherIdeal Cert.GatherIdeal.Gen

open Idealize.ShloMosaic Idealize.ShloMosaic.Transfers
open Idealize.ShloMosaic.ValueIdx (ix1 ix2 ix3 eq_ix1 eq_ix2)
open Idealize.ShloMosaic.SparseCore (S V T rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable (tb : (d : Dev nD) → Buf (Elt F) (tbLoc d)) (ix : (d : Dev nD) → Buf (Elt F) (ixLoc d)) (g0 : (d : Dev nD) → Buf (Elt F) (goLoc d))
variable (d : Dev nD) (L : grid0.Coords)

/-! ## The tile's semaphores and scratch buffers -/

abbrev cAcell : GSem nD τ sig := (tV d L, .dma cc0_scoped0.sem)
abbrev cBcell : GSem nD τ sig := (tV d L, .dma cc0_scoped1.sem)
abbrev cCcell : GSem nD τ sig := (tV d L, .dma cc0_scratch2.sem)

theorem ownSems0_V :
    (ownSems0 (tV d L) : sProp (MM F))
      = iprop(semVal (cAcell d L) 0 ∗ semVal (cBcell d L) 0 ∗ semVal (cCcell d L) 0
          ∗ bigSep ((((ownCells (tV d L)).erase (cAcell d L)).erase (cBcell d L)).erase (cCcell d L)) fun g => semVal g 0) := by
  unfold SparseCore.Cfg.ownSems0
  rw [SparseCore.bigSep_erase' ((mem_ownCells (g := cAcell d L)).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d L)).mpr ⟨rfl, by
      show (SemLoc.dma cc0_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d L)).mpr ⟨rfl, by show (SemLoc.dma cc0_scratch2.sem : SemLoc sig).isScoped .scVector = true; decide⟩⟩⟩)]

theorem ownBufs_V :
    (ownBufs (tV d L) : sProp (MM F))
      = iprop((∃ f, (tV d L).loc cc0_scratch0 ↦{fullShare} f) ∗ (∃ f, (tV d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The buffers as the task addresses them -/

theorem pts_ixK (f : Buf (Elt F) (ixLoc d)) :
    ((ixK L).view.loc (tV d L) ↦[(ixK L).view.set]{fullShare} f : sProp (MM F)) = ixLoc d ↦[ixSet (wL L)]{fullShare} f := by
  rw [set_ixK]
theorem pts_goK (f : Buf (Elt F) (goLoc d)) :
    ((goK L).view.loc (tV d L) ↦[(goK L).view.set]{fullShare} f : sProp (MM F)) = goLoc d ↦[goSet (wL L)]{fullShare} f := by
  rw [set_goK]
theorem pts_tbV (q : PosShare TreeShare) (f : Buf (Elt F) (tbLoc d)) :
    (tbV.view.loc (tV d L) ↦{q} f : sProp (MM F)) = tbLoc d ↦{q} f := rfl
theorem pts_sV (f : Buf (Elt F) ((tV d L).loc cc0_scratch0)) :
    (sV.view.loc (tV d L) ↦{fullShare} f : sProp (MM F)) = (tV d L).loc cc0_scratch0 ↦{fullShare} f := rfl
theorem pts_rV (f : Buf (Elt F) ((tV d L).loc cc0_scratch1)) :
    (rV.view.loc (tV d L) ↦{fullShare} f : sProp (MM F)) = (tV d L).loc cc0_scratch1 ↦{fullShare} f := rfl

/-! ## The batch of the four gathers' rows -/

variable (hix : ∀ d x, (ix d x : BitVec 32).toNat < 1024)

/-- Gather `j`'s share of the table. -/
abbrev gq (j : Fin 4) : PosShare TreeShare := pieceOf (tq (wL L)) 4 (by decide) j

/-- What row `k` of gather `j` brings back. -/
def rowB (fr : S512x128.Idx → F .f32) (j : Fin 4) (k : Fin 128) : sProp (MM F) :=
  rowBack (F := F) (Ix := HIx 1) (Name := ℕ) (U := UU) (Lvl := ℕ) (tV d L) tbK (dsM j) gathers_S1024x128_S128x128 (lsM j) rfl (gq L j) fullShare
    (tb d) fr (lst ix d (wL L)) (by decide) (lst_lt ix hix d (wL L) j) k

/-- What member `t` of the batch brings back: row `t % 128` of gather `t / 128`. -/
def DD (fr : S512x128.Idx → F .f32) (t : Fin 512) : sProp (MM F) :=
  rowB tb ix d L hix fr ⟨t.val / 128, by omega⟩ ⟨t.val % 128, Nat.mod_lt _ (by decide)⟩

theorem DD_at (fr : S512x128.Idx → F .f32) (j : Fin 4) (k : Fin 128) (t : Fin 512) (h : t.val = 128 * j.val + k.val) :
    DD tb ix d L hix fr t = rowB tb ix d L hix fr j k := by
  unfold DD
  congr 1 <;> apply Fin.ext
  · show t.val / 128 = j.val; omega
  · show t.val % 128 = k.val; omega

instance DD_storable (fr : S512x128.Idx → F .f32) (t : Fin 512) : Storable (upEmb : UEmb _ (MM F)) (DD tb ix d L hix fr t) := by
  unfold DD rowB rowBack; infer_instance

theorem credit_row (j : Fin 4) : ∀ k, ((dsM j).slice (S128x128.rowRect (gathers_S1024x128_S128x128.axis') k) (S128x128.stride_rowRect _ k)).view.dmaCredit = 4096 := by
  revert j; decide +kernel

theorem bigSep_fin4 (Φ : Fin 4 → sProp (MM F)) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

theorem ds_split (f : S512x128.Idx → F .f32) :
    (rV.view.loc (tV d L) ↦{fullShare} f : sProp (MM F)) = iprop((((dsM 0).view.loc (tV d L) ↦[(dsM 0).view.set]{fullShare} f)
      ∗ ((dsM 1).view.loc (tV d L) ↦[(dsM 1).view.set]{fullShare} f) ∗ ((dsM 2).view.loc (tV d L) ↦[(dsM 2).view.set]{fullShare} f)
      ∗ ((dsM 3).view.loc (tV d L) ↦[(dsM 3).view.set]{fullShare} f))) := by
  rw [← bigSep_fin4 (fun j => ((dsM j).view.loc (tV d L) ↦[dsSet j]{fullShare} f : sProp (MM F))),
    ← pointsTo_biUnion Finset.univ (ℓ := rV.view.loc (tV d L)) dsSet ds_disjoint, ds_cover]

theorem ls_split (f : S4x128.Idx → BitVec 32) :
    (sV.view.loc (tV d L) ↦{fullShare} f : sProp (MM F)) = iprop((((lsM 0).view.loc (tV d L) ↦[(lsM 0).view.set]{fullShare} f)
      ∗ ((lsM 1).view.loc (tV d L) ↦[(lsM 1).view.set]{fullShare} f) ∗ ((lsM 2).view.loc (tV d L) ↦[(lsM 2).view.set]{fullShare} f)
      ∗ ((lsM 3).view.loc (tV d L) ↦[(lsM 3).view.set]{fullShare} f))) := by
  rw [← bigSep_fin4 (fun j => ((lsM j).view.loc (tV d L) ↦[lsSet j]{fullShare} f : sProp (MM F))),
    ← pointsTo_biUnion Finset.univ (ℓ := sV.view.loc (tV d L)) lsSet ls_disjoint, ls_cover]

theorem tb_split (f : Buf (Elt F) (tbLoc d)) :
    (tbK.view.loc (tV d L) ↦[tbK.view.set]{tq (wL L)} f : sProp (MM F)) = iprop((tbK.view.loc (tV d L) ↦[tbK.view.set]{gq L 0} f)
      ∗ (tbK.view.loc (tV d L) ↦[tbK.view.set]{gq L 1} f) ∗ (tbK.view.loc (tV d L) ↦[tbK.view.set]{gq L 2} f)
      ∗ (tbK.view.loc (tV d L) ↦[tbK.view.set]{gq L 3} f)) := by
  rw [pointsTo_piecesOf (tbK.view.set) f (o := 4) (by decide) (tq (wL L)), bigSep_fin4]

/-- A gather's destination, written with what it delivers, holds its rows of `tileRows`. -/
theorem ds_written (fr : S512x128.Idx → F .f32) (j : Fin 4) :
    ((dsM j).view.loc (tV d L) ↦[(dsM j).view.set]{fullShare} ((dsM j).view.write (Elt F) fr
        (gatherPayload (F := F) gathers_S1024x128_S128x128 (tbK.view.read (Elt F) (tb d))
          (rows (o := 128) (z := 1024) ((lsM j).view.read (Elt F) (lst ix d (wL L))) rfl (lst_lt ix hix d (wL L) j))) Finset.univ) : sProp (MM F))
      = ((dsM j).view.loc (tV d L) ↦[(dsM j).view.set]{fullShare} tileRows tb ix d (wL L)) := by
  refine pointsTo_congr fun y hy => ?_
  obtain ⟨x, -, rfl⟩ := Finset.mem_map.mp hy
  rw [View.write_emb_of_mem _ _ (Finset.mem_univ x)]
  exact (cast_eq _ _).trans (gather_eq tb ix hix d (wL L) j x)

theorem DD_block (fr : S512x128.Idx → F .f32) (j : Fin 4) (b : ℕ) (hb : b + 128 ≤ 512) (h : b = 128 * j.val) :
    (bigSep Finset.univ fun k : Fin 128 => DD tb ix d L hix fr (blockMem hb k)) = bigSep Finset.univ (rowB tb ix d L hix fr j) :=
  bigSep_congr fun k _ => DD_at tb ix d L hix fr j k _ (by simp only [blockMem]; omega)

/-- Every member of the batch: the second scratch gathered, the list and the table's share back. -/
theorem rows_join (fr : S512x128.Idx → F .f32) :
    bigSep Finset.univ (DD tb ix d L hix fr)
      ⊢ iprop((rV.view.loc (tV d L) ↦{fullShare} tileRows tb ix d (wL L)) ∗ (tbK.view.loc (tV d L) ↦[tbK.view.set]{tq (wL L)} tb d)
          ∗ (sV.view.loc (tV d L) ↦{fullShare} lst ix d (wL L))) := by
  have hj : ∀ j : Fin 4, bigSep Finset.univ (rowB tb ix d L hix fr j)
      ⊢ iprop(((dsM j).view.loc (tV d L) ↦[(dsM j).view.set]{fullShare} tileRows tb ix d (wL L))
          ∗ (tbK.view.loc (tV d L) ↦[tbK.view.set]{gq L j} tb d) ∗ ((lsM j).view.loc (tV d L) ↦[(lsM j).view.set]{fullShare} lst ix d (wL L))) := fun j => by
    rw [← ds_written tb ix d L hix fr j]
    exact rowBack_join (F := F) (Ix := HIx 1) (Name := ℕ) (U := UU) (Lvl := ℕ) (tV d L) (src := tbK) (dst := dsM j) (hg := gathers_S1024x128_S128x128)
      (offs := lsM j) (hn := rfl) (q := gq L j) (qo := fullShare) (fs := tb d) (fd := fr) (fo := lst ix d (wL L)) (hs := by decide)
      (hin := lst_lt ix hix d (wL L) j)
  rw [bigSep_pending_zero, pending_block _ 0 128 (by decide), pending_block _ (0 + 128) 128 (by decide), pending_block _ (0 + 128 + 128) 128 (by decide),
    pending_block _ (0 + 128 + 128 + 128) 128 (by decide)]
  rw [DD_block tb ix d L hix fr 0 _ _ (by simp), DD_block tb ix d L hix fr 1 _ _ (by simp), DD_block tb ix d L hix fr 2 _ _ (by simp),
    DD_block tb ix d L hix fr 3 _ _ (by simp)]
  rw [ds_split, ls_split, tb_split]
  iintro ⟨H0, H1, H2, H3, -⟩
  ihave H0 := hj 0 $$ H0
  ihave H1 := hj 1 $$ H1
  ihave H2 := hj 2 $$ H2
  ihave H3 := hj 3 $$ H3
  icases H0 with ⟨Hd0, Ht0, Hl0⟩
  icases H1 with ⟨Hd1, Ht1, Hl1⟩
  icases H2 with ⟨Hd2, Ht2, Hl2⟩
  icases H3 with ⟨Hd3, Ht3, Hl3⟩
  isplitl [Hd0 Hd1 Hd2 Hd3]
  · isplitl [Hd0]; · iexact Hd0
    isplitl [Hd1]; · iexact Hd1
    isplitl [Hd2]; · iexact Hd2
    iexact Hd3
  isplitl [Ht0 Ht1 Ht2 Ht3]
  · isplitl [Ht0]; · iexact Ht0
    isplitl [Ht1]; · iexact Ht1
    isplitl [Ht2]; · iexact Ht2
    iexact Ht3
  · isplitl [Hl0]; · iexact Hl0
    isplitl [Hl1]; · iexact Hl1
    isplitl [Hl2]; · iexact Hl2
    iexact Hl3

/-- A resource put aside, for the executor to pass by. -/
def aside (R : sProp (MM F)) : sProp (MM F) := R
theorem aside_in (R : sProp (MM F)) : R ⊢ aside R := Entails.of_eq rfl
theorem aside_out (R : sProp (MM F)) : aside R ⊢ R := Entails.of_eq rfl

theorem read_lst (fs : Buf (Elt F) (sV.view.loc (tV d L))) (pay : S4x128.Idx → Elt F .i32)
    (hpay : pay = (ixK L).view.read (Elt F) (ix d)) :
    View.write (Elt F) sV.view fs pay Finset.univ = lst ix d (wL L) := by
  subst hpay
  rw [View.write_whole_univ, read_ixK]

/-- The tile's block of the output, written with what the tile's second scratch holds, holds the gathered rows. -/
theorem go_written (pay : S512x128.Idx → F .f32) (hpay : pay = rV.view.read (Elt F) (tileRows tb ix d (wL L))) :
    ((goK L).view.loc (tV d L) ↦[(goK L).view.set]{fullShare} (goK L).view.writes (Elt F) (g0 d) [⟨Rect.whole S512x128, pay⟩] : sProp (MM F))
      = (goLoc d ↦[goSet (wL L)]{fullShare} gathered tb ix d) := by
  subst hpay
  rw [← pts_goK]
  refine pointsTo_congr fun y hy => ?_
  obtain ⟨x, -, rfl⟩ := Finset.mem_map.mp hy
  have hw := congrFun (View.write_univ_eq_writes_whole (Val := Elt F) (goK L).view (g0 d) [] (tileRows tb ix d (wL L))) ((goK L).view.emb x)
  simp only [Memref.view_whole, View.read_whole]
  refine (hw.symm.trans ?_)
  rw [View.write_emb_of_mem _ _ (Finset.mem_univ x)]
  exact (cast_eq _ _).trans (gathered_eq tb ix d L x).symm

set_option maxHeartbeats 4000000 in
include hix in
theorem tile_body [FloatOps F] (hF : (K (F := F)).Facts) (O : CellTallies nD τ sig (HIx 1)) (W : Waits sig (HIx 1)) (hO : ∀ g, O g none = 0) :
    iprop(levAts (K (F := F)).L (K (F := F)).lev ∗ emp ∗ goRes tb ix g0 d (wL L)
        ∗ scopedBufs (tV d L) ∗ scopedSems0 (tV d L) ∗ owes (tV d L) O W)
      ⊢ wp frame (wpE (defs₀ (F := F)) 𝒱₀ (tV d L) none) Set.univ
          (cc0_gather_k L tbV (Memref.isWhole_whole _) ixV (Memref.isWhole_whole _) goV (Memref.isWhole_whole _)
            sV (Memref.isWhole_whole _) rV (Memref.isWhole_whole _) cc0_scratch2 cc0_scoped0 cc0_scoped1)
          fun _ => iprop(tdRes tb ix d (wL L)
            ∗ scopedBufs (tV d L) ∗ scopedSems0 (tV d L)
            ∗ ∃ W', ⌜∀ p ∈ W', p ∈ W ∨ p.2 = none⌝ ∗ owes (tV d L) O W') := by
  have _ := hix
  unfold goRes tdRes
  simp only [cc0_gather_k_eq_skeleton]; unfold cc0_gather_k_skel
  simp only [k0_part1_eq_skeleton, k0_part2_eq_skeleton]; unfold k0_part1_skel k0_part2_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (tV d L) (default : HIx 1) O from
    (K (F := F)).mayWaits_none (thr := tV d L) hO) $$ Hlv
  ihave Hi' := (Entails.of_eq (pts_ixK (F := F) d L _).symm) $$ Hi
  ihave Ho' := (Entails.of_eq (pts_goK (F := F) d L _).symm) $$ Ho
  ihave Hx' := (Entails.of_eq (pts_tbV (F := F) d L _ _).symm) $$ Hx
  ihave Hs' := (Entails.of_eq (pts_sV (F := F) d L _).symm) $$ Hs
  ihave Hr' := (Entails.of_eq (pts_rV (F := F) d L _).symm) $$ Hr
  imod (batch_alloc' countersEmb (tV d L) (default : HIx 1) 4096 (sm := .dma cc0_scratch2.sem) (E := Set.univ) (DD tb ix d L hix fr)) $$ HsemC with HB
  sl_exec
  ihave Hs'' := (Entails.of_eq (congrArg (fun f => (sV.view.loc (tV d L) ↦{fullShare} f : sProp (MM F))) (read_lst ix d L fs (tile_body.sl.dma0 ix d L) rfl))) $$ Hs'
  ihave Hs4 := (Entails.of_eq (ls_split d L (lst ix d (wL L)))) $$ Hs''
  icases Hs4 with ⟨Hs0, Hs1, Hs2, Hs3⟩
  ihave Hr4 := (Entails.of_eq (ds_split d L fr)) $$ Hr'
  icases Hr4 with ⟨Hr0, Hr1, Hr2, Hr3⟩
  ihave Hxs := (pointsTo_split_subset (q := tq (wL L)) (f := tb d) (S := Finset.univ) (Finset.subset_univ tbK.view.set)).1 $$ Hx'
  icases Hxs with ⟨Hxs, Hxr⟩
  ihave Hx4 := (Entails.of_eq (tb_split d L (tb d))) $$ Hxs
  icases Hx4 with ⟨Hx0, Hx1, Hx2, Hx3⟩
  iapply (wp_gatherInBatch countersEmb 𝒱₀ (tV d L) none (src := tbK) (dst := dsM 0) (hg := gathers_S1024x128_S128x128) (offs := lsM 0) (hn := rfl)
      (q := gq L 0) (qo := fullShare) (fs := tb d) (fd := fr) (fo := lst ix d (wL L)) (default : HIx 1) 4096 0 (D := DD tb ix d L hix fr)
      (credit_row 0) (by decide) (lst_lt ix hix d (wL L) 0) (by decide)
      (fun k => Entails.of_eq (DD_at tb ix d L hix fr 0 k _ rfl).symm)) $$ [Hx0 Hr0 Hs0 HB]
  · isplitl [Hx0]; · iexact Hx0
    isplitl [Hr0]; · iexact Hr0
    isplitl [Hs0]; · iexact Hs0
    iexact HB
  iintro HB
  sl_exec
  iapply (wp_gatherInBatch countersEmb 𝒱₀ (tV d L) none (src := tbK) (dst := dsM 1) (hg := gathers_S1024x128_S128x128) (offs := lsM 1) (hn := rfl)
      (q := gq L 1) (qo := fullShare) (fs := tb d) (fd := fr) (fo := lst ix d (wL L)) (default : HIx 1) 4096 128 (D := DD tb ix d L hix fr)
      (credit_row 1) (by decide) (lst_lt ix hix d (wL L) 1) (by decide)
      (fun k => Entails.of_eq (DD_at tb ix d L hix fr 1 k _ rfl).symm)) $$ [Hx1 Hr1 Hs1 HB]
  · isplitl [Hx1]; · iexact Hx1
    isplitl [Hr1]; · iexact Hr1
    isplitl [Hs1]; · iexact Hs1
    iexact HB
  iintro HB
  sl_exec
  iapply (wp_gatherInBatch countersEmb 𝒱₀ (tV d L) none (src := tbK) (dst := dsM 2) (hg := gathers_S1024x128_S128x128) (offs := lsM 2) (hn := rfl)
      (q := gq L 2) (qo := fullShare) (fs := tb d) (fd := fr) (fo := lst ix d (wL L)) (default : HIx 1) 4096 256 (D := DD tb ix d L hix fr)
      (credit_row 2) (by decide) (lst_lt ix hix d (wL L) 2) (by decide)
      (fun k => Entails.of_eq (DD_at tb ix d L hix fr 2 k _ rfl).symm)) $$ [Hx2 Hr2 Hs2 HB]
  · isplitl [Hx2]; · iexact Hx2
    isplitl [Hr2]; · iexact Hr2
    isplitl [Hs2]; · iexact Hs2
    iexact HB
  iintro HB
  sl_exec
  iapply (wp_gatherInBatch countersEmb 𝒱₀ (tV d L) none (src := tbK) (dst := dsM 3) (hg := gathers_S1024x128_S128x128) (offs := lsM 3) (hn := rfl)
      (q := gq L 3) (qo := fullShare) (fs := tb d) (fd := fr) (fo := lst ix d (wL L)) (default : HIx 1) 4096 384 (D := DD tb ix d L hix fr)
      (credit_row 3) (by decide) (lst_lt ix hix d (wL L) 3) (by decide)
      (fun k => Entails.of_eq (DD_at tb ix d L hix fr 3 k _ rfl).symm)) $$ [Hx3 Hr3 Hs3 HB]
  · isplitl [Hx3]; · iexact Hx3
    isplitl [Hr3]; · iexact Hr3
    isplitl [Hs3]; · iexact Hs3
    iexact HB
  iintro HB
  sl_exec
  iapply (wp_waitBatchMulO countersEmb 𝒱₀ (tV d L) none (default : HIx 1) (N := 4096) 128 (D := DD tb ix d L hix fr) (j := 512) (u := 0)
      (by decide) (by decide)) $$ [HB HO]
  · isplitl [HB]; · iexact HB
    isplitl [HO]; · iexact HO
    iapply (Transfers.MayWaits.elim (SemLoc.dma cc0_scratch2.sem)) $$ Hmw
  iintro ⟨HB, HO⟩
  ihave HB := (aside_in _) $$ HB
  sl_exec
  ihave HB := (aside_out _) $$ HB
  iapply (wp_waitBatchMulO countersEmb 𝒱₀ (tV d L) none (default : HIx 1) (N := 4096) 128 (D := DD tb ix d L hix fr) (j := 512) (u := 0 + 128 * 4096)
      (by decide) (by decide)) $$ [HB HO]
  · isplitl [HB]; · iexact HB
    isplitl [HO]; · iexact HO
    iapply (Transfers.MayWaits.elim (SemLoc.dma cc0_scratch2.sem)) $$ Hmw
  iintro ⟨HB, HO⟩
  ihave HB := (aside_in _) $$ HB
  sl_exec
  ihave HB := (aside_out _) $$ HB
  iapply (wp_waitBatchMulO countersEmb 𝒱₀ (tV d L) none (default : HIx 1) (N := 4096) 128 (D := DD tb ix d L hix fr) (j := 512) (u := 0 + 128 * 4096 + 128 * 4096)
      (by decide) (by decide)) $$ [HB HO]
  · isplitl [HB]; · iexact HB
    isplitl [HO]; · iexact HO
    iapply (Transfers.MayWaits.elim (SemLoc.dma cc0_scratch2.sem)) $$ Hmw
  iintro ⟨HB, HO⟩
  ihave HB := (aside_in _) $$ HB
  sl_exec
  ihave HB := (aside_out _) $$ HB
  iapply (wp_waitBatchAllO countersEmb 𝒱₀ (tV d L) none (default : HIx 1) (N := 4096) (J := 128 * 4096) (D := DD tb ix d L hix fr)
      (u := 0 + 128 * 4096 + 128 * 4096 + 128 * 4096) (by decide) (by decide) (by decide)) $$ [HB HO]
  · isplitl [HB]; · iexact HB
    isplitl [HO]; · iexact HO
    iapply (Transfers.MayWaits.elim (SemLoc.dma cc0_scratch2.sem)) $$ Hmw
  iintro ⟨HB, HsemC, HO⟩
  ihave HR := (rows_join tb ix d L hix fr) $$ HB
  icases HR with ⟨Hr', Hxs, Hs'⟩
  ihave Hx' := (pointsTo_split_subset (q := tq (wL L)) (f := tb d) (S := Finset.univ) (Finset.subset_univ tbK.view.set)).2 $$ [Hxs Hxr]; · isplitl [Hxs] <;> iassumption
  sl_exec
  ihave Ho'' := (Entails.of_eq (go_written tb ix g0 d L (tile_body.sl.dma0_1 tb ix d L) rfl)) $$ Ho'
  sl_step
  isplitl [Hi' Hx' Ho'']
  · isplitl [Hi']; · iapply (Entails.of_eq (pts_ixK (F := F) d L _)); iexact Hi'
    isplitl [Hx']; · iexact Hx'
    iexact Ho''
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  iterate 6 (rcases Finset.mem_insert.mp hp with hp | hp; · exact .inr (hp ▸ rfl))
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 1 ()
      = SparseCore.onTile hcore0 hsub0 (fun c s => cc0_gather_k (coordsV c s)
          tbV (Memref.isWhole_whole _) ixV (Memref.isWhole_whole _) goV (Memref.isWhole_whole _)
          sV (Memref.isWhole_whole _) rV (Memref.isWhole_whole _) cc0_scratch2 cc0_scoped0 cc0_scoped1) ⟨⟩ c s := rfl

theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
include hix in
theorem tileObl [FloatOps F] (hF : (K (F := F)).Facts) : (K (F := F)).TileObl (D (F := F)) 𝒱 (P tb ix g0) v₀ 0 := by
  intro d c i O W hO _ _
  simp only [show (P tb ix g0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tb ix g0 d (coordsV ⟨_, hci.1⟩ ⟨_, hci.2⟩) hix hF O W hO).trans (wp_mono frame _ _ fun _ => obl_post)

end Cert.Proof.Call

end
-- ==== Proof.CallSplits.lean ====
/-
  The three arrays of the SparseCore call, whole, are the thirty-two tiles' parts of them, and the other way round.
-/
module

public import proofs.«01_k».proof.Proof.CallSetup

@[expose] public section

noncomputable section

namespace Cert.Proof.Call

open Cert.GatherIdeal Cert.GatherIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

theorem ix_split (d : Dev nD) (f : Buf (Elt F) (ixLoc d)) :
    (ixLoc d ↦{fullShare} f : sProp (MM F)) = bigSep Finset.univ fun w : Fin 32 => ixLoc d ↦[ixSet w]{fullShare} f := by
  rw [← pointsTo_biUnion Finset.univ (ℓ := ixLoc d) ixSet (fun i _ j _ h => Rect.part_disjoint ixdiv h)]
  rw [show (Finset.univ : Finset (Fin 32)).biUnion ixSet = Finset.univ from Rect.biUnion_part ixdiv]
  try rfl

theorem go_split (d : Dev nD) (f : Buf (Elt F) (goLoc d)) :
    (goLoc d ↦{fullShare} f : sProp (MM F)) = bigSep Finset.univ fun w : Fin 32 => goLoc d ↦[goSet w]{fullShare} f := by
  rw [← pointsTo_biUnion Finset.univ (ℓ := goLoc d) goSet (fun i _ j _ h => Rect.part_disjoint godiv h)]
  rw [show (Finset.univ : Finset (Fin 32)).biUnion goSet = Finset.univ from Rect.biUnion_part godiv]
  try rfl

theorem tbl_split (d : Dev nD) (f : Buf (Elt F) (tbLoc d)) :
    (tbLoc d ↦{fullShare} f : sProp (MM F)) = bigSep Finset.univ fun w : Fin 32 => tbLoc d ↦{tq w} f :=
  Idealize.ShloMosaic.pointsTo_piecesOf Finset.univ f (by decide) fullShare

/-- Tiles by SparseCore and subcore. -/
def tileEquiv : Fin 2 × Fin 16 ≃ Fin 32 where
  toFun p := tileNo p.1 p.2
  invFun w := (⟨w.val % 2, Nat.mod_lt _ (by decide)⟩, ⟨w.val / 2, by omega⟩)
  left_inv p := by
    refine Prod.ext (Fin.ext ?_) (Fin.ext ?_)
    · show (2 * p.2.val + p.1.val) % 2 = p.1.val; omega
    · show (2 * p.2.val + p.1.val) / 2 = p.2.val; omega
  right_inv w := Fin.ext (by show 2 * (w.val / 2) + w.val % 2 = w.val; omega)

theorem by_tile (Φ : Fin 32 → sProp (MM F)) :
    bigSep Finset.univ Φ = bigSep Finset.univ fun c : Fin 2 => bigSep Finset.univ fun s : Fin 16 => Φ (tileNo c s) := by
  rw [bigSep_univ_equiv tileEquiv, bigSep_univ_prod]
  rfl

variable [FloatOps F]
variable (tb : (d : Dev nD) → Buf (Elt F) (tbLoc d)) (ix : (d : Dev nD) → Buf (Elt F) (ixLoc d)) (g0 : (d : Dev nD) → Buf (Elt F) (goLoc d))

/-- What the SparseCores take at the call: the lists, the table and the output's old contents. -/
theorem st_eq (d : Dev nD) : (bigSep Finset.univ fun c : Fin ((K (F := F)).nCore 0) => (P tb ix g0).st 0 d c)
    = iprop((ixLoc d ↦{fullShare} ix d) ∗ (tbLoc d ↦{fullShare} tb d) ∗ (goLoc d ↦{fullShare} g0 d)) := by
  rw [ix_split, tbl_split, go_split, ← bigSep_sep', ← bigSep_sep']
  exact (by_tile (fun w => goRes tb ix g0 d w)).symm

/-- What they bring back: the same with the output gathered. -/
theorem dn_eq (d : Dev nD) : (bigSep Finset.univ fun c : Fin ((K (F := F)).nCore 0) => (P tb ix g0).dn 0 d c)
    = iprop((ixLoc d ↦{fullShare} ix d) ∗ (tbLoc d ↦{fullShare} tb d) ∗ (goLoc d ↦{fullShare} gathered tb ix d)) := by
  rw [ix_split, tbl_split, go_split, ← bigSep_sep', ← bigSep_sep']
  exact (by_tile (fun w => tdRes tb ix d w)).symm

end Cert.Proof.Call

end
-- ==== Proof.CallRun.lean ====
/-
  The program that is the SparseCore call alone: from any launch memory whose numbers lie in the table, it runs to its
  end leaving its two arguments as they were and its result the gathered rows.
-/
module

public import proofs.«01_k».proof.Proof.CallTile
public import proofs.«01_k».proof.Proof.CallSplits

@[expose] public section

noncomputable section

namespace Cert.Proof.Call

open Cert.GatherIdeal Cert.GatherIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (ℓ : Loc nD τ sig) → Buf (Elt F) ℓ) (ρ : Dev nD → PrngReg)

abbrev tbM (d : Dev nD) : Buf (Elt F) (tbLoc d) := m (tbLoc d)
abbrev ixM (d : Dev nD) : Buf (Elt F) (ixLoc d) := m (ixLoc d)
abbrev goM (d : Dev nD) : Buf (Elt F) (goLoc d) := m (goLoc d)
abbrev PM : (K (F := F)).Pay (nD := nD) (Val := Elt F) (Name := ℕ) (U := UU) := P (tbM m) (ixM m) (goM m)

/-! ## The launch element of the ghost state -/

def u₀ : UU := (initOf (K (F := F)).hsCells (K (F := F)).hsToks, (1 : UP × Counters))

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PM m).x q thr) := by
  unfold u₀
  iintro Hu
  ihave H := (ownU_pair (initOf (K (F := F)).hsCells (K (F := F)).hsToks) (_ : UP × Counters)) $$ Hu
  icases H with ⟨HH, -⟩
  imodintro
  isplitl [HH]; · iexact HH
  rw [show (bigSep Finset.univ fun thr : Thread nD τ => bigSep Finset.univ fun q : Fin 1 => (PM (F := F) m).x q thr) = bigSep Finset.univ fun _ => iprop(emp) from
    bigSep_congr fun _ _ => bigSep_univ_of_subsingleton (0 : Fin 1), show (bigSep Finset.univ fun _ : Thread nD τ => (iprop(emp) : sProp (MM F))) = iprop(emp) from bigSep_emp_const _,
    show (bigSep Finset.univ fun _ : Dev nD => (iprop(emp) : sProp (MM F))) = iprop(emp) from bigSep_emp_const _]
  isplitr <;> iempintro

/-! ## @main on the TensorCore -/

/-- The three arrays at the end. -/
abbrev FIN (d : Dev nD) : sProp (MM F) :=
  iprop((ixLoc d ↦{fullShare} ixM m d) ∗ (tbLoc d ↦{fullShare} tbM m d) ∗ (goLoc d ↦{fullShare} gathered (tbM m) (ixM m) d))

/-- The TensorCore's arrays are the call's three. -/
theorem bufs_eq (d : Dev nD) : (unscopedBufs d (fun b => m ((SparseCore.T d).loc b)) : sProp (MM F))
    = iprop((ixLoc d ↦{fullShare} ixM m d) ∗ (tbLoc d ↦{fullShare} tbM m d) ∗ (goLoc d ↦{fullShare} goM m d)) := by
  unfold unscopedBufs
  rw [show (Finset.univ.filter fun b : Ref sig .tc => ¬ b.isScoped) = {main_arg1, main_arg0, main_v0} from by decide]
  rw [SparseCore.bigSep_insert' (by decide), SparseCore.bigSep_insert' (by decide), bigSep_singleton]

theorem hmain (κ : GSem nD τ sig → ℕ) (d : Dev nD) :
    iprop((K (F := F)).ctx EH (PM m) κ ∗ (K (F := F)).tcSt EH d 0 ∗ (K (F := F)).tcRes m ρ d ∗ iprop(emp))
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [bufs_eq]
  simp only [main, wp_bind, wp_pure]
  iintro ⟨#Hctx, Hst, ⟨Hb, Hh, Hts, -⟩, -⟩
  iapply ((K (F := F)).wp_run (D (F := F)) 𝒱 (EH := EH) (P := PM m) κ d 0) $$ [Hst Hh Hb Hts]
  isplitr; · iexact Hctx
  isplitl [Hst]; · iexact Hst
  isplitl [Hh]
  · iapply (Entails.of_eq (st_eq (tbM m) (ixM m) (goM m) d).symm)
    iexact Hh
  iintro ⟨Hst, Hc⟩
  ihave Hh := (Entails.of_eq (dn_eq (tbM m) (ixM m) (goM m) d)) $$ Hc
  imodintro
  isplitl [Hst]; · iexact Hst
  isplitl [Hh]; · iexact Hh
  isplitl [Hb] <;> iassumption

/-! ## The run -/

/-- Where the arrays end. -/
def fq (d : Dev nD) (s' : Phys nD τ sig (Elt F)) : Prop :=
  s'.mem.mem (ixLoc d) = ixM m d ∧ s'.mem.mem (tbLoc d) = tbM m d ∧ s'.mem.mem (goLoc d) = gathered (tbM m) (ixM m) d

theorem held_agree (s' : Phys nD τ sig (Elt F)) (ℓ : Loc nD τ sig) (f : Buf (Elt F) ℓ) : iprop((ℓ ↦{fullShare} f) ∗ SI s') ⊢ (⌜s'.mem.mem ℓ = f⌝ : sProp (MM F)) := by
  iintro ⟨H, HSI⟩
  ihave H' := (SI_pointsTo_agree (st := s') (ℓ := ℓ) (I := Finset.univ) (q := fullShare) (f := f)) $$ [HSI H]
  · isplitl [HSI] <;> iassumption
  icases H' with %h
  ipureintro; exact funext fun i => h i (Finset.mem_univ i)

theorem hfin (d : Dev nD) (s' : Phys nD τ sig (Elt F)) : iprop(FIN m d ∗ SI s') ⊢ (⌜fq m d s'⌝ : sProp (MM F)) := by
  have h1 : iprop(FIN m d ∗ SI s') ⊢ (⌜s'.mem.mem (ixLoc d) = ixM m d⌝ : sProp (MM F)) := by
    iintro ⟨⟨H, -⟩, HSI⟩
    iapply (held_agree s' _ _) $$ [H HSI]
    isplitl [H] <;> iassumption
  have h2 : iprop(FIN m d ∗ SI s') ⊢ (⌜s'.mem.mem (tbLoc d) = tbM m d⌝ : sProp (MM F)) := by
    iintro ⟨⟨-, H, -⟩, HSI⟩
    iapply (held_agree s' _ _) $$ [H HSI]
    isplitl [H] <;> iassumption
  have h3 : iprop(FIN m d ∗ SI s') ⊢ (⌜s'.mem.mem (goLoc d) = gathered (tbM m) (ixM m) d⌝ : sProp (MM F)) := by
    iintro ⟨⟨-, -, H⟩, HSI⟩
    iapply (held_agree s' _ _) $$ [H HSI]
    isplitl [H] <;> iassumption
  exact (BIClass.and_intro h1 ((BIClass.and_intro h2 h3).trans pure_and.1)).trans pure_and.1

/-- Every run from a launch memory whose numbers lie in the table ends with the arguments kept, the result the gathered
    rows, and the semaphores at zero. -/
theorem run_main [∀ e, Nonempty (Elt F e)] (hix : ∀ d x, (ixM m d x : BitVec 32).toNat < 1024) :
    θ_run (Cert.GatherIdeal.defs (F := F)) (Cert.GatherIdeal.threads (F := F)) ⟨m, fun _ => 0, ρ⟩
      (fun r => (∀ d : Dev nD, r.2.mem (ixLoc d) = ixM m d ∧ r.2.mem (tbLoc d) = tbM m d ∧ r.2.mem (goLoc d) = gathered (tbM m) (ixM m) d) ∧ r.2.sem = fun _ => 0) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (tbM m) (ixM m) (goM m) hix facts)
    (fun q _ => match q with | 0 => SparseCore.Cfg.VecSplit.of_plain (vecSplit (tbM m) (ixM m) (goM m)))
    m ρ main (fun _ => iprop(emp)) (FIN m) (u₀ (F := F)) (sep_elim_left.trans (hu₀ m)) (hmain m ρ) (fq m) (hfin m) _ (fun _ h hz => ⟨h, hz⟩)

end Cert.Proof.Call

end
-- ==== Proof.CallRef.lean ====
/-
  The SparseCore call's own reference, `jnp.take` of the numbers in one list: its run, and what a row of its result is.
-/
module

public import proofs.«01_k».proof.Proof.Gen.GatherReferenceIdeal
public import proofs.«01_k».proof.Proof.Take
public import Idealize.ShloMosaic.Lib.StableHlo.RunHlo
public import Idealize.ShloMosaic.Lib.Quiescent

@[expose] public section

noncomputable section

namespace Cert.Proof.CallRef

open Cert.GatherReferenceIdeal Cert.GatherReferenceIdeal.Gen
open Idealize.ShloMosaic Idealize.ShloMosaic.TcCoe Idealize.SL.Sem
open Cert.Proof.Maths (word_slt word_sge word_sle)

variable {F : FTy → Type} [FloatOps F]

/-- The rows taken at an index. -/
abbrev takeOps (arg0 : StableHlo.TRef sig ⟨S1024x128, .f32⟩) (arg1 : StableHlo.TRef sig ⟨S16384, .i32⟩) (φ : fn_take.Bufs) : List (HloOp τ sig (Elt F)) :=
  [StableHlo.TRef.nullary φ.c (constantI S_ 32 0#32),
   StableHlo.TRef.unary φ.c φ.v0 (broadcastInDim S16384 ![] bcast_S_S16384),
   StableHlo.TRef.binary arg1 φ.v0 φ.v1 (cmpi .slt),
   StableHlo.TRef.nullary φ.c_0 (constantI S_ 32 1024#32),
   StableHlo.TRef.unary φ.c_0 φ.v2 (broadcastInDim S16384 ![] bcast_S_S16384),
   StableHlo.TRef.binary arg1 φ.v2 φ.v3 addi,
   StableHlo.TRef.ternary φ.v1 φ.v3 arg1 φ.call0.v0 select,
   StableHlo.TRef.unary φ.call0.v0 φ.v5 (broadcastInDim S16384x1 ![0] bcast_S16384_S16384x1_0),
   StableHlo.TRef.nullary φ.c_1 (constantI S1 32 1023#32),
   StableHlo.TRef.nullary φ.c_2 (constantI S_ 32 0#32),
   StableHlo.TRef.unary φ.c_2 φ.v6 (broadcastInDim S16384x1 ![] bcast_S_S16384x1),
   StableHlo.TRef.binary φ.v5 φ.v6 φ.v7 (cmpi .sge),
   StableHlo.TRef.unary φ.c_1 φ.v8 (broadcastInDim S1x1 ![1] bcast_S1_S1x1_1),
   StableHlo.TRef.unary φ.v8 φ.v9 (broadcastInDim S16384x1 ![0, 1] bcast_S1x1_S16384x1_0_1),
   StableHlo.TRef.binary φ.v5 φ.v9 φ.v10 (cmpi .sle),
   StableHlo.TRef.binary φ.v7 φ.v10 φ.v11 andi,
   StableHlo.TRef.nullary φ.c_3 (constantI S_ 1 1#1),
   StableHlo.TRef.binary φ.v11 φ.c_3 φ.v12 (fun x v => Host.reduce IntOp.andi x v reducesTo_S16384x1_S16384_d1 h_S_),
   StableHlo.TRef.binary arg0 φ.v5 φ.v13 (fun x i => Host.gather gather_S1024x128_S16384x1_S16384x128_1_0_n_n_0_1_1128 x i),
   StableHlo.TRef.unary φ.v12 φ.v14 (broadcastInDim S16384x128 ![0] bcast_S16384_S16384x128_0),
   StableHlo.TRef.nullary φ.cst (constant S_ .f32 0x7FC00000#32),
   StableHlo.TRef.unary φ.cst φ.v15 (broadcastInDim S16384x128 ![] bcast_S_S16384x128),
   StableHlo.TRef.ternary φ.v14 φ.v13 φ.v15 φ.v16 select]

/-- The whole program, operation by operation. -/
abbrev ops : List (HloOp τ sig (Elt F)) :=
  StableHlo.reshape main_arg1 main_v0 (rfl : (.i32 : EltTy) = .i32) shapeCasts_S32x4x128_S16384 :: takeOps (.of main_arg0) (.of main_v0) main_call0

theorem main_seq (d : Dev nD) : StableHlo.IsSeq (main (F := F) d) ops := by
  unfold StableHlo.IsSeq
  rfl

/-- The rows' numbers as the lookup takes them, a negative one counted from the end. -/
def rRow (i : (⟨S16384, .i32⟩ : BufTy).Contents (Elt F)) : (⟨S16384x1, .i32⟩ : BufTy).Contents (Elt F) :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 1024#32))) i)
/-- The table's rows at the given numbers. -/
def rTake (cb : (⟨S1024x128, .f32⟩ : BufTy).Contents (Elt F)) (i : (⟨S16384, .i32⟩ : BufTy).Contents (Elt F)) : (⟨S16384x128, .f32⟩ : BufTy).Contents (Elt F) :=
  select (broadcastInDim S16384x128 ![0] bcast_S16384_S16384x128_0
      (Host.reduce IntOp.andi (andi (cmpi .sge (rRow i) (broadcastInDim S16384x1 ![] bcast_S_S16384x1 (constantI S_ 32 0#32)))
          (cmpi .sle (rRow i) (broadcastInDim S16384x1 ![0, 1] bcast_S1x1_S16384x1_0_1 (broadcastInDim S1x1 ![1] bcast_S1_S1x1_1 (constantI S1 32 1023#32)))))
        (constantI S_ 1 1#1) reducesTo_S16384x1_S16384_d1 h_S_))
    (Host.gather gather_S1024x128_S16384x1_S16384x128_1_0_n_n_0_1_1128 cb (rRow i))
    (broadcastInDim S16384x128 ![] bcast_S_S16384x128 (constant S_ .f32 0x7FC00000#32))

theorem after_v1 (V : Valuation τ sig (Elt F)) : StableHlo.after ops V (main_v1 : DevRef τ sig)
    = rTake (V (main_arg0 : DevRef τ sig)) (shapeCast S16384 (V (main_arg1 : DevRef τ sig)) shapeCasts_S32x4x128_S16384) := by
  unfold ops takeOps
  after_results_simp
  simp only [StableHlo.TRef.ofBuf_toBuf, StableHlo.TRef.ofBuf, StableHlo.TRef.toBuf, cast_eq]
  unfold rTake rRow
  rfl
theorem after_arg0 (V : Valuation τ sig (Elt F)) : StableHlo.after ops V (main_arg0 : DevRef τ sig) = V (main_arg0 : DevRef τ sig) := by
  unfold ops takeOps
  after_results_simp
theorem after_arg1 (V : Valuation τ sig (Elt F)) : StableHlo.after ops V (main_arg1 : DevRef τ sig) = V (main_arg1 : DevRef τ sig) := by
  unfold ops takeOps
  after_results_simp

/-- An operation on TensorCore arrays that determines its results. -/
def Plain (op : HloOp τ sig (Elt F)) : Prop := op.bufs ⊆ StableHlo.tcRefs τ sig ∧ op.fresh = ∅
theorem plain_cons {op : HloOp τ sig (Elt F)} {l : List (HloOp τ sig (Elt F))} (h : Plain op) (hl : ∀ o ∈ l, Plain o) : ∀ o ∈ op :: l, Plain o :=
  List.forall_mem_cons.mpr ⟨h, hl⟩
theorem plain_nil : ∀ o ∈ ([] : List (HloOp τ sig (Elt F))), Plain o := by intro _ h; exact nomatch h
theorem plain_takeOps (a) (b) (φ) : ∀ op ∈ (takeOps a b φ : List (HloOp τ sig (Elt F))), Plain op :=
  plain_cons ⟨StableHlo.nullary_bufs_sub .., rfl⟩ <|
  plain_cons ⟨StableHlo.unary_bufs_sub .., rfl⟩ <|
  plain_cons ⟨StableHlo.binary_bufs_sub .., rfl⟩ <|
  plain_cons ⟨StableHlo.nullary_bufs_sub .., rfl⟩ <|
  plain_cons ⟨StableHlo.unary_bufs_sub .., rfl⟩ <|
  plain_cons ⟨StableHlo.binary_bufs_sub .., rfl⟩ <|
  plain_cons ⟨StableHlo.ternary_bufs_sub .., rfl⟩ <|
  plain_cons ⟨StableHlo.unary_bufs_sub .., rfl⟩ <|
  plain_cons ⟨StableHlo.nullary_bufs_sub .., rfl⟩ <|
  plain_cons ⟨StableHlo.nullary_bufs_sub .., rfl⟩ <|
  plain_cons ⟨StableHlo.unary_bufs_sub .., rfl⟩ <|
  plain_cons ⟨StableHlo.binary_bufs_sub .., rfl⟩ <|
  plain_cons ⟨StableHlo.unary_bufs_sub .., rfl⟩ <|
  plain_cons ⟨StableHlo.unary_bufs_sub .., rfl⟩ <|
  plain_cons ⟨StableHlo.binary_bufs_sub .., rfl⟩ <|
  plain_cons ⟨StableHlo.binary_bufs_sub .., rfl⟩ <|
  plain_cons ⟨StableHlo.nullary_bufs_sub .., rfl⟩ <|
  plain_cons ⟨StableHlo.binary_bufs_sub .., rfl⟩ <|
  plain_cons ⟨StableHlo.binary_bufs_sub .., rfl⟩ <|
  plain_cons ⟨StableHlo.unary_bufs_sub .., rfl⟩ <|
  plain_cons ⟨StableHlo.nullary_bufs_sub .., rfl⟩ <|
  plain_cons ⟨StableHlo.unary_bufs_sub .., rfl⟩ <|
  plain_cons ⟨StableHlo.ternary_bufs_sub .., rfl⟩ <| plain_nil
theorem ops_plain : ∀ op ∈ (ops : List (HloOp τ sig (Elt F))), Plain op :=
  plain_cons ⟨StableHlo.reshape_bufs_sub .., rfl⟩ (plain_takeOps _ _ _)

/-- The reference's run: every array ends as the list of operations leaves it. -/
theorem run (m : (ℓ : Loc nD τ sig) → Buf (Elt F) ℓ) (ρ : Dev nD → PrngReg) :
    θ_run (Cert.GatherReferenceIdeal.defs (F := F)) (onTc (τ := τ) (Cert.GatherReferenceIdeal.main (F := F))) ⟨m, fun _ => 0, ρ⟩ fun r =>
      (∀ (d : Dev nD) (b : Ref sig .tc), r.2.mem ((d.tc : Thread nD τ).loc b) = StableHlo.after ops (StableHlo.launchContents m d) (Proc.devRef .tc b)) ∧ r.2.sem = fun _ => 0 := by
  have h := StableHlo.run_hlo (Cert.GatherReferenceIdeal.defs (F := F)) (Cert.GatherReferenceIdeal.main (F := F)) main_seq (by decide) (by decide) (List.forall_iff_forall_mem.mpr fun op h => (ops_plain op h).1) (fun op h => (ops_plain op h).2) m ρ
  exact (θ_run Cert.GatherReferenceIdeal.defs _ _).mono (fun r h => ⟨h, sem_eq_zero_of_no_sems (by decide) _⟩) h

/-! ## A row of the result -/

theorem rRow_at (i : IVec S16384 32) (R : Fin 16384) (k : Fin 1024) (h : i (ix1 R) = BitVec.ofNat 32 k.val) :
    rRow (F := F) i (ix2 R 0) = BitVec.ofNat 32 k.val := by
  have e : rRow (F := F) i (ix2 R 0) = Scalar.select (IntOp.cmpi .slt (i (ix1 R)) 0#32) (IntOp.addi (i (ix1 R)) 1024#32) (i (ix1 R)) := by
    pointwise [rRow]
  rw [e, h, word_slt]
  rfl

/-- The test that a row's number is a row of the table. -/
theorem inRange_at (v : IVec S16384x1 32) (y : S16384x1.Idx) (k : Fin 1024) (h : v y = BitVec.ofNat 32 k.val) :
    andi (cmpi .sge v (broadcastInDim S16384x1 ![] bcast_S_S16384x1 (constantI S_ 32 0#32)))
          (cmpi .sle v (broadcastInDim S16384x1 ![0, 1] bcast_S1x1_S16384x1_0_1 (broadcastInDim S1x1 ![1] bcast_S1_S1x1_1 (constantI S1 32 1023#32)))) y = 1#1 := by
  show IntOp.andi (IntOp.cmpi .sge (v y) 0#32) (IntOp.cmpi .sle (v y) 1023#32) = 1#1
  rw [h, word_sge, word_sle]
  rfl

theorem rTake_row (cb : FVec F S1024x128 .f32) (i : IVec S16384 32) (hi : ∀ R, ∃ k : Fin 1024, i (ix1 R) = BitVec.ofNat 32 k.val)
    (R : Fin 16384) (k : Fin 1024) (h : i (ix1 R) = BitVec.ofNat 32 k.val) (n : Fin 128) : rTake (F := F) cb i (ix2 R n) = cb (ix2 k n) := by
  have hg : Host.gather gather_S1024x128_S16384x1_S16384x128_1_0_n_n_0_1_1128 cb (rRow (F := F) i) (ix2 R n) = cb (ix2 k n) :=
    Routing.gather_row _ rfl rfl rfl rfl rfl cb (rRow (F := F) i) R n k (rRow_at i R k h) (by decide)
  have e : ∀ (p : IVec S16384 1) (a b : FVec F S16384x128 .f32), p (ix1 R) = 1#1 →
      select (broadcastInDim S16384x128 ![0] bcast_S16384_S16384x128_0 p) a b (ix2 R n) = a (ix2 R n) := by
    intro p a b hp
    have e : select (broadcastInDim S16384x128 ![0] bcast_S16384_S16384x128_0 p) a b (ix2 R n) = Scalar.select (p (ix1 R)) (a (ix2 R n)) (b (ix2 R n)) := by
      pointwise
    rw [e, hp]
    rfl
  refine (e _ _ _ ?_).trans hg
  refine Host.reduce_andi_one _ _ _ _ _ rfl fun y => ?_
  obtain ⟨R', z, rfl⟩ : ∃ (R' : Fin 16384) (z : Fin 1), y = ix2 R' z := ⟨y 0, y 1, by funext a; match a with | 0 => rfl | 1 => rfl⟩
  obtain rfl : z = 0 := Subsingleton.elim _ _
  obtain ⟨k', hk'⟩ := hi R'
  exact inRange_at _ _ k' (rRow_at i R' k' hk')

end Cert.Proof.CallRef

end
-- ==== Proof.CallSame.lean ====
/-
  The SparseCore call alone against its reference: numbers that lie in the table, the same rows, and the claims' runs.
-/
module

public import proofs.«01_k».proof.Defs
public import proofs.«01_k».proof.Proof.CallRun
public import proofs.«01_k».proof.Proof.CallRef
public import proofs.«01_k».proof.Proof.Gen.Gather
public import proofs.«01_k».proof.Proof.Gen.GatherReference
public import Idealize.ShloMosaic.Lib.ReduceAll

@[expose] public section

noncomputable section

namespace Cert.Proof.Call

open Idealize.ShloMosaic Idealize.ShloMosaic.TcCoe Idealize.SL.Sem

variable {F : FTy → Type} [FloatOps F]

/-! ## The condition -/

section Pre
open Cert.Pre_in_range
variable [Cert.Pre_in_range.Facts]

/-- A word not negative and below 1024 is a number below 1024. -/
theorem word_lt {w : BitVec 32} (h0 : IntOp.cmpi .sge w 0#32 = 1#1) (h1 : IntOp.cmpi .slt w 1024#32 = 1#1) : w.toNat < 1024 := by
  have h0' : (0#32).sle w = true := by
    by_contra h
    have e : IntOp.cmpi .sge w 0#32 = BitVec.ofBool ((0#32).sle w) := rfl
    rw [e, Bool.not_eq_true _ |>.mp h] at h0
    exact absurd h0 (by decide)
  have h1' : w.slt 1024#32 = true := by
    by_contra h
    have e : IntOp.cmpi .slt w 1024#32 = BitVec.ofBool (w.slt 1024#32) := rfl
    rw [e, Bool.not_eq_true _ |>.mp h] at h1
    exact absurd h1 (by decide)
  rw [BitVec.sle_iff_toInt_le] at h0'
  rw [BitVec.slt_iff_toInt_lt] at h1'
  have e0 : (0#32).toInt = 0 := by decide
  have e1 : (1024#32).toInt = 1024 := by decide
  rw [e0] at h0'
  rw [e1] at h1'
  rw [BitVec.toInt_eq_toNat_cond] at h0' h1'
  have := w.isLt
  split at h0' <;> split at h1' <;> omega

/-- The condition says that every number is below 1024. -/
theorem pre_lt (tb : FVec F S1024x128 .f32) (ix : IVec S32x4x128 32) (h : Cert.Pre_in_range.fn (F := F) tb ix = fun _ => 1#1) (i : S32x4x128.Idx) :
    (ix i).toNat < 1024 := by
  have j : S_.Idx := fun k => k.elim0
  have h0 := congrFun h j
  unfold Cert.Pre_in_range.fn at h0
  dsimp only at h0
  haveI : Subsingleton S_.Idx := ⟨fun a b => funext fun k => k.elim0⟩
  have e := Host.reduce_andi_all _ _ _ _ j h0 i
  obtain ⟨e0, e1⟩ := IntOp.andi_eq_one.1 e
  exact word_lt e0 e1

end Pre

/-! ## The same rows -/

open Cert.GatherIdeal Cert.GatherIdeal.Gen

theorem list_at {α : Type} (x : S32x4x128.Idx → α) (R : Fin 16384) :
    shapeCast Cert.GatherReferenceIdeal.S16384 x Cert.GatherReferenceIdeal.Gen.shapeCasts_S32x4x128_S16384 (Idealize.ShloMosaic.ValueIdx.ix1 R) = x (wordOf R) := by
  refine shapeCast_apply _ _ _ (wordOf R) ?_
  rw [Shape.rowMajor_val_three, Shape.rowMajor_val_one]
  show (R.val / 512 * 4 + R.val % 512 / 128) * 128 + R.val % 128 = R.val
  omega

theorem same_rows (tb : (d : Dev nD) → Buf (Elt F) (tbLoc d)) (ix : (d : Dev nD) → Buf (Elt F) (ixLoc d)) (d : Dev nD)
    (hix : ∀ x, (ix d x : BitVec 32).toNat < 1024) :
    gathered tb ix d = CallRef.rTake (F := F) (tb d) (shapeCast Cert.GatherReferenceIdeal.S16384 (ix d) Cert.GatherReferenceIdeal.Gen.shapeCasts_S32x4x128_S16384) := by
  have hw : ∀ R : Fin 16384, shapeCast Cert.GatherReferenceIdeal.S16384 (ix d) Cert.GatherReferenceIdeal.Gen.shapeCasts_S32x4x128_S16384 (Idealize.ShloMosaic.ValueIdx.ix1 R)
      = BitVec.ofNat 32 (rowNo ix d (wordOf R)).val := by
    intro R
    refine (list_at (ix d) R).trans ?_
    apply BitVec.eq_of_toNat_eq
    have := hix (wordOf R)
    simp only [rowNo, BitVec.toNat_ofNat]
    rw [Nat.mod_eq_of_lt this, Nat.mod_eq_of_lt (by omega)]
  funext y
  obtain ⟨R, n, rfl⟩ : ∃ (R : Fin 16384) (n : Fin 128), y = Idealize.ShloMosaic.ValueIdx.ix2 R n := ⟨y 0, y 1, by funext a; match a with | 0 => rfl | 1 => rfl⟩
  exact (CallRef.rTake_row (F := F) (tb d) _ (fun R => ⟨_, hw R⟩) R _ (hw R) n).symm

/-! ## The claims -/

section Claims
variable [hP : Cert.Pre_in_range.Facts]

/-- The call's run, for any arithmetic: its arguments kept, its result the gathered rows. -/
theorem run_call [∀ e, Nonempty (Elt F e)] (m : (ℓ : Loc nD τ sig) → Buf (Elt F) ℓ) (ρ : Dev nD → PrngReg)
    (h : ∀ c : Dev nD, Cert.Pre_in_range.fn (F := F) (tbM m c) (ixM m c) = fun _ => 1#1) :
    θ_run (Cert.GatherIdeal.defs (F := F)) (Cert.GatherIdeal.threads (F := F)) ⟨m, fun _ => 0, ρ⟩
      (fun r => (∀ d : Dev nD, r.2.mem (ixLoc d) = ixM m d ∧ r.2.mem (tbLoc d) = tbM m d ∧ r.2.mem (goLoc d) = gathered (tbM m) (ixM m) d) ∧ r.2.sem = fun _ => 0) :=
  run_main m ρ fun d => pre_lt _ _ (h d)

theorem ideal_frame : Cert.quiescent_GatherIdeal (hPre_in_range := hP) := by
  intro m g h
  refine (θ_run _ _ _).mono ?_ (run_call (F := Ideal) m g h)
  rintro r ⟨h, hs⟩
  exact ⟨fun c => ⟨(h c).2.1, (h c).1⟩, hs⟩

theorem words_frame : Cert.quiescent_Gather (hPre_in_range := hP) := by
  intro m g h
  refine (θ_run _ _ _).mono ?_ (run_call (F := Bits) m g h)
  rintro r ⟨h, hs⟩
  exact ⟨fun c => ⟨(h c).2.1, (h c).1⟩, hs⟩

theorem ref_ideal_frame : Cert.quiescent_GatherReferenceIdeal := by
  intro m g _
  refine (θ_run _ _ _).mono ?_ (CallRef.run (F := Ideal) m g)
  rintro r ⟨h, hs⟩
  exact ⟨fun c => ⟨(h c _).trans (CallRef.after_arg0 _), (h c _).trans (CallRef.after_arg1 _)⟩, hs⟩

theorem ref_words_frame : Cert.quiescent_GatherReference := by
  intro m g _
  refine (θ_run _ _ _).mono ?_ (CallRef.run (F := Bits) m g)
  rintro r ⟨h, hs⟩
  exact ⟨fun c => ⟨(h c _).trans (CallRef.after_arg0 _), (h c _).trans (CallRef.after_arg1 _)⟩, hs⟩

theorem ref_value (m : (ℓ : Loc nD τ sig) → Buf (Elt F) ℓ)
    (m' : (ℓ : Loc Cert.GatherReferenceIdeal.nD Cert.GatherReferenceIdeal.τ Cert.GatherReferenceIdeal.sig) → Buf (Elt F) ℓ)
    (h : ∀ c : Dev nD, Cert.Pre_in_range.fn (F := F) (tbM m c) (ixM m c) = fun _ => 1#1) (c : Dev nD)
    (e0 : StableHlo.launchContents m' c (Cert.GatherReferenceIdeal.main_arg0 : DevRef Cert.GatherReferenceIdeal.τ Cert.GatherReferenceIdeal.sig) = tbM m c)
    (e1 : StableHlo.launchContents m' c (Cert.GatherReferenceIdeal.main_arg1 : DevRef Cert.GatherReferenceIdeal.τ Cert.GatherReferenceIdeal.sig) = ixM m c) :
    StableHlo.after CallRef.ops (StableHlo.launchContents m' c) (Cert.GatherReferenceIdeal.main_v1 : DevRef Cert.GatherReferenceIdeal.τ Cert.GatherReferenceIdeal.sig)
      = gathered (tbM m) (ixM m) c := by
  rw [CallRef.after_v1, e0, e1]
  exact (same_rows (tbM m) (ixM m) c (pre_lt _ _ (h c))).symm

theorem ideal_same : Cert.algebraic_GatherIdeal_GatherReferenceIdeal (hPre_in_range := hP) := by
  intro m g m' g' h harg
  refine ⟨gathered (tbM m) (ixM m), ?_, ?_⟩
  · refine (θ_run _ _ _).mono ?_ (run_call (F := Ideal) m g h)
    rintro r ⟨h, -⟩ c
    exact ⟨(h c).2.2, (h c).2.1, (h c).1⟩
  · refine (θ_run _ _ _).mono ?_ (CallRef.run (F := Ideal) m' g')
    rintro r ⟨h', -⟩ c
    obtain ⟨e0, e1⟩ := harg c
    exact ⟨(h' c _).trans (ref_value m m' h c e0 e1), (h' c _).trans (CallRef.after_arg0 _), (h' c _).trans (CallRef.after_arg1 _)⟩

theorem words_same : Cert.bitexact_Gather_GatherReference (hPre_in_range := hP) := by
  intro m g m' g' h harg
  refine ⟨gathered (F := Bits) (tbM m) (ixM m), ?_, ?_⟩
  · refine (θ_run _ _ _).mono ?_ (run_call (F := Bits) m g h)
    rintro r ⟨h, -⟩ c
    exact ⟨(h c).2.2, (h c).2.1, (h c).1⟩
  · refine (θ_run _ _ _).mono ?_ (CallRef.run (F := Bits) m' g')
    rintro r ⟨h', -⟩ c
    obtain ⟨e0, e1⟩ := harg c
    exact ⟨(h' c _).trans (ref_value (F := Bits) m m' h c e0 e1), (h' c _).trans (CallRef.after_arg0 _), (h' c _).trans (CallRef.after_arg1 _)⟩

end Claims

end Cert.Proof.Call

end
-- ==== Proof.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Reference
public import proofs.«01_k».proof.Proof.Gen.ReferenceIdeal
public import proofs.«01_k».proof.Proof.Gen.Network
public import proofs.«01_k».proof.Proof.Gen.Network.Skeleton
public import proofs.«01_k».proof.Proof.Gen.Network.Launch
public import proofs.«01_k».proof.Proof.Gen.Network.Points
public import proofs.«01_k».proof.Proof.Gen.Network.Frame
public import proofs.«01_k».proof.Proof.Gen.NetworkIdeal
public import proofs.«01_k».proof.Proof.Gen.NetworkIdeal.Skeleton
public import proofs.«01_k».proof.Proof.Gen.NetworkIdeal.Launch
public import proofs.«01_k».proof.Proof.Gen.NetworkIdeal.Points
public import proofs.«01_k».proof.Proof.Gen.NetworkIdeal.Frame
public import proofs.«01_k».proof.Proof.Gen.Gather
public import proofs.«01_k».proof.Proof.Gen.Gather.Skeleton
public import proofs.«01_k».proof.Proof.Gen.GatherIdeal
public import proofs.«01_k».proof.Proof.Gen.GatherIdeal.Skeleton
public import proofs.«01_k».proof.Proof.Gen.GatherReference
public import proofs.«01_k».proof.Proof.Gen.GatherReferenceIdeal
public import proofs.«01_k».proof.Proof.Gen.Pre_finite
public import proofs.«01_k».proof.Proof.Gen.Pre_in_range
public import proofs.«01_k».proof.Proof.Frames
public import proofs.«01_k».proof.Proof.CallSame
public import Idealize.ShloMosaic.Adequacy
public import Idealize.ShloMosaic.Init

@[expose] public section

noncomputable section

namespace Cert.Proof

open Idealize.ShloMosaic Idealize.SL.Sem

theorem claim : Cert.Claim :=
  ⟨Cert.KernelIdeal.Gen.facts, Cert.Reference.Gen.facts, Cert.ReferenceIdeal.Gen.facts, Cert.Network.Gen.facts, Cert.NetworkIdeal.Gen.facts,
    Cert.Gather.Gen.facts, Cert.GatherIdeal.Gen.facts, Cert.GatherReference.Gen.facts, Cert.GatherReferenceIdeal.Gen.facts,
    Cert.Pre_finite.Gen.facts, Cert.Pre_in_range.Gen.facts,
    kernel_frame, fun m g _ => kernel_frame m g trivial,
    reference_words_frame, reference_frame, fun m g _ => reference_frame m g trivial,
    fun m ρ _ => Cert.Network.Gen.frame m ρ, fun m ρ _ => Cert.NetworkIdeal.Gen.frame m ρ,
    Call.words_frame (hP := Cert.Pre_in_range.Gen.facts), Call.ideal_frame (hP := Cert.Pre_in_range.Gen.facts),
    Call.ref_words_frame, fun m g _ => Call.ref_words_frame m g trivial, Call.ref_ideal_frame, fun m g _ => Call.ref_ideal_frame m g trivial,
    trivial, same (hP := Cert.Pre_finite.Gen.facts), trivial, trivial,
    Call.words_same (hP := Cert.Pre_in_range.Gen.facts), Call.ideal_same (hP := Cert.Pre_in_range.Gen.facts)⟩

end Cert.Proof

end
